-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v53_0)) (v1 : (c : Dev Cert.Kernel2Ideal.nD) → Buf (Elt Ideal) ((c.tc : Thread Cert.Kernel2Ideal.nD Cert.Kernel2Ideal.τ).loc Cert.Kernel2Ideal.main_v53_1)) (v2 : (c : Dev Cert.Kernel2Ideal.nD) → Buf (Elt Ideal) ((c.tc : Thread Cert.Kernel2Ideal.nD Cert.Kernel2Ideal.τ).loc Cert.Kernel2Ideal.main_v53_2)) (v3 : (c : Dev Cert.Kernel2Ideal.nD) → Buf (Elt Ideal) ((c.tc : Thread Cert.Kernel2Ideal.nD Cert.Kernel2Ideal.τ).loc Cert.Kernel2Ideal.main_v53_3)) (v4 : (c : Dev Cert.Kernel2Ideal.nD) → Buf (Elt Ideal) ((c.tc : Thread Cert.Kernel2Ideal.nD Cert.Kernel2Ideal.τ).loc Cert.Kernel2Ideal.main_v53_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v53_0) = v0 c
          ∧ r.2.mem ((c.tc : Thread Cert.Kernel2Ideal.nD Cert.Kernel2Ideal.τ).loc Cert.Kernel2Ideal.main_v53_1) = v1 c
          ∧ r.2.mem ((c.tc : Thread Cert.Kernel2Ideal.nD Cert.Kernel2Ideal.τ).loc Cert.Kernel2Ideal.main_v53_2) = v2 c
          ∧ r.2.mem ((c.tc : Thread Cert.Kernel2Ideal.nD Cert.Kernel2Ideal.τ).loc Cert.Kernel2Ideal.main_v53_3) = v3 c
          ∧ r.2.mem ((c.tc : Thread Cert.Kernel2Ideal.nD Cert.Kernel2Ideal.τ).loc Cert.Kernel2Ideal.main_v53_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v139) = v0 c
          ∧ r.2.mem ((c.tc : Thread Cert.Reference2Ideal.nD Cert.Reference2Ideal.τ).loc Cert.Reference2Ideal.main_v140) = v1 c
          ∧ r.2.mem ((c.tc : Thread Cert.Reference2Ideal.nD Cert.Reference2Ideal.τ).loc Cert.Reference2Ideal.main_v141) = v2 c
          ∧ r.2.mem ((c.tc : Thread Cert.Reference2Ideal.nD Cert.Reference2Ideal.τ).loc Cert.Reference2Ideal.main_v145) = v3 c
          ∧ r.2.mem ((c.tc : Thread Cert.Reference2Ideal.nD Cert.Reference2Ideal.τ).loc Cert.Reference2Ideal.main_v146) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v48_0)) (v1 : (c : Dev Cert.Kernel3Ideal.nD) → Buf (Elt Ideal) ((c.tc : Thread Cert.Kernel3Ideal.nD Cert.Kernel3Ideal.τ).loc Cert.Kernel3Ideal.main_v48_1)) (v2 : (c : Dev Cert.Kernel3Ideal.nD) → Buf (Elt Ideal) ((c.tc : Thread Cert.Kernel3Ideal.nD Cert.Kernel3Ideal.τ).loc Cert.Kernel3Ideal.main_v48_2)) (v3 : (c : Dev Cert.Kernel3Ideal.nD) → Buf (Elt Ideal) ((c.tc : Thread Cert.Kernel3Ideal.nD Cert.Kernel3Ideal.τ).loc Cert.Kernel3Ideal.main_v48_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v48_0) = v0 c
          ∧ r.2.mem ((c.tc : Thread Cert.Kernel3Ideal.nD Cert.Kernel3Ideal.τ).loc Cert.Kernel3Ideal.main_v48_1) = v1 c
          ∧ r.2.mem ((c.tc : Thread Cert.Kernel3Ideal.nD Cert.Kernel3Ideal.τ).loc Cert.Kernel3Ideal.main_v48_2) = v2 c
          ∧ r.2.mem ((c.tc : Thread Cert.Kernel3Ideal.nD Cert.Kernel3Ideal.τ).loc Cert.Kernel3Ideal.main_v48_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v120) = v0 c
          ∧ r.2.mem ((c.tc : Thread Cert.Reference3Ideal.nD Cert.Reference3Ideal.τ).loc Cert.Reference3Ideal.main_v121) = v1 c
          ∧ r.2.mem ((c.tc : Thread Cert.Reference3Ideal.nD Cert.Reference3Ideal.τ).loc Cert.Reference3Ideal.main_v122) = v2 c
          ∧ r.2.mem ((c.tc : Thread Cert.Reference3Ideal.nD Cert.Reference3Ideal.τ).loc Cert.Reference3Ideal.main_v123) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v48_3)) (v1 : (c : Dev Cert.Kernel4Ideal.nD) → Buf (Elt Ideal) ((c.tc : Thread Cert.Kernel4Ideal.nD Cert.Kernel4Ideal.τ).loc Cert.Kernel4Ideal.main_v48_4)) (v2 : (c : Dev Cert.Kernel4Ideal.nD) → Buf (Elt Ideal) ((c.tc : Thread Cert.Kernel4Ideal.nD Cert.Kernel4Ideal.τ).loc Cert.Kernel4Ideal.main_v48_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v48_3) = v0 c
          ∧ r.2.mem ((c.tc : Thread Cert.Kernel4Ideal.nD Cert.Kernel4Ideal.τ).loc Cert.Kernel4Ideal.main_v48_4) = v1 c
          ∧ r.2.mem ((c.tc : Thread Cert.Kernel4Ideal.nD Cert.Kernel4Ideal.τ).loc Cert.Kernel4Ideal.main_v48_5) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v120) = v0 c
          ∧ r.2.mem ((c.tc : Thread Cert.Reference4Ideal.nD Cert.Reference4Ideal.τ).loc Cert.Reference4Ideal.main_v121) = v1 c
          ∧ r.2.mem ((c.tc : Thread Cert.Reference4Ideal.nD Cert.Reference4Ideal.τ).loc Cert.Reference4Ideal.main_v122) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v31_0)) (v1 : (c : Dev Cert.Kernel6Ideal.nD) → Buf (Elt Ideal) ((c.tc : Thread Cert.Kernel6Ideal.nD Cert.Kernel6Ideal.τ).loc Cert.Kernel6Ideal.main_v31_1)) (v2 : (c : Dev Cert.Kernel6Ideal.nD) → Buf (Elt Ideal) ((c.tc : Thread Cert.Kernel6Ideal.nD Cert.Kernel6Ideal.τ).loc Cert.Kernel6Ideal.main_v31_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v31_0) = v0 c
          ∧ r.2.mem ((c.tc : Thread Cert.Kernel6Ideal.nD Cert.Kernel6Ideal.τ).loc Cert.Kernel6Ideal.main_v31_1) = v1 c
          ∧ r.2.mem ((c.tc : Thread Cert.Kernel6Ideal.nD Cert.Kernel6Ideal.τ).loc Cert.Kernel6Ideal.main_v31_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v44) = v0 c
          ∧ r.2.mem ((c.tc : Thread Cert.Reference6Ideal.nD Cert.Reference6Ideal.τ).loc Cert.Reference6Ideal.main_v47) = v1 c
          ∧ r.2.mem ((c.tc : Thread Cert.Reference6Ideal.nD Cert.Reference6Ideal.τ).loc Cert.Reference6Ideal.main_v50) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_scores.lean ====
abbrev S1x16384x1024 : Shape := ⟨3, ![1, 16384, 1024]⟩
abbrev S1x16384x16x64 : Shape := ⟨4, ![1, 16384, 16, 64]⟩
abbrev S1x16384x2x64 : Shape := ⟨4, ![1, 16384, 2, 64]⟩
abbrev S1x16 : Shape := ⟨2, ![1, 16]⟩
abbrev S1x1024x1024 : Shape := ⟨3, ![1, 1024, 1024]⟩
abbrev S1x16384x2x8x64 : Shape := ⟨5, ![1, 16384, 2, 8, 64]⟩
abbrev S_ : Shape := ⟨0, ![]⟩
abbrev S1x16384x2x1x64 : Shape := ⟨5, ![1, 16384, 2, 1, 64]⟩
abbrev S2x8 : Shape := ⟨2, ![2, 8]⟩
abbrev S1x1x2x8x1 : Shape := ⟨5, ![1, 1, 2, 8, 1]⟩

class Facts : Prop where
  shapeCasts_S1x16384x16x64_S1x16384x2x8x64 : S1x16384x16x64.ShapeCasts S1x16384x2x8x64
  bcast_S_S1x16384x2x8x64 : S_.BroadcastsInDim S1x16384x2x8x64 (![] : Fin 0 → Fin S1x16384x2x8x64.rank)
  bcast_S_S1x16384x2x64 : S_.BroadcastsInDim S1x16384x2x64 (![] : Fin 0 → Fin S1x16384x2x64.rank)
  bcast_S1x16384x2x64_S1x16384x2x1x64_0_1_2_4 : S1x16384x2x64.BroadcastsInDim S1x16384x2x1x64 (![0, 1, 2, 4] : Fin 4 → Fin S1x16384x2x1x64.rank)
  shapeCasts_S1x16_S2x8 : S1x16.ShapeCasts S2x8
  bcast_S_S2x8 : S_.BroadcastsInDim S2x8 (![] : Fin 0 → Fin S2x8.rank)
  bcast_S2x8_S1x1x2x8x1_2_3 : S2x8.BroadcastsInDim S1x1x2x8x1 (![2, 3] : Fin 2 → Fin S1x1x2x8x1.rank)
  bcast_S1x16384x2x1x64_S1x16384x2x8x64_0_1_2_3_4 : S1x16384x2x1x64.BroadcastsInDim S1x16384x2x8x64 (![0, 1, 2, 3, 4] : Fin 5 → Fin S1x16384x2x8x64.rank)
  bcast_S1x1x2x8x1_S1x16384x2x8x64_0_1_2_3_4 : S1x1x2x8x1.BroadcastsInDim S1x16384x2x8x64 (![0, 1, 2, 3, 4] : Fin 5 → Fin S1x16384x2x8x64.rank)

variable [Facts]

def fn {F : FTy → Type} [FloatOps F] (main_arg0 : FVec F S1x16384x1024 .f32) (main_arg1 : FVec F S1x16384x16x64 .f32) (main_arg2 : FVec F S1x16384x2x64 .f32) (main_arg3 : FVec F S1x16384x2x64 .f32) (main_arg4 : FVec F S1x16384x1024 .f32) (main_arg5 : FVec F S1x16 .f32) (main_arg6 : FVec F S1x1024x1024 .f32) : IVec S1x16384x2x8x64 1 :=
  let main_v0 : FVec F S1x16384x2x8x64 .f32 := shapeCast S1x16384x2x8x64 main_arg1 shapeCasts_S1x16384x16x64_S1x16384x2x8x64
  let main_v1 : FVec F S1x16384x2x8x64 .f32 := Host.absf main_v0
  let main_cst : FVec F S_ .f32 := constant S_ .f32 0x7F800000#32
  let main_v2 : FVec F S1x16384x2x8x64 .f32 := broadcastInDim S1x16384x2x8x64 ![] bcast_S_S1x16384x2x8x64 main_cst
  let main_v3 : IVec S1x16384x2x8x64 1 := cmpf .olt main_v1 main_v2
  let main_v4 : FVec F S1x16384x2x64 .f32 := Host.absf main_arg2
  let main_cst_0 : FVec F S_ .f32 := constant S_ .f32 0x7F800000#32
  let main_v5 : FVec F S1x16384x2x64 .f32 := broadcastInDim S1x16384x2x64 ![] bcast_S_S1x16384x2x64 main_cst_0
  let main_v6 : IVec S1x16384x2x64 1 := cmpf .olt main_v4 main_v5
  let main_v7 : IVec S1x16384x2x1x64 1 := broadcastInDim S1x16384x2x1x64 ![0, 1, 2, 4] bcast_S1x16384x2x64_S1x16384x2x1x64_0_1_2_4 main_v6
  let main_v8 : FVec F S2x8 .f32 := shapeCast S2x8 main_arg5 shapeCasts_S1x16_S2x8
  let main_v9 : FVec F S2x8 .f32 := Host.absf main_v8
  let main_cst_1 : FVec F S_ .f32 := constant S_ .f32 0x7F800000#32
  let main_v10 : FVec F S2x8 .f32 := broadcastInDim S2x8 ![] bcast_S_S2x8 main_cst_1
  let main_v11 : IVec S2x8 1 := cmpf .olt main_v9 main_v10
  let main_v12 : IVec S1x1x2x8x1 1 := broadcastInDim S1x1x2x8x1 ![2, 3] bcast_S2x8_S1x1x2x8x1_2_3 main_v11
  let main_v13 : IVec S1x16384x2x8x64 1 := broadcastInDim S1x16384x2x8x64 ![0, 1, 2, 3, 4] bcast_S1x16384x2x1x64_S1x16384x2x8x64_0_1_2_3_4 main_v7
  let main_v14 : IVec S1x16384x2x8x64 1 := andi main_v3 main_v13
  let main_v15 : IVec S1x16384x2x8x64 1 := broadcastInDim S1x16384x2x8x64 ![0, 1, 2, 3, 4] bcast_S1x1x2x8x1_S1x16384x2x8x64_0_1_2_3_4 main_v12
  let main_v16 : IVec S1x16384x2x8x64 1 := andi main_v14 main_v15
  main_v16
-- ==== Kernel.lean ====
abbrev S1x16384x1024 : Shape := ⟨3, ![1, 16384, 1024]⟩
abbrev S1x16384x16x64 : Shape := ⟨4, ![1, 16384, 16, 64]⟩
abbrev S1x16384x2x64 : Shape := ⟨4, ![1, 16384, 2, 64]⟩
abbrev S1x16 : Shape := ⟨2, ![1, 16]⟩
abbrev S1x1024x1024 : Shape := ⟨3, ![1, 1024, 1024]⟩
abbrev S16384x1024 : Shape := ⟨2, ![16384, 1024]⟩
abbrev S_ : Shape := ⟨0, ![]⟩
abbrev S16384x128 : Shape := ⟨2, ![16384, 128]⟩
abbrev S16 : Shape := ⟨1, ![16]⟩
abbrev S1024x1024 : Shape := ⟨2, ![1024, 1024]⟩
abbrev S512x1024 : Shape := ⟨2, ![512, 1024]⟩
abbrev S512x128 : Shape := ⟨2, ![512, 128]⟩
abbrev S128x128 : Shape := ⟨2, ![128, 128]⟩
abbrev S640x128 : Shape := ⟨2, ![640, 128]⟩
abbrev S256x1024 : Shape := ⟨2, ![256, 1024]⟩
abbrev S256x128 : Shape := ⟨2, ![256, 128]⟩
abbrev S128x256 : Shape := ⟨2, ![128, 256]⟩
abbrev S1 : Shape := ⟨1, ![1]⟩
abbrev S1x128 : Shape := ⟨2, ![1, 128]⟩
abbrev S1024x128 : Shape := ⟨2, ![1024, 128]⟩
abbrev S1x1024 : Shape := ⟨2, ![1, 1024]⟩
abbrev S1024 : Shape := ⟨1, ![1024]⟩
abbrev S128x1024 : Shape := ⟨2, ![128, 1024]⟩
abbrev S64x1024 : Shape := ⟨2, ![64, 1024]⟩
abbrev S64x128 : Shape := ⟨2, ![64, 128]⟩

abbrev nBuf : Space → Nat
  | .hbm => 20
  | .vmem => 18
  | .smem => 1
  | _ => 0

abbrev bufTy : (tb : Table) → Fin (tcTables nBuf tb) → BufTy
  | .hbm, ⟨0, _⟩ => ⟨S1x16384x1024, .f32⟩
  | .hbm, ⟨1, _⟩ => ⟨S1x16384x16x64, .f32⟩
  | .hbm, ⟨2, _⟩ => ⟨S1x16384x2x64, .f32⟩
  | .hbm, ⟨3, _⟩ => ⟨S1x16384x2x64, .f32⟩
  | .hbm, ⟨4, _⟩ => ⟨S1x16384x1024, .f32⟩
  | .hbm, ⟨5, _⟩ => ⟨S1x16, .f32⟩
  | .hbm, ⟨6, _⟩ => ⟨S1x1024x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x1024, .bf16⟩
  | .hbm, ⟨12, _⟩ => ⟨S16384x128, .f32⟩
  | .hbm, ⟨13, _⟩ => ⟨S16384x128, .f32⟩
  | .hbm, ⟨14, _⟩ => ⟨S16, .f32⟩
  | .hbm, ⟨15, _⟩ => ⟨S16384x1024, .f32⟩
  | .hbm, ⟨16, _⟩ => ⟨S16384x1024, .f32⟩
  | .hbm, ⟨17, _⟩ => ⟨S1024x1024, .f32⟩
  | .hbm, ⟨18, _⟩ => ⟨S1024x1024, .bf16⟩
  | .hbm, ⟨19, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S128x128, .f32⟩
  | .local _ .vmem, ⟨5, _⟩ => ⟨S128x128, .f32⟩
  | .local _ .vmem, ⟨6, _⟩ => ⟨S512x128, .f32⟩
  | .local _ .vmem, ⟨7, _⟩ => ⟨S512x128, .f32⟩
  | .local _ .vmem, ⟨8, _⟩ => ⟨S128x128, .f32⟩
  | .local _ .vmem, ⟨9, _⟩ => ⟨S128x128, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .smem, ⟨0, _⟩ => ⟨S16, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S1x16384x1024 : Shape := ⟨3, ![1, 16384, 1024]⟩
abbrev S1x16384x16x64 : Shape := ⟨4, ![1, 16384, 16, 64]⟩
abbrev S1x16384x2x64 : Shape := ⟨4, ![1, 16384, 2, 64]⟩
abbrev S1x16 : Shape := ⟨2, ![1, 16]⟩
abbrev S1x1024x1024 : Shape := ⟨3, ![1, 1024, 1024]⟩
abbrev S1x128x128x2x8x64 : Shape := ⟨6, ![1, 128, 128, 2, 8, 64]⟩
abbrev S1x128x128x2x64 : Shape := ⟨5, ![1, 128, 128, 2, 64]⟩
abbrev S_ : Shape := ⟨0, ![]⟩
abbrev S1x129x128x2x64 : Shape := ⟨5, ![1, 129, 128, 2, 64]⟩
abbrev S1x128x256x2x64 : Shape := ⟨5, ![1, 128, 256, 2, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x128x256 : Shape := ⟨3, ![1, 128, 256]⟩
abbrev S1x1x256 : Shape := ⟨3, ![1, 1, 256]⟩
abbrev S128x1x256 : Shape := ⟨3, ![128, 1, 256]⟩
abbrev S128x128x256 : Shape := ⟨3, ![128, 128, 256]⟩
abbrev S1x128x2x256x128x8 : Shape := ⟨6, ![1, 128, 2, 256, 128, 8]⟩
abbrev S1x128x2x8x128x256 : Shape := ⟨6, ![1, 128, 2, 8, 128, 256]⟩
abbrev S1x128x1x1x128x256 : Shape := ⟨6, ![1, 128, 1, 1, 128, 256]⟩
abbrev S16 : Shape := ⟨1, ![16]⟩
abbrev S2x8x1x1 : Shape := ⟨4, ![2, 8, 1, 1]⟩
abbrev S1x128x2x8x128 : Shape := ⟨5, ![1, 128, 2, 8, 128]⟩
abbrev S1x128x2x8x128x1 : Shape := ⟨6, ![1, 128, 2, 8, 128, 1]⟩
abbrev S1x1x2x8x1x1 : Shape := ⟨6, ![1, 1, 2, 8, 1, 1]⟩
abbrev S1x128x2x64x8x128 : Shape := ⟨6, ![1, 128, 2, 64, 8, 128]⟩
abbrev S16384x1024 : Shape := ⟨2, ![16384, 1024]⟩
abbrev S1024x1024 : Shape := ⟨2, ![1024, 1024]⟩

abbrev nBuf : Space → Nat
  | .hbm => 100
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x16x64, .f32⟩
  | .hbm, ⟨2, _⟩ => ⟨S1x16384x2x64, .f32⟩
  | .hbm, ⟨3, _⟩ => ⟨S1x16384x2x64, .f32⟩
  | .hbm, ⟨4, _⟩ => ⟨S1x16384x1024, .f32⟩
  | .hbm, ⟨5, _⟩ => ⟨S1x16, .f32⟩
  | .hbm, ⟨6, _⟩ => ⟨S1x1024x1024, .f32⟩
  | .hbm, ⟨7, _⟩ => ⟨S1x128x128x2x8x64, .f32⟩
  | .hbm, ⟨8, _⟩ => ⟨S1x128x128x2x64, .f32⟩
  | .hbm, ⟨9, _⟩ => ⟨S1x128x128x2x64, .f32⟩
  | .hbm, ⟨10, _⟩ => ⟨S_, .i32⟩
  | .hbm, ⟨11, _⟩ => ⟨S_, .f32⟩
  | .hbm, ⟨12, _⟩ => ⟨S1x129x128x2x64, .f32⟩
  | .hbm, ⟨13, _⟩ => ⟨S1x128x128x2x64, .f32⟩
  | .hbm, ⟨14, _⟩ => ⟨S1x128x256x2x64, .f32⟩
  | .hbm, ⟨15, _⟩ => ⟨S_, .i32⟩
  | .hbm, ⟨16, _⟩ => ⟨S_, .f32⟩
  | .hbm, ⟨17, _⟩ => ⟨S1x129x128x2x64, .f32⟩
  | .hbm, ⟨18, _⟩ => ⟨S1x128x128x2x64, .f32⟩
  | .hbm, ⟨19, _⟩ => ⟨S1x128x256x2x64, .f32⟩
  | .hbm, ⟨20, _⟩ => ⟨S128, .i32⟩
  | .hbm, ⟨21, _⟩ => ⟨S128x1, .i32⟩
  | .hbm, ⟨22, _⟩ => ⟨S256, .i32⟩
  | .hbm, ⟨23, _⟩ => ⟨S1x256, .i32⟩
  | .hbm, ⟨24, _⟩ => ⟨S128x256, .i32⟩
  | .hbm, ⟨25, _⟩ => ⟨S128x256, .i32⟩
  | .hbm, ⟨26, _⟩ => ⟨S128x256, .i1⟩
  | .hbm, ⟨27, _⟩ => ⟨S_, .i32⟩
  | .hbm, ⟨28, _⟩ => ⟨S128x1, .i32⟩
  | .hbm, ⟨29, _⟩ => ⟨S128x1, .i32⟩
  | .hbm, ⟨30, _⟩ => ⟨S128x256, .i32⟩
  | .hbm, ⟨31, _⟩ => ⟨S128x256, .i32⟩
  | .hbm, ⟨32, _⟩ => ⟨S128x256, .i1⟩
  | .hbm, ⟨33, _⟩ => ⟨S128x256, .i1⟩
  | .hbm, ⟨34, _⟩ => ⟨S128, .i32⟩
  | .hbm, ⟨35, _⟩ => ⟨S128x1x1, .i32⟩
  | .hbm, ⟨36, _⟩ => ⟨S_, .i32⟩
  | .hbm, ⟨37, _⟩ => ⟨S128x1x1, .i32⟩
  | .hbm, ⟨38, _⟩ => ⟨S128x1x1, .i1⟩
  | .hbm, ⟨39, _⟩ => ⟨S1x128x256, .i1⟩
  | .hbm, ⟨40, _⟩ => ⟨S_, .i32⟩
  | .hbm, ⟨41, _⟩ => ⟨S1x256, .i32⟩
  | .hbm, ⟨42, _⟩ => ⟨S1x256, .i1⟩
  | .hbm, ⟨43, _⟩ => ⟨S1x1x256, .i1⟩
  | .hbm, ⟨44, _⟩ => ⟨S128x1x256, .i1⟩
  | .hbm, ⟨45, _⟩ => ⟨S128x1x256, .i1⟩
  | .hbm, ⟨46, _⟩ => ⟨S128x1x256, .i1⟩
  | .hbm, ⟨47, _⟩ => ⟨S128x128x256, .i1⟩
  | .hbm, ⟨48, _⟩ => ⟨S128x128x256, .i1⟩
  | .hbm, ⟨49, _⟩ => ⟨S128x128x256, .i1⟩
  | .hbm, ⟨50, _⟩ => ⟨S1x128x2x256x128x8, .f32⟩
  | .hbm, ⟨51, _⟩ => ⟨S1x128x2x8x128x256, .f32⟩
  | .hbm, ⟨52, _⟩ => ⟨S_, .f32⟩
  | .hbm, ⟨53, _⟩ => ⟨S1x128x2x8x128x256, .f32⟩
  | .hbm, ⟨54, _⟩ => ⟨S1x128x2x8x128x256, .f32⟩
  | .hbm, ⟨55, _⟩ => ⟨S1x128x1x1x128x256, .i1⟩
  | .hbm, ⟨56, _⟩ => ⟨S_, .f32⟩
  | .hbm, ⟨57, _⟩ => ⟨S_, .f32⟩
  | .hbm, ⟨58, _⟩ => ⟨S1x128x2x8x128x256, .i1⟩
  | .hbm, ⟨59, _⟩ => ⟨S1x128x2x8x128x256, .f32⟩
  | .hbm, ⟨60, _⟩ => ⟨S1x128x2x8x128x256, .f32⟩
  | .hbm, ⟨61, _⟩ => ⟨S16, .f32⟩
  | .hbm, ⟨62, _⟩ => ⟨S2x8x1x1, .f32⟩
  | .hbm, ⟨63, _⟩ => ⟨S_, .f32⟩
  | .hbm, ⟨64, _⟩ => ⟨S1x128x2x8x128, .f32⟩
  | .hbm, ⟨65, _⟩ => ⟨S1x128x2x8x128x1, .f32⟩
  | .hbm, ⟨66, _⟩ => ⟨S1x1x2x8x1x1, .f32⟩
  | .hbm, ⟨67, _⟩ => ⟨S1x128x2x8x128x1, .f32⟩
  | .hbm, ⟨68, _⟩ => ⟨S1x128x2x8x128x1, .f32⟩
  | .hbm, ⟨69, _⟩ => ⟨S1x128x2x8x128x256, .f32⟩
  | .hbm, ⟨70, _⟩ => ⟨S1x128x2x8x128x256, .f32⟩
  | .hbm, ⟨71, _⟩ => ⟨S1x128x2x8x128x256, .f32⟩
  | .hbm, ⟨72, _⟩ => ⟨S_, .f32⟩
  | .hbm, ⟨73, _⟩ => ⟨S1x128x2x8x128, .f32⟩
  | .hbm, ⟨74, _⟩ => ⟨S1x128x2x8x128x1, .f32⟩
  | .hbm, ⟨75, _⟩ => ⟨S1x1x2x8x1x1, .f32⟩
  | .hbm, ⟨76, _⟩ => ⟨S1x128x2x8x128x1, .f32⟩
  | .hbm, ⟨77, _⟩ => ⟨S1x128x2x8x128x1, .f32⟩
  | .hbm, ⟨78, _⟩ => ⟨S1x128x2x8x128x1, .f32⟩
  | .hbm, ⟨79, _⟩ => ⟨S1x128x2x8x128x1, .f32⟩
  | .hbm, ⟨80, _⟩ => ⟨S1x128x2x8x128x256, .f32⟩
  | .hbm, ⟨81, _⟩ => ⟨S1x128x2x8x128x256, .f32⟩
  | .hbm, ⟨82, _⟩ => ⟨S1x128x2x64x8x128, .f32⟩
  | .hbm, ⟨83, _⟩ => ⟨S1x128x128x2x8x64, .f32⟩
  | .hbm, ⟨84, _⟩ => ⟨S1x16384x1024, .f32⟩
  | .hbm, ⟨85, _⟩ => ⟨S16384x1024, .f32⟩
  | .hbm, ⟨86, _⟩ => ⟨S1x16384x1024, .f32⟩
  | .hbm, ⟨87, _⟩ => ⟨S1x16384x1024, .f32⟩
  | .hbm, ⟨88, _⟩ => ⟨S_, .f32⟩
  | .hbm, ⟨89, _⟩ => ⟨S1x16384x1024, .f32⟩
  | .hbm, ⟨90, _⟩ => ⟨S1x16384x1024, .f32⟩
  | .hbm, ⟨91, _⟩ => ⟨S_, .f32⟩
  | .hbm, ⟨92, _⟩ => ⟨S1x16384x1024, .f32⟩
  | .hbm, ⟨93, _⟩ => ⟨S1x16384x1024, .f32⟩
  | .hbm, ⟨94, _⟩ => ⟨S1x16384x1024, .f32⟩
  | .hbm, ⟨95, _⟩ => ⟨S1x16384x1024, .f32⟩
  | .hbm, ⟨96, _⟩ => ⟨S1024x1024, .f32⟩
  | .hbm, ⟨97, _⟩ => ⟨S1x16384x1024, .f32⟩
  | .hbm, ⟨98, _⟩ => ⟨S16384x1024, .f32⟩
  | .hbm, ⟨99, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_6 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_call3_v0 : Ref sig .tc := ⟨.hbm, 86, rfl⟩
abbrev main_call3_v1 : Ref sig .tc := ⟨.hbm, 87, rfl⟩
abbrev main_call3_cst : Ref sig .tc := ⟨.hbm, 88, rfl⟩
abbrev main_call3_v2 : Ref sig .tc := ⟨.hbm, 89, rfl⟩
abbrev main_call3_v3 : Ref sig .tc := ⟨.hbm, 90, rfl⟩
abbrev main_call3_cst_0 : Ref sig .tc := ⟨.hbm, 91, rfl⟩
abbrev main_call3_v4 : Ref sig .tc := ⟨.hbm, 92, rfl⟩
abbrev main_call3_v5 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩

abbrev nD : Nat := 1
abbrev τ : Topo := Topo.v7x

variable {F : FTy → Type} [FloatOps F]
-- ==== Kernel2.lean ====
abbrev S1x16384x1024 : Shape := ⟨3, ![1, 16384, 1024]⟩
abbrev S1x16384x16x64 : Shape := ⟨4, ![1, 16384, 16, 64]⟩
abbrev S1x1024x1024 : Shape := ⟨3, ![1, 1024, 1024]⟩
abbrev S1024 : Shape := ⟨1, ![1024]⟩
abbrev S1024x256 : Shape := ⟨2, ![1024, 256]⟩
abbrev S64 : Shape := ⟨1, ![64]⟩
abbrev S1x1024 : Shape := ⟨2, ![1, 1024]⟩
abbrev S1x1024x2048 : Shape := ⟨3, ![1, 1024, 2048]⟩
abbrev S1x64 : Shape := ⟨2, ![1, 64]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S1x16384x1x32 : Shape := ⟨4, ![1, 16384, 1, 32]⟩
abbrev S1x16384x4x32 : Shape := ⟨4, ![1, 16384, 4, 32]⟩
abbrev S16384x128 : Shape := ⟨2, ![16384, 128]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S2x64 : Shape := ⟨2, ![2, 64]⟩
abbrev S16384x1024 : Shape := ⟨2, ![16384, 1024]⟩
abbrev S1024x1024 : Shape := ⟨2, ![1024, 1024]⟩
abbrev S1024x2048 : Shape := ⟨2, ![1024, 2048]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S512x2048 : Shape := ⟨2, ![512, 2048]⟩

abbrev nBuf : Space → Nat
  | .hbm => 105
  | .vmem => 28
  | .smem => 0
  | _ => 0

abbrev bufTy : (tb : Table) → Fin (tcTables nBuf tb) → BufTy
  | .hbm, ⟨0, _⟩ => ⟨S1x16384x1024, .f32⟩
  | .hbm, ⟨1, _⟩ => ⟨S1x16384x16x64, .f32⟩
  | .hbm, ⟨2, _⟩ => ⟨S1x16384x1024, .f32⟩
  | .hbm, ⟨3, _⟩ => ⟨S1x1024x1024, .f32⟩
  | .hbm, ⟨4, _⟩ => ⟨S1024, .f32⟩
  | .hbm, ⟨5, _⟩ => ⟨S1024x256, .f32⟩
  | .hbm, ⟨6, _⟩ => ⟨S64, .f32⟩
  | .hbm, ⟨7, _⟩ => ⟨S1x1024, .f32⟩
  | .hbm, ⟨8, _⟩ => ⟨S1x1024x2048, .f32⟩
  | .hbm, ⟨9, _⟩ => ⟨S1x64, .f32⟩
  | .hbm, ⟨10, _⟩ => ⟨S16384, .i32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S16384, .f32⟩
  | .hbm, ⟨22, _⟩ => ⟨S16384x1, .f32⟩
  | .hbm, ⟨23, _⟩ => ⟨S1x32, .f32⟩
  | .hbm, ⟨24, _⟩ => ⟨S16384x32, .f32⟩
  | .hbm, ⟨25, _⟩ => ⟨S16384x32, .f32⟩
  | .hbm, ⟨26, _⟩ => ⟨S16384x32, .f32⟩
  | .hbm, ⟨27, _⟩ => ⟨S16384x32, .f32⟩
  | .hbm, ⟨28, _⟩ => ⟨S16384x32, .f32⟩
  | .hbm, ⟨29, _⟩ => ⟨S1x16384x1x32, .f32⟩
  | .hbm, ⟨30, _⟩ => ⟨S1x16384x4x32, .f32⟩
  | .hbm, ⟨31, _⟩ => ⟨S16384x128, .f32⟩
  | .hbm, ⟨32, _⟩ => ⟨S16384x32, .f32⟩
  | .hbm, ⟨33, _⟩ => ⟨S16384x64, .f32⟩
  | .hbm, ⟨34, _⟩ => ⟨S1x16384x1x64, .f32⟩
  | .hbm, ⟨35, _⟩ => ⟨S1x16384x2x64, .f32⟩
  | .hbm, ⟨36, _⟩ => ⟨S16384x128, .f32⟩
  | .hbm, ⟨37, _⟩ => ⟨S128, .i32⟩
  | .hbm, ⟨38, _⟩ => ⟨S128x1, .i32⟩
  | .hbm, ⟨39, _⟩ => ⟨S_, .i32⟩
  | .hbm, ⟨40, _⟩ => ⟨S_, .i32⟩
  | .hbm, ⟨41, _⟩ => ⟨S128x1, .i32⟩
  | .hbm, ⟨42, _⟩ => ⟨S128x1, .i32⟩
  | .hbm, ⟨43, _⟩ => ⟨S128x1, .i32⟩
  | .hbm, ⟨44, _⟩ => ⟨S_, .i32⟩
  | .hbm, ⟨45, _⟩ => ⟨S128x1, .i32⟩
  | .hbm, ⟨46, _⟩ => ⟨S128x1, .i1⟩
  | .hbm, ⟨47, _⟩ => ⟨S128x1, .i32⟩
  | .hbm, ⟨48, _⟩ => ⟨S128x1, .i32⟩
  | .hbm, ⟨49, _⟩ => ⟨S_, .i32⟩
  | .hbm, ⟨50, _⟩ => ⟨S128x1, .i32⟩
  | .hbm, ⟨51, _⟩ => ⟨S128x1, .i1⟩
  | .hbm, ⟨52, _⟩ => ⟨S128x1, .i1⟩
  | .hbm, ⟨53, _⟩ => ⟨S_, .i32⟩
  | .hbm, ⟨54, _⟩ => ⟨S128x1, .i32⟩
  | .hbm, ⟨55, _⟩ => ⟨S128x1, .i32⟩
  | .hbm, ⟨56, _⟩ => ⟨S128x1, .i32⟩
  | .hbm, ⟨57, _⟩ => ⟨S1x128, .i32⟩
  | .hbm, ⟨58, _⟩ => ⟨S_, .i32⟩
  | .hbm, ⟨59, _⟩ => ⟨S_, .i32⟩
  | .hbm, ⟨60, _⟩ => ⟨S1x128, .i32⟩
  | .hbm, ⟨61, _⟩ => ⟨S1x128, .i32⟩
  | .hbm, ⟨62, _⟩ => ⟨S1x128, .i32⟩
  | .hbm, ⟨63, _⟩ => ⟨S_, .i32⟩
  | .hbm, ⟨64, _⟩ => ⟨S1x128, .i32⟩
  | .hbm, ⟨65, _⟩ => ⟨S1x128, .i1⟩
  | .hbm, ⟨66, _⟩ => ⟨S1x128, .i32⟩
  | .hbm, ⟨67, _⟩ => ⟨S1x128, .i32⟩
  | .hbm, ⟨68, _⟩ => ⟨S_, .i32⟩
  | .hbm, ⟨69, _⟩ => ⟨S1x128, .i32⟩
  | .hbm, ⟨70, _⟩ => ⟨S1x128, .i1⟩
  | .hbm, ⟨71, _⟩ => ⟨S1x128, .i1⟩
  | .hbm, ⟨72, _⟩ => ⟨S_, .i32⟩
  | .hbm, ⟨73, _⟩ => ⟨S1x128, .i32⟩
  | .hbm, ⟨74, _⟩ => ⟨S1x128, .i32⟩
  | .hbm, ⟨75, _⟩ => ⟨S1x128, .i32⟩
  | .hbm, ⟨76, _⟩ => ⟨S128x128, .i32⟩
  | .hbm, ⟨77, _⟩ => ⟨S128x128, .i32⟩
  | .hbm, ⟨78, _⟩ => ⟨S128x128, .i1⟩
  | .hbm, ⟨79, _⟩ => ⟨S128x128, .bf16⟩
  | .hbm, ⟨80, _⟩ => ⟨S1x64, .f32⟩
  | .hbm, ⟨81, _⟩ => ⟨S2x64, .f32⟩
  | .hbm, ⟨82, _⟩ => ⟨S128, .f32⟩
  | .hbm, ⟨83, _⟩ => ⟨S1x128, .f32⟩
  | .hbm, ⟨84, _⟩ => ⟨S64, .f32⟩
  | .hbm, ⟨85, _⟩ => ⟨S1x64, .f32⟩
  | .hbm, ⟨86, _⟩ => ⟨S2x64, .f32⟩
  | .hbm, ⟨87, _⟩ => ⟨S128, .f32⟩
  | .hbm, ⟨88, _⟩ => ⟨S1x128, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S1024x1024, .f32⟩
  | .hbm, ⟨93, _⟩ => ⟨S1024x1024, .bf16⟩
  | .hbm, ⟨94, _⟩ => ⟨S1x1024, .f32⟩
  | .hbm, ⟨95, _⟩ => ⟨S1024x256, .bf16⟩
  | .hbm, ⟨96, _⟩ => ⟨S1024, .f32⟩
  | .hbm, ⟨97, _⟩ => ⟨S1x1024, .f32⟩
  | .hbm, ⟨98, _⟩ => ⟨S1024x2048, .f32⟩
  | .hbm, ⟨99, _⟩ => ⟨S1024x2048, .bf16⟩
  | .hbm, ⟨100, _⟩ => ⟨S16384x1024, .f32⟩
  | .hbm, ⟨101, _⟩ => ⟨S16384x128, .f32⟩
  | .hbm, ⟨102, _⟩ => ⟨S16384x128, .f32⟩
  | .hbm, ⟨103, _⟩ => ⟨S16384x1024, .bf16⟩
  | .hbm, ⟨104, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x256, .bf16⟩
  | .local _ .vmem, ⟨9, _⟩ => ⟨S1x128, .f32⟩
  | .local _ .vmem, ⟨10, _⟩ => ⟨S1x1024, .f32⟩
  | .local _ .vmem, ⟨11, _⟩ => ⟨S1024x2048, .bf16⟩
  | .local _ .vmem, ⟨12, _⟩ => ⟨S1x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S128x128, .bf16⟩
  | .local _ .vmem, ⟨18, _⟩ => ⟨S512x1024, .f32⟩
  | .local _ .vmem, ⟨19, _⟩ => ⟨S512x1024, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | .local _ .vmem, ⟨27, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_c : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_0 : Ref sig .tc := ⟨.hbm, 53, rfl⟩
abbrev main_call0_v12 : Ref sig .tc := ⟨.hbm, 54, rfl⟩
abbrev main_call0_v13 : Ref sig .tc := ⟨.hbm, 55, rfl⟩
abbrev main_v26 : Ref sig .tc := ⟨.hbm, 56, rfl⟩
abbrev main_v27 : Ref sig .tc := ⟨.hbm, 57, rfl⟩
abbrev main_c_2 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_c : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_0 : Ref sig .tc := ⟨.hbm, 72, rfl⟩
abbrev main_call1_v12 : Ref sig .tc := ⟨.hbm, 73, rfl⟩
abbrev main_call1_v13 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53_0 : Ref sig .tc := ⟨.hbm, 100, rfl⟩
abbrev main_v53_1 : Ref sig .tc := ⟨.hbm, 101, rfl⟩
abbrev main_v53_2 : Ref sig .tc := ⟨.hbm, 102, rfl⟩
abbrev main_v53_3 : Ref sig .tc := ⟨.hbm, 103, rfl⟩
abbrev main_v53_4 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference2Ideal.lean ====
abbrev S1x16384x1024 : Shape := ⟨3, ![1, 16384, 1024]⟩
abbrev S1x16384x16x64 : Shape := ⟨4, ![1, 16384, 16, 64]⟩
abbrev S1x1024x1024 : Shape := ⟨3, ![1, 1024, 1024]⟩
abbrev S1024 : Shape := ⟨1, ![1024]⟩
abbrev S1024x256 : Shape := ⟨2, ![1024, 256]⟩
abbrev S64 : Shape := ⟨1, ![64]⟩
abbrev S1x1024 : Shape := ⟨2, ![1, 1024]⟩
abbrev S1x1024x2048 : Shape := ⟨3, ![1, 1024, 2048]⟩
abbrev S1x64 : Shape := ⟨2, ![1, 64]⟩
abbrev S16384 : Shape := ⟨1, ![16384]⟩
abbrev S1024x1024 : Shape := ⟨2, ![1024, 1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x256 : Shape := ⟨3, ![1, 16384, 256]⟩
abbrev S1x16384x128 : Shape := ⟨3, ![1, 16384, 128]⟩
abbrev S1x16384x2x64 : Shape := ⟨4, ![1, 16384, 2, 64]⟩
abbrev S1x16384x2 : Shape := ⟨3, ![1, 16384, 2]⟩
abbrev S1x16384x2x1 : Shape := ⟨4, ![1, 16384, 2, 1]⟩
abbrev S1x1x1x64 : Shape := ⟨4, ![1, 1, 1, 64]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x1x32 : Shape := ⟨3, ![16384, 1, 32]⟩
abbrev S1x16384x2x32 : Shape := ⟨4, ![1, 16384, 2, 32]⟩
abbrev S1x16384x1x32 : Shape := ⟨4, ![1, 16384, 1, 32]⟩
abbrev S1024x2048 : Shape := ⟨2, ![1024, 2048]⟩
abbrev S1x16384x2048 : Shape := ⟨3, ![1, 16384, 2048]⟩
abbrev S1x16384x16 : Shape := ⟨3, ![1, 16384, 16]⟩
abbrev S1x16384x16x1 : Shape := ⟨4, ![1, 16384, 16, 1]⟩
abbrev S1x16384x16x32 : Shape := ⟨4, ![1, 16384, 16, 32]⟩
abbrev S16384x1024 : Shape := ⟨2, ![16384, 1024]⟩
abbrev S16384x128 : Shape := ⟨2, ![16384, 128]⟩

abbrev nBuf : Space → Nat
  | .hbm => 184
  | .vmem => 0
  | .smem => 0
  | _ => 0

abbrev hbmTy0_0 (i : Nat) : BufTy := match i % 128 with
  | 0 => ⟨S1x16384x1024, .f32⟩
  | 1 => ⟨S1x16384x16x64, .f32⟩
  | 2 => ⟨S1x16384x1024, .f32⟩
  | 3 => ⟨S1x1024x1024, .f32⟩
  | 4 => ⟨S1024, .f32⟩
  | 5 => ⟨S1024x256, .f32⟩
  | 6 => ⟨S64, .f32⟩
  | 7 => ⟨S1x1024, .f32⟩
  | 8 => ⟨S1x1024x2048, .f32⟩
  | 9 => ⟨S1x64, .f32⟩
  | 10 => ⟨S16384, .i32⟩
  | 11 => ⟨S1024x1024, .f32⟩
  | 12 => ⟨S1x16384x1024, .f32⟩
  | 13 => ⟨S1x16384x1024, .f32⟩
  | 14 => ⟨S1x16384x1024, .f32⟩
  | 15 => ⟨S_, .f32⟩
  | 16 => ⟨S1x16384x1024, .f32⟩
  | 17 => ⟨S1x16384x1024, .f32⟩
  | 18 => ⟨S_, .f32⟩
  | 19 => ⟨S1x16384x1024, .f32⟩
  | 20 => ⟨S1x16384x1024, .f32⟩
  | 21 => ⟨S1x16384x1024, .f32⟩
  | 22 => ⟨S1x16384x1024, .f32⟩
  | 23 => ⟨S1x16384x1024, .f32⟩
  | 24 => ⟨S1x16384x1024, .f32⟩
  | 25 => ⟨S1x16384x1024, .f32⟩
  | 26 => ⟨S_, .f32⟩
  | 27 => ⟨S1x16384, .f32⟩
  | 28 => ⟨S1x16384x1, .f32⟩
  | 29 => ⟨S_, .f32⟩
  | 30 => ⟨S1x16384x1, .f32⟩
  | 31 => ⟨S1x16384x1, .f32⟩
  | 32 => ⟨S_, .f32⟩
  | 33 => ⟨S1x16384x1, .f32⟩
  | 34 => ⟨S1x16384x1, .f32⟩
  | 35 => ⟨S1x16384x1, .f32⟩
  | 36 => ⟨S1x16384x1024, .f32⟩
  | 37 => ⟨S1x16384x1024, .f32⟩
  | 38 => ⟨S1x1x1024, .f32⟩
  | 39 => ⟨S1x16384x1024, .f32⟩
  | 40 => ⟨S1x16384x1024, .f32⟩
  | 41 => ⟨S1x16384x256, .f32⟩
  | 42 => ⟨S1x16384x128, .f32⟩
  | 43 => ⟨S1x16384x2x64, .f32⟩
  | 44 => ⟨S1x16384x128, .f32⟩
  | 45 => ⟨S1x16384x2x64, .f32⟩
  | 46 => ⟨S1x16384x2x64, .f32⟩
  | 47 => ⟨S_, .f32⟩
  | 48 => ⟨S1x16384x2, .f32⟩
  | 49 => ⟨S1x16384x2x1, .f32⟩
  | 50 => ⟨S_, .f32⟩
  | 51 => ⟨S1x16384x2x1, .f32⟩
  | 52 => ⟨S1x16384x2x1, .f32⟩
  | 53 => ⟨S_, .f32⟩
  | 54 => ⟨S1x16384x2x1, .f32⟩
  | 55 => ⟨S1x16384x2x1, .f32⟩
  | 56 => ⟨S1x16384x2x1, .f32⟩
  | 57 => ⟨S1x16384x2x64, .f32⟩
  | 58 => ⟨S1x16384x2x64, .f32⟩
  | 59 => ⟨S1x1x1x64, .f32⟩
  | 60 => ⟨S1x16384x2x64, .f32⟩
  | 61 => ⟨S1x16384x2x64, .f32⟩
  | 62 => ⟨S32, .f32⟩
  | 63 => ⟨S_, .f32⟩
  | 64 => ⟨S32, .f32⟩
  | 65 => ⟨S32, .f32⟩
  | 66 => ⟨S_, .f32⟩
  | 67 => ⟨S32, .f32⟩
  | 68 => ⟨S32, .f32⟩
  | 69 => ⟨S_, .f32⟩
  | 70 => ⟨S32, .f32⟩
  | 71 => ⟨S32, .f32⟩
  | 72 => ⟨S16384, .f32⟩
  | 73 => ⟨S16384x1, .f32⟩
  | 74 => ⟨S1x32, .f32⟩
  | 75 => ⟨S16384x32, .f32⟩
  | 76 => ⟨S16384x32, .f32⟩
  | 77 => ⟨S16384x32, .f32⟩
  | 78 => ⟨S16384x32, .f32⟩
  | 79 => ⟨S16384x1x32, .f32⟩
  | 80 => ⟨S16384x32, .f32⟩
  | 81 => ⟨S16384x1x32, .f32⟩
  | 82 => ⟨S1x16384x2x32, .f32⟩
  | 83 => ⟨S1x16384x2x32, .f32⟩
  | 84 => ⟨S1x16384x1x32, .f32⟩
  | 85 => ⟨S1x16384x2x32, .f32⟩
  | 86 => ⟨S1x16384x2x32, .f32⟩
  | 87 => ⟨S1x16384x1x32, .f32⟩
  | 88 => ⟨S1x16384x2x32, .f32⟩
  | 89 => ⟨S1x16384x2x32, .f32⟩
  | 90 => ⟨S1x16384x2x32, .f32⟩
  | 91 => ⟨S1x16384x1x32, .f32⟩
  | 92 => ⟨S1x16384x2x32, .f32⟩
  | 93 => ⟨S1x16384x2x32, .f32⟩
  | 94 => ⟨S1x16384x1x32, .f32⟩
  | 95 => ⟨S1x16384x2x32, .f32⟩
  | 96 => ⟨S1x16384x2x32, .f32⟩
  | 97 => ⟨S1x16384x2x32, .f32⟩
  | 98 => ⟨S1x16384x2x64, .f32⟩
  | 99 => ⟨S1024, .f32⟩
  | 100 => ⟨S1024x2048, .f32⟩
  | 101 => ⟨S64, .f32⟩
  | 102 => ⟨S1x16384x1024, .f32⟩
  | 103 => ⟨S_, .f32⟩
  | 104 => ⟨S1x16384, .f32⟩
  | 105 => ⟨S1x16384x1, .f32⟩
  | 106 => ⟨S_, .f32⟩
  | 107 => ⟨S1x16384x1, .f32⟩
  | 108 => ⟨S1x16384x1, .f32⟩
  | 109 => ⟨S_, .f32⟩
  | 110 => ⟨S1x16384x1, .f32⟩
  | 111 => ⟨S1x16384x1, .f32⟩
  | 112 => ⟨S1x16384x1, .f32⟩
  | 113 => ⟨S1x16384x1024, .f32⟩
  | 114 => ⟨S1x16384x1024, .f32⟩
  | 115 => ⟨S1x1x1024, .f32⟩
  | 116 => ⟨S1x16384x1024, .f32⟩
  | 117 => ⟨S1x16384x1024, .f32⟩
  | 118 => ⟨S1x16384x2048, .f32⟩
  | 119 => ⟨S1x16384x1024, .f32⟩
  | 120 => ⟨S1x16384x16x64, .f32⟩
  | 121 => ⟨S1x16384x16x64, .f32⟩
  | 122 => ⟨S_, .f32⟩
  | 123 => ⟨S1x16384x16, .f32⟩
  | 124 => ⟨S1x16384x16x1, .f32⟩
  | 125 => ⟨S_, .f32⟩
  | 126 => ⟨S1x16384x16x1, .f32⟩
  | 127 => ⟨S1x16384x16x1, .f32⟩
  | _ => ⟨S1x16384x1024, .f32⟩

abbrev hbmTy0_1 (i : Nat) : BufTy := match i % 128 with
  | 0 => ⟨S_, .f32⟩
  | 1 => ⟨S1x16384x16x1, .f32⟩
  | 2 => ⟨S1x16384x16x1, .f32⟩
  | 3 => ⟨S1x16384x16x1, .f32⟩
  | 4 => ⟨S1x16384x16x64, .f32⟩
  | 5 => ⟨S1x16384x16x64, .f32⟩
  | 6 => ⟨S1x1x1x64, .f32⟩
  | 7 => ⟨S1x16384x16x64, .f32⟩
  | 8 => ⟨S1x16384x16x64, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S16384, .f32⟩
  | 20 => ⟨S16384x1, .f32⟩
  | 21 => ⟨S1x32, .f32⟩
  | 22 => ⟨S16384x32, .f32⟩
  | 23 => ⟨S16384x32, .f32⟩
  | 24 => ⟨S16384x32, .f32⟩
  | 25 => ⟨S16384x32, .f32⟩
  | 26 => ⟨S16384x1x32, .f32⟩
  | 27 => ⟨S16384x32, .f32⟩
  | 28 => ⟨S16384x1x32, .f32⟩
  | 29 => ⟨S1x16384x16x32, .f32⟩
  | 30 => ⟨S1x16384x16x32, .f32⟩
  | 31 => ⟨S1x16384x1x32, .f32⟩
  | 32 => ⟨S1x16384x16x32, .f32⟩
  | 33 => ⟨S1x16384x16x32, .f32⟩
  | 34 => ⟨S1x16384x1x32, .f32⟩
  | 35 => ⟨S1x16384x16x32, .f32⟩
  | 36 => ⟨S1x16384x16x32, .f32⟩
  | 37 => ⟨S1x16384x16x32, .f32⟩
  | 38 => ⟨S1x16384x1x32, .f32⟩
  | 39 => ⟨S1x16384x16x32, .f32⟩
  | 40 => ⟨S1x16384x16x32, .f32⟩
  | 41 => ⟨S1x16384x1x32, .f32⟩
  | 42 => ⟨S1x16384x16x32, .f32⟩
  | 43 => ⟨S1x16384x16x32, .f32⟩
  | 44 => ⟨S1x16384x16x32, .f32⟩
  | 45 => ⟨S1x16384x16x64, .f32⟩
  | 46 => ⟨S1x16384x1024, .f32⟩
  | 47 => ⟨S16384x1024, .f32⟩
  | 48 => ⟨S16384x128, .f32⟩
  | 49 => ⟨S16384x128, .f32⟩
  | 50 => ⟨S_, .f32⟩
  | 51 => ⟨S1x16384x16x64, .f32⟩
  | 52 => ⟨S1x16384x16x64, .f32⟩
  | 53 => ⟨S1x16384x16x64, .bf16⟩
  | 54 => ⟨S16384x1024, .bf16⟩
  | 55 => ⟨S16384x1024, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_2 : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_5 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_8 : Ref sig .tc := ⟨.hbm, 103, rfl⟩
abbrev main_v76 : Ref sig .tc := ⟨.hbm, 104, rfl⟩
abbrev main_v77 : Ref sig .tc := ⟨.hbm, 105, rfl⟩
abbrev main_cst_9 : Ref sig .tc := ⟨.hbm, 106, rfl⟩
abbrev main_v78 : Ref sig .tc := ⟨.hbm, 107, rfl⟩
abbrev main_v79 : Ref sig .tc := ⟨.hbm, 108, rfl⟩
abbrev main_cst_10 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_11 : Ref sig .tc := ⟨.hbm, 122, rfl⟩
abbrev main_v92 : Ref sig .tc := ⟨.hbm, 123, rfl⟩
abbrev main_v93 : Ref sig .tc := ⟨.hbm, 124, rfl⟩
abbrev main_cst_12 : Ref sig .tc := ⟨.hbm, 125, rfl⟩
abbrev main_v94 : Ref sig .tc := ⟨.hbm, 126, rfl⟩
abbrev main_v95 : Ref sig .tc := ⟨.hbm, 127, rfl⟩
abbrev main_cst_13 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_14 : Ref sig .tc := ⟨.hbm, 138, rfl⟩
abbrev main_v105 : Ref sig .tc := ⟨.hbm, 139, rfl⟩
abbrev main_v106 : Ref sig .tc := ⟨.hbm, 140, rfl⟩
abbrev main_cst_15 : Ref sig .tc := ⟨.hbm, 141, rfl⟩
abbrev main_v107 : Ref sig .tc := ⟨.hbm, 142, rfl⟩
abbrev main_v108 : Ref sig .tc := ⟨.hbm, 143, rfl⟩
abbrev main_cst_16 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_cst_17 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩

abbrev nD : Nat := 1
abbrev τ : Topo := Topo.v7x

variable {F : FTy → Type} [FloatOps F]
-- ==== Kernel3.lean ====
abbrev S128x1x1024 : Shape := ⟨3, ![128, 1, 1024]⟩
abbrev S1x1024 : Shape := ⟨2, ![1, 1024]⟩
abbrev S1x1024x2560 : Shape := ⟨3, ![1, 1024, 2560]⟩
abbrev S1x64 : Shape := ⟨2, ![1, 64]⟩
abbrev S_ : Shape := ⟨0, ![]⟩
abbrev S128 : Shape := ⟨1, ![128]⟩
abbrev S32 : Shape := ⟨1, ![32]⟩
abbrev S128x1 : Shape := ⟨2, ![128, 1]⟩
abbrev S1x32 : Shape := ⟨2, ![1, 32]⟩
abbrev S128x32 : Shape := ⟨2, ![128, 32]⟩
abbrev S1x128x1x32 : Shape := ⟨4, ![1, 128, 1, 32]⟩
abbrev S1x128x4x32 : Shape := ⟨4, ![1, 128, 4, 32]⟩
abbrev S128x128 : Shape := ⟨2, ![128, 128]⟩
abbrev S128x64 : Shape := ⟨2, ![128, 64]⟩
abbrev S1x128x1x64 : Shape := ⟨4, ![1, 128, 1, 64]⟩
abbrev S1x128x2x64 : Shape := ⟨4, ![1, 128, 2, 64]⟩
abbrev S1x128 : Shape := ⟨2, ![1, 128]⟩
abbrev S64 : Shape := ⟨1, ![64]⟩
abbrev S16x64 : Shape := ⟨2, ![16, 64]⟩
abbrev S1024 : Shape := ⟨1, ![1024]⟩
abbrev S4x64 : Shape := ⟨2, ![4, 64]⟩
abbrev S256 : Shape := ⟨1, ![256]⟩
abbrev S1280 : Shape := ⟨1, ![1280]⟩
abbrev S1x1280 : Shape := ⟨2, ![1, 1280]⟩
abbrev S128x1024 : Shape := ⟨2, ![128, 1024]⟩
abbrev S1024x2560 : Shape := ⟨2, ![1024, 2560]⟩
abbrev S128x256 : Shape := ⟨2, ![128, 256]⟩
abbrev S128x2560 : Shape := ⟨2, ![128, 2560]⟩

abbrev nBuf : Space → Nat
  | .hbm => 95
  | .vmem => 11
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x2560, .f32⟩
  | .hbm, ⟨3, _⟩ => ⟨S1x64, .f32⟩
  | .hbm, ⟨4, _⟩ => ⟨S1x64, .f32⟩
  | .hbm, ⟨5, _⟩ => ⟨S_, .i32⟩
  | .hbm, ⟨6, _⟩ => ⟨S128, .i32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S128, .f32⟩
  | .hbm, ⟨18, _⟩ => ⟨S128x1, .f32⟩
  | .hbm, ⟨19, _⟩ => ⟨S1x32, .f32⟩
  | .hbm, ⟨20, _⟩ => ⟨S128x32, .f32⟩
  | .hbm, ⟨21, _⟩ => ⟨S128x32, .f32⟩
  | .hbm, ⟨22, _⟩ => ⟨S128x32, .f32⟩
  | .hbm, ⟨23, _⟩ => ⟨S128x32, .f32⟩
  | .hbm, ⟨24, _⟩ => ⟨S128x32, .f32⟩
  | .hbm, ⟨25, _⟩ => ⟨S1x128x1x32, .f32⟩
  | .hbm, ⟨26, _⟩ => ⟨S1x128x4x32, .f32⟩
  | .hbm, ⟨27, _⟩ => ⟨S128x128, .f32⟩
  | .hbm, ⟨28, _⟩ => ⟨S128x32, .f32⟩
  | .hbm, ⟨29, _⟩ => ⟨S128x64, .f32⟩
  | .hbm, ⟨30, _⟩ => ⟨S1x128x1x64, .f32⟩
  | .hbm, ⟨31, _⟩ => ⟨S1x128x2x64, .f32⟩
  | .hbm, ⟨32, _⟩ => ⟨S128x128, .f32⟩
  | .hbm, ⟨33, _⟩ => ⟨S128, .i32⟩
  | .hbm, ⟨34, _⟩ => ⟨S128x1, .i32⟩
  | .hbm, ⟨35, _⟩ => ⟨S_, .i32⟩
  | .hbm, ⟨36, _⟩ => ⟨S_, .i32⟩
  | .hbm, ⟨37, _⟩ => ⟨S128x1, .i32⟩
  | .hbm, ⟨38, _⟩ => ⟨S128x1, .i32⟩
  | .hbm, ⟨39, _⟩ => ⟨S128x1, .i32⟩
  | .hbm, ⟨40, _⟩ => ⟨S_, .i32⟩
  | .hbm, ⟨41, _⟩ => ⟨S128x1, .i32⟩
  | .hbm, ⟨42, _⟩ => ⟨S128x1, .i1⟩
  | .hbm, ⟨43, _⟩ => ⟨S128x1, .i32⟩
  | .hbm, ⟨44, _⟩ => ⟨S128x1, .i32⟩
  | .hbm, ⟨45, _⟩ => ⟨S_, .i32⟩
  | .hbm, ⟨46, _⟩ => ⟨S128x1, .i32⟩
  | .hbm, ⟨47, _⟩ => ⟨S128x1, .i1⟩
  | .hbm, ⟨48, _⟩ => ⟨S128x1, .i1⟩
  | .hbm, ⟨49, _⟩ => ⟨S_, .i32⟩
  | .hbm, ⟨50, _⟩ => ⟨S128x1, .i32⟩
  | .hbm, ⟨51, _⟩ => ⟨S128x1, .i32⟩
  | .hbm, ⟨52, _⟩ => ⟨S128x1, .i32⟩
  | .hbm, ⟨53, _⟩ => ⟨S1x128, .i32⟩
  | .hbm, ⟨54, _⟩ => ⟨S_, .i32⟩
  | .hbm, ⟨55, _⟩ => ⟨S_, .i32⟩
  | .hbm, ⟨56, _⟩ => ⟨S1x128, .i32⟩
  | .hbm, ⟨57, _⟩ => ⟨S1x128, .i32⟩
  | .hbm, ⟨58, _⟩ => ⟨S1x128, .i32⟩
  | .hbm, ⟨59, _⟩ => ⟨S_, .i32⟩
  | .hbm, ⟨60, _⟩ => ⟨S1x128, .i32⟩
  | .hbm, ⟨61, _⟩ => ⟨S1x128, .i1⟩
  | .hbm, ⟨62, _⟩ => ⟨S1x128, .i32⟩
  | .hbm, ⟨63, _⟩ => ⟨S1x128, .i32⟩
  | .hbm, ⟨64, _⟩ => ⟨S_, .i32⟩
  | .hbm, ⟨65, _⟩ => ⟨S1x128, .i32⟩
  | .hbm, ⟨66, _⟩ => ⟨S1x128, .i1⟩
  | .hbm, ⟨67, _⟩ => ⟨S1x128, .i1⟩
  | .hbm, ⟨68, _⟩ => ⟨S_, .i32⟩
  | .hbm, ⟨69, _⟩ => ⟨S1x128, .i32⟩
  | .hbm, ⟨70, _⟩ => ⟨S1x128, .i32⟩
  | .hbm, ⟨71, _⟩ => ⟨S1x128, .i32⟩
  | .hbm, ⟨72, _⟩ => ⟨S128x128, .i32⟩
  | .hbm, ⟨73, _⟩ => ⟨S128x128, .i32⟩
  | .hbm, ⟨74, _⟩ => ⟨S128x128, .i1⟩
  | .hbm, ⟨75, _⟩ => ⟨S128x128, .bf16⟩
  | .hbm, ⟨76, _⟩ => ⟨S64, .f32⟩
  | .hbm, ⟨77, _⟩ => ⟨S1x64, .f32⟩
  | .hbm, ⟨78, _⟩ => ⟨S16x64, .f32⟩
  | .hbm, ⟨79, _⟩ => ⟨S1024, .f32⟩
  | .hbm, ⟨80, _⟩ => ⟨S64, .f32⟩
  | .hbm, ⟨81, _⟩ => ⟨S1x64, .f32⟩
  | .hbm, ⟨82, _⟩ => ⟨S4x64, .f32⟩
  | .hbm, ⟨83, _⟩ => ⟨S256, .f32⟩
  | .hbm, ⟨84, _⟩ => ⟨S1280, .f32⟩
  | .hbm, ⟨85, _⟩ => ⟨S1x1280, .f32⟩
  | .hbm, ⟨86, _⟩ => ⟨S128x1024, .f32⟩
  | .hbm, ⟨87, _⟩ => ⟨S1024x2560, .f32⟩
  | .hbm, ⟨88, _⟩ => ⟨S1024x2560, .bf16⟩
  | .hbm, ⟨89, _⟩ => ⟨S1024, .f32⟩
  | .hbm, ⟨90, _⟩ => ⟨S1x1024, .f32⟩
  | .hbm, ⟨91, _⟩ => ⟨S128x1024, .f32⟩
  | .hbm, ⟨92, _⟩ => ⟨S128x256, .f32⟩
  | .hbm, ⟨93, _⟩ => ⟨S128x256, .f32⟩
  | .hbm, ⟨94, _⟩ => ⟨S128x1024, .f32⟩
  | .local _ .vmem, ⟨0, _⟩ => ⟨S128x1024, .f32⟩
  | .local _ .vmem, ⟨1, _⟩ => ⟨S1024x2560, .bf16⟩
  | .local _ .vmem, ⟨2, _⟩ => ⟨S1x1024, .f32⟩
  | .local _ .vmem, ⟨3, _⟩ => ⟨S1x1280, .f32⟩
  | .local _ .vmem, ⟨4, _⟩ => ⟨S128x128, .f32⟩
  | .local _ .vmem, ⟨5, _⟩ => ⟨S128x128, .f32⟩
  | .local _ .vmem, ⟨6, _⟩ => ⟨S128x128, .bf16⟩
  | .local _ .vmem, ⟨7, _⟩ => ⟨S128x1024, .f32⟩
  | .local _ .vmem, ⟨8, _⟩ => ⟨S128x256, .f32⟩
  | .local _ .vmem, ⟨9, _⟩ => ⟨S128x256, .f32⟩
  | .local _ .vmem, ⟨10, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_c : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_0 : Ref sig .tc := ⟨.hbm, 49, rfl⟩
abbrev main_call0_v12 : Ref sig .tc := ⟨.hbm, 50, rfl⟩
abbrev main_call0_v13 : Ref sig .tc := ⟨.hbm, 51, rfl⟩
abbrev main_v26 : Ref sig .tc := ⟨.hbm, 52, rfl⟩
abbrev main_v27 : Ref sig .tc := ⟨.hbm, 53, rfl⟩
abbrev main_c_3 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_c : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_0 : Ref sig .tc := ⟨.hbm, 68, rfl⟩
abbrev main_call1_v12 : Ref sig .tc := ⟨.hbm, 69, rfl⟩
abbrev main_call1_v13 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48_0 : Ref sig .tc := ⟨.hbm, 91, rfl⟩
abbrev main_v48_1 : Ref sig .tc := ⟨.hbm, 92, rfl⟩
abbrev main_v48_2 : Ref sig .tc := ⟨.hbm, 93, rfl⟩
abbrev main_v48_3 : Ref sig .tc := ⟨.hbm, 94, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S128x1x1024 : Shape := ⟨3, ![128, 1, 1024]⟩
abbrev S1x1024 : Shape := ⟨2, ![1, 1024]⟩
abbrev S1x1024x2560 : Shape := ⟨3, ![1, 1024, 2560]⟩
abbrev S1x64 : Shape := ⟨2, ![1, 64]⟩
abbrev S1 : Shape := ⟨1, ![1]⟩
abbrev S_ : Shape := ⟨0, ![]⟩
abbrev S1024 : Shape := ⟨1, ![1024]⟩
abbrev S1024x2560 : Shape := ⟨2, ![1024, 2560]⟩
abbrev S64 : Shape := ⟨1, ![64]⟩
abbrev S128x1 : Shape := ⟨2, ![128, 1]⟩
abbrev S128x1x1 : Shape := ⟨3, ![128, 1, 1]⟩
abbrev S1x1x1024 : Shape := ⟨3, ![1, 1, 1024]⟩
abbrev S128x1x2560 : Shape := ⟨3, ![128, 1, 2560]⟩
abbrev S128x1x16x64 : Shape := ⟨4, ![128, 1, 16, 64]⟩
abbrev S128x1x256 : Shape := ⟨3, ![128, 1, 256]⟩
abbrev S128x1x4x64 : Shape := ⟨4, ![128, 1, 4, 64]⟩
abbrev S128x1x16 : Shape := ⟨3, ![128, 1, 16]⟩
abbrev S128x1x16x1 : Shape := ⟨4, ![128, 1, 16, 1]⟩
abbrev S1x1x1x64 : Shape := ⟨4, ![1, 1, 1, 64]⟩
abbrev S32 : Shape := ⟨1, ![32]⟩
abbrev S1x1 : Shape := ⟨2, ![1, 1]⟩
abbrev S1x32 : Shape := ⟨2, ![1, 32]⟩
abbrev S1x1x32 : Shape := ⟨3, ![1, 1, 32]⟩
abbrev S128x1x16x32 : Shape := ⟨4, ![128, 1, 16, 32]⟩
abbrev S1x1x1x32 : Shape := ⟨4, ![1, 1, 1, 32]⟩
abbrev S128x1x4 : Shape := ⟨3, ![128, 1, 4]⟩
abbrev S128x1x4x1 : Shape := ⟨4, ![128, 1, 4, 1]⟩
abbrev S128x1x4x32 : Shape := ⟨4, ![128, 1, 4, 32]⟩
abbrev S128x1024 : Shape := ⟨2, ![128, 1024]⟩
abbrev S128x256 : Shape := ⟨2, ![128, 256]⟩

abbrev nBuf : Space → Nat
  | .hbm => 145
  | .vmem => 0
  | .smem => 0
  | _ => 0

abbrev hbmTy0_0 (i : Nat) : BufTy := match i % 128 with
  | 0 => ⟨S128x1x1024, .f32⟩
  | 1 => ⟨S1x1024, .f32⟩
  | 2 => ⟨S1x1024x2560, .f32⟩
  | 3 => ⟨S1x64, .f32⟩
  | 4 => ⟨S1x64, .f32⟩
  | 5 => ⟨S1, .i32⟩
  | 6 => ⟨S_, .i32⟩
  | 7 => ⟨S1, .i32⟩
  | 8 => ⟨S1, .i32⟩
  | 9 => ⟨S1024, .f32⟩
  | 10 => ⟨S1024x2560, .f32⟩
  | 11 => ⟨S64, .f32⟩
  | 12 => ⟨S64, .f32⟩
  | 13 => ⟨S128x1x1024, .f32⟩
  | 14 => ⟨S_, .f32⟩
  | 15 => ⟨S128x1, .f32⟩
  | 16 => ⟨S128x1x1, .f32⟩
  | 17 => ⟨S_, .f32⟩
  | 18 => ⟨S128x1x1, .f32⟩
  | 19 => ⟨S128x1x1, .f32⟩
  | 20 => ⟨S_, .f32⟩
  | 21 => ⟨S128x1x1, .f32⟩
  | 22 => ⟨S128x1x1, .f32⟩
  | 23 => ⟨S128x1x1, .f32⟩
  | 24 => ⟨S128x1x1024, .f32⟩
  | 25 => ⟨S128x1x1024, .f32⟩
  | 26 => ⟨S1x1x1024, .f32⟩
  | 27 => ⟨S128x1x1024, .f32⟩
  | 28 => ⟨S128x1x1024, .f32⟩
  | 29 => ⟨S128x1x2560, .f32⟩
  | 30 => ⟨S128x1x1024, .f32⟩
  | 31 => ⟨S128x1x16x64, .f32⟩
  | 32 => ⟨S128x1x256, .f32⟩
  | 33 => ⟨S128x1x4x64, .f32⟩
  | 34 => ⟨S128x1x256, .f32⟩
  | 35 => ⟨S128x1x4x64, .f32⟩
  | 36 => ⟨S128x1x1024, .f32⟩
  | 37 => ⟨S128x1x16x64, .f32⟩
  | 38 => ⟨S_, .f32⟩
  | 39 => ⟨S128x1x16, .f32⟩
  | 40 => ⟨S128x1x16x1, .f32⟩
  | 41 => ⟨S_, .f32⟩
  | 42 => ⟨S128x1x16x1, .f32⟩
  | 43 => ⟨S128x1x16x1, .f32⟩
  | 44 => ⟨S_, .f32⟩
  | 45 => ⟨S128x1x16x1, .f32⟩
  | 46 => ⟨S128x1x16x1, .f32⟩
  | 47 => ⟨S128x1x16x1, .f32⟩
  | 48 => ⟨S128x1x16x64, .f32⟩
  | 49 => ⟨S128x1x16x64, .f32⟩
  | 50 => ⟨S1x1x1x64, .f32⟩
  | 51 => ⟨S128x1x16x64, .f32⟩
  | 52 => ⟨S128x1x16x64, .f32⟩
  | 53 => ⟨S32, .f32⟩
  | 54 => ⟨S_, .f32⟩
  | 55 => ⟨S32, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S1, .f32⟩
  | 64 => ⟨S1x1, .f32⟩
  | 65 => ⟨S1x32, .f32⟩
  | 66 => ⟨S1x32, .f32⟩
  | 67 => ⟨S1x32, .f32⟩
  | 68 => ⟨S1x32, .f32⟩
  | 69 => ⟨S1x1x32, .f32⟩
  | 70 => ⟨S1x32, .f32⟩
  | 71 => ⟨S1x1x32, .f32⟩
  | 72 => ⟨S128x1x16x32, .f32⟩
  | 73 => ⟨S128x1x16x32, .f32⟩
  | 74 => ⟨S1x1x1x32, .f32⟩
  | 75 => ⟨S128x1x16x32, .f32⟩
  | 76 => ⟨S128x1x16x32, .f32⟩
  | 77 => ⟨S1x1x1x32, .f32⟩
  | 78 => ⟨S128x1x16x32, .f32⟩
  | 79 => ⟨S128x1x16x32, .f32⟩
  | 80 => ⟨S128x1x16x32, .f32⟩
  | 81 => ⟨S1x1x1x32, .f32⟩
  | 82 => ⟨S128x1x16x32, .f32⟩
  | 83 => ⟨S128x1x16x32, .f32⟩
  | 84 => ⟨S1x1x1x32, .f32⟩
  | 85 => ⟨S128x1x16x32, .f32⟩
  | 86 => ⟨S128x1x16x32, .f32⟩
  | 87 => ⟨S128x1x16x32, .f32⟩
  | 88 => ⟨S128x1x16x64, .f32⟩
  | 89 => ⟨S128x1x4x64, .f32⟩
  | 90 => ⟨S_, .f32⟩
  | 91 => ⟨S128x1x4, .f32⟩
  | 92 => ⟨S128x1x4x1, .f32⟩
  | 93 => ⟨S_, .f32⟩
  | 94 => ⟨S128x1x4x1, .f32⟩
  | 95 => ⟨S128x1x4x1, .f32⟩
  | 96 => ⟨S_, .f32⟩
  | 97 => ⟨S128x1x4x1, .f32⟩
  | 98 => ⟨S128x1x4x1, .f32⟩
  | 99 => ⟨S128x1x4x1, .f32⟩
  | 100 => ⟨S128x1x4x64, .f32⟩
  | 101 => ⟨S128x1x4x64, .f32⟩
  | 102 => ⟨S1x1x1x64, .f32⟩
  | 103 => ⟨S128x1x4x64, .f32⟩
  | 104 => ⟨S128x1x4x64, .f32⟩
  | 105 => ⟨S32, .f32⟩
  | 106 => ⟨S_, .f32⟩
  | 107 => ⟨S32, .f32⟩
  | 108 => ⟨S32, .f32⟩
  | 109 => ⟨S_, .f32⟩
  | 110 => ⟨S32, .f32⟩
  | 111 => ⟨S32, .f32⟩
  | 112 => ⟨S_, .f32⟩
  | 113 => ⟨S32, .f32⟩
  | 114 => ⟨S32, .f32⟩
  | 115 => ⟨S1, .f32⟩
  | 116 => ⟨S1x1, .f32⟩
  | 117 => ⟨S1x32, .f32⟩
  | 118 => ⟨S1x32, .f32⟩
  | 119 => ⟨S1x32, .f32⟩
  | 120 => ⟨S1x32, .f32⟩
  | 121 => ⟨S1x1x32, .f32⟩
  | 122 => ⟨S1x32, .f32⟩
  | 123 => ⟨S1x1x32, .f32⟩
  | 124 => ⟨S128x1x4x32, .f32⟩
  | 125 => ⟨S128x1x4x32, .f32⟩
  | 126 => ⟨S1x1x1x32, .f32⟩
  | 127 => ⟨S128x1x4x32, .f32⟩
  | _ => ⟨S128x1x1024, .f32⟩

abbrev hbmTy0_1 (i : Nat) : BufTy := match i % 128 with
  | 0 => ⟨S128x1x4x32, .f32⟩
  | 1 => ⟨S1x1x1x32, .f32⟩
  | 2 => ⟨S128x1x4x32, .f32⟩
  | 3 => ⟨S128x1x4x32, .f32⟩
  | 4 => ⟨S128x1x4x32, .f32⟩
  | 5 => ⟨S1x1x1x32, .f32⟩
  | 6 => ⟨S128x1x4x32, .f32⟩
  | 7 => ⟨S128x1x4x32, .f32⟩
  | 8 => ⟨S1x1x1x32, .f32⟩
  | 9 => ⟨S128x1x4x32, .f32⟩
  | 10 => ⟨S128x1x4x32, .f32⟩
  | 11 => ⟨S128x1x4x32, .f32⟩
  | 12 => ⟨S128x1x4x64, .f32⟩
  | 13 => ⟨S128x1024, .f32⟩
  | 14 => ⟨S128x256, .f32⟩
  | 15 => ⟨S128x256, .f32⟩
  | 16 => ⟨S128x1024, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_8 : Ref sig .tc := ⟨.hbm, 90, rfl⟩
abbrev main_v75 : Ref sig .tc := ⟨.hbm, 91, rfl⟩
abbrev main_v76 : Ref sig .tc := ⟨.hbm, 92, rfl⟩
abbrev main_cst_9 : Ref sig .tc := ⟨.hbm, 93, rfl⟩
abbrev main_v77 : Ref sig .tc := ⟨.hbm, 94, rfl⟩
abbrev main_v78 : Ref sig .tc := ⟨.hbm, 95, rfl⟩
abbrev main_cst_10 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_11 : Ref sig .tc := ⟨.hbm, 106, rfl⟩
abbrev main_v88 : Ref sig .tc := ⟨.hbm, 107, rfl⟩
abbrev main_v89 : Ref sig .tc := ⟨.hbm, 108, rfl⟩
abbrev main_cst_12 : Ref sig .tc := ⟨.hbm, 109, rfl⟩
abbrev main_v90 : Ref sig .tc := ⟨.hbm, 110, rfl⟩
abbrev main_v91 : Ref sig .tc := ⟨.hbm, 111, rfl⟩
abbrev main_cst_13 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩

abbrev nD : Nat := 1
abbrev τ : Topo := Topo.v7x

variable {F : FTy → Type} [FloatOps F]
-- ==== Kernel4.lean ====
abbrev S1x16384x1024 : Shape := ⟨3, ![1, 16384, 1024]⟩
abbrev S1x1024 : Shape := ⟨2, ![1, 1024]⟩
abbrev S1x1024x2560 : Shape := ⟨3, ![1, 1024, 2560]⟩
abbrev S1x64 : Shape := ⟨2, ![1, 64]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S1x16384x1x32 : Shape := ⟨4, ![1, 16384, 1, 32]⟩
abbrev S1x16384x4x32 : Shape := ⟨4, ![1, 16384, 4, 32]⟩
abbrev S16384x128 : Shape := ⟨2, ![16384, 128]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S64 : Shape := ⟨1, ![64]⟩
abbrev S16x64 : Shape := ⟨2, ![16, 64]⟩
abbrev S1024 : Shape := ⟨1, ![1024]⟩
abbrev S4x64 : Shape := ⟨2, ![4, 64]⟩
abbrev S256 : Shape := ⟨1, ![256]⟩
abbrev S1280 : Shape := ⟨1, ![1280]⟩
abbrev S1x1280 : Shape := ⟨2, ![1, 1280]⟩
abbrev S16384x1024 : Shape := ⟨2, ![16384, 1024]⟩
abbrev S1024x2560 : Shape := ⟨2, ![1024, 2560]⟩
abbrev S16x16384x128 : Shape := ⟨3, ![16, 16384, 128]⟩
abbrev S4x16384x128 : Shape := ⟨3, ![4, 16384, 128]⟩
abbrev S16384x256 : Shape := ⟨2, ![16384, 256]⟩
abbrev S256x1024 : Shape := ⟨2, ![256, 1024]⟩
abbrev S256x128 : Shape := ⟨2, ![256, 128]⟩
abbrev S16x256x128 : Shape := ⟨3, ![16, 256, 128]⟩
abbrev S4x256x128 : Shape := ⟨3, ![4, 256, 128]⟩
abbrev S256x256 : Shape := ⟨2, ![256, 256]⟩
abbrev S4x2x128x128 : Shape := ⟨4, ![4, 2, 128, 128]⟩
abbrev S256x1 : Shape := ⟨2, ![256, 1]⟩
abbrev S256x2560 : Shape := ⟨2, ![256, 2560]⟩
abbrev S64x256 : Shape := ⟨2, ![64, 256]⟩
abbrev S1x1x128x128 : Shape := ⟨4, ![1, 1, 128, 128]⟩
abbrev S128x256 : Shape := ⟨2, ![128, 256]⟩
abbrev S1x256 : Shape := ⟨2, ![1, 256]⟩
abbrev S1x256x128 : Shape := ⟨3, ![1, 256, 128]⟩
abbrev S1x1x1x128 : Shape := ⟨4, ![1, 1, 1, 128]⟩

abbrev nBuf : Space → Nat
  | .hbm => 96
  | .vmem => 23
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x2560, .f32⟩
  | .hbm, ⟨3, _⟩ => ⟨S1x64, .f32⟩
  | .hbm, ⟨4, _⟩ => ⟨S1x64, .f32⟩
  | .hbm, ⟨5, _⟩ => ⟨S16384, .i32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S16384, .f32⟩
  | .hbm, ⟨17, _⟩ => ⟨S16384x1, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S16384x32, .f32⟩
  | .hbm, ⟨22, _⟩ => ⟨S16384x32, .f32⟩
  | .hbm, ⟨23, _⟩ => ⟨S16384x32, .f32⟩
  | .hbm, ⟨24, _⟩ => ⟨S1x16384x1x32, .f32⟩
  | .hbm, ⟨25, _⟩ => ⟨S1x16384x4x32, .f32⟩
  | .hbm, ⟨26, _⟩ => ⟨S16384x128, .f32⟩
  | .hbm, ⟨27, _⟩ => ⟨S16384x32, .f32⟩
  | .hbm, ⟨28, _⟩ => ⟨S16384x64, .f32⟩
  | .hbm, ⟨29, _⟩ => ⟨S1x16384x1x64, .f32⟩
  | .hbm, ⟨30, _⟩ => ⟨S1x16384x2x64, .f32⟩
  | .hbm, ⟨31, _⟩ => ⟨S16384x128, .f32⟩
  | .hbm, ⟨32, _⟩ => ⟨S128, .i32⟩
  | .hbm, ⟨33, _⟩ => ⟨S128x1, .i32⟩
  | .hbm, ⟨34, _⟩ => ⟨S_, .i32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S128x1, .i32⟩
  | .hbm, ⟨39, _⟩ => ⟨S_, .i32⟩
  | .hbm, ⟨40, _⟩ => ⟨S128x1, .i32⟩
  | .hbm, ⟨41, _⟩ => ⟨S128x1, .i1⟩
  | .hbm, ⟨42, _⟩ => ⟨S128x1, .i32⟩
  | .hbm, ⟨43, _⟩ => ⟨S128x1, .i32⟩
  | .hbm, ⟨44, _⟩ => ⟨S_, .i32⟩
  | .hbm, ⟨45, _⟩ => ⟨S128x1, .i32⟩
  | .hbm, ⟨46, _⟩ => ⟨S128x1, .i1⟩
  | .hbm, ⟨47, _⟩ => ⟨S128x1, .i1⟩
  | .hbm, ⟨48, _⟩ => ⟨S_, .i32⟩
  | .hbm, ⟨49, _⟩ => ⟨S128x1, .i32⟩
  | .hbm, ⟨50, _⟩ => ⟨S128x1, .i32⟩
  | .hbm, ⟨51, _⟩ => ⟨S128x1, .i32⟩
  | .hbm, ⟨52, _⟩ => ⟨S1x128, .i32⟩
  | .hbm, ⟨53, _⟩ => ⟨S_, .i32⟩
  | .hbm, ⟨54, _⟩ => ⟨S_, .i32⟩
  | .hbm, ⟨55, _⟩ => ⟨S1x128, .i32⟩
  | .hbm, ⟨56, _⟩ => ⟨S1x128, .i32⟩
  | .hbm, ⟨57, _⟩ => ⟨S1x128, .i32⟩
  | .hbm, ⟨58, _⟩ => ⟨S_, .i32⟩
  | .hbm, ⟨59, _⟩ => ⟨S1x128, .i32⟩
  | .hbm, ⟨60, _⟩ => ⟨S1x128, .i1⟩
  | .hbm, ⟨61, _⟩ => ⟨S1x128, .i32⟩
  | .hbm, ⟨62, _⟩ => ⟨S1x128, .i32⟩
  | .hbm, ⟨63, _⟩ => ⟨S_, .i32⟩
  | .hbm, ⟨64, _⟩ => ⟨S1x128, .i32⟩
  | .hbm, ⟨65, _⟩ => ⟨S1x128, .i1⟩
  | .hbm, ⟨66, _⟩ => ⟨S1x128, .i1⟩
  | .hbm, ⟨67, _⟩ => ⟨S_, .i32⟩
  | .hbm, ⟨68, _⟩ => ⟨S1x128, .i32⟩
  | .hbm, ⟨69, _⟩ => ⟨S1x128, .i32⟩
  | .hbm, ⟨70, _⟩ => ⟨S1x128, .i32⟩
  | .hbm, ⟨71, _⟩ => ⟨S128x128, .i32⟩
  | .hbm, ⟨72, _⟩ => ⟨S128x128, .i32⟩
  | .hbm, ⟨73, _⟩ => ⟨S128x128, .i1⟩
  | .hbm, ⟨74, _⟩ => ⟨S128x128, .bf16⟩
  | .hbm, ⟨75, _⟩ => ⟨S64, .f32⟩
  | .hbm, ⟨76, _⟩ => ⟨S1x64, .f32⟩
  | .hbm, ⟨77, _⟩ => ⟨S16x64, .f32⟩
  | .hbm, ⟨78, _⟩ => ⟨S1024, .f32⟩
  | .hbm, ⟨79, _⟩ => ⟨S64, .f32⟩
  | .hbm, ⟨80, _⟩ => ⟨S1x64, .f32⟩
  | .hbm, ⟨81, _⟩ => ⟨S4x64, .f32⟩
  | .hbm, ⟨82, _⟩ => ⟨S256, .f32⟩
  | .hbm, ⟨83, _⟩ => ⟨S1280, .f32⟩
  | .hbm, ⟨84, _⟩ => ⟨S1x1280, .f32⟩
  | .hbm, ⟨85, _⟩ => ⟨S16384x1024, .f32⟩
  | .hbm, ⟨86, _⟩ => ⟨S1024x2560, .f32⟩
  | .hbm, ⟨87, _⟩ => ⟨S1024x2560, .bf16⟩
  | .hbm, ⟨88, _⟩ => ⟨S1024, .f32⟩
  | .hbm, ⟨89, _⟩ => ⟨S1x1024, .f32⟩
  | .hbm, ⟨90, _⟩ => ⟨S16x16384x128, .bf16⟩
  | .hbm, ⟨91, _⟩ => ⟨S4x16384x128, .bf16⟩
  | .hbm, ⟨92, _⟩ => ⟨S4x16384x128, .bf16⟩
  | .hbm, ⟨93, _⟩ => ⟨S16384x256, .f32⟩
  | .hbm, ⟨94, _⟩ => ⟨S16384x256, .f32⟩
  | .hbm, ⟨95, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1024x2560, .bf16⟩
  | .local _ .vmem, ⟨3, _⟩ => ⟨S1x1024, .f32⟩
  | .local _ .vmem, ⟨4, _⟩ => ⟨S1x1280, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S128x128, .bf16⟩
  | .local _ .vmem, ⟨10, _⟩ => ⟨S16x256x128, .bf16⟩
  | .local _ .vmem, ⟨11, _⟩ => ⟨S16x256x128, .bf16⟩
  | .local _ .vmem, ⟨12, _⟩ => ⟨S4x256x128, .bf16⟩
  | .local _ .vmem, ⟨13, _⟩ => ⟨S4x256x128, .bf16⟩
  | .local _ .vmem, ⟨14, _⟩ => ⟨S4x256x128, .bf16⟩
  | .local _ .vmem, ⟨15, _⟩ => ⟨S4x256x128, .bf16⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x1024, .f32⟩
  | .local _ .vmem, ⟨21, _⟩ => ⟨S256x1024, .f32⟩
  | .local _ .vmem, ⟨22, _⟩ => ⟨S4x2x128x128, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_c : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_v26 : Ref sig .tc := ⟨.hbm, 51, rfl⟩
abbrev main_v27 : Ref sig .tc := ⟨.hbm, 52, rfl⟩
abbrev main_c_2 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_c : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_0 : Ref sig .tc := ⟨.hbm, 67, rfl⟩
abbrev main_call1_v12 : Ref sig .tc := ⟨.hbm, 68, rfl⟩
abbrev main_call1_v13 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48_0 : Ref sig .tc := ⟨.hbm, 90, rfl⟩
abbrev main_v48_1 : Ref sig .tc := ⟨.hbm, 91, rfl⟩
abbrev main_v48_2 : Ref sig .tc := ⟨.hbm, 92, rfl⟩
abbrev main_v48_3 : Ref sig .tc := ⟨.hbm, 93, rfl⟩
abbrev main_v48_4 : Ref sig .tc := ⟨.hbm, 94, rfl⟩
abbrev main_v48_5 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![64], ![false]⟩

def k0_off1 (i : grid0.Coords) : Fin 4 → Nat :=
  let c0_458 : Index := 0#32
  let c0_459 : Index := 0#32
  let c64_i32_457 : BitVec 32 := 64#32
  let arg0 : BitVec 32 := BitVec.ofNat 32 (i 0).val
  let v1369 : BitVec 32 := Scalar.addi c64_i32_457 arg0
  let v1370 : Index := Scalar.indexCast v1369
  let c0_460 : Index := 0#32
  ![0, 0, v1370.toNat, 0]
def k0_off2 (i : grid0.Coords) : Fin 4 → Nat :=
  let c0_463 : Index := 0#32
  let c1_464 : Index := 1#32
  let c64_i32_462 : BitVec 32 := 64#32
  let arg0 : BitVec 32 := BitVec.ofNat 32 (i 0).val
  let v1376 : BitVec 32 := Scalar.addi c64_i32_462 arg0
  let v1377 : Index := Scalar.indexCast v1376
  let c0_465 : Index := 0#32
  ![0, 1, v1377.toNat, 0]
def k0_off3 (i : grid0.Coords) : Fin 4 → Nat :=
  let c1_471 : Index := 1#32
  let c0_472 : Index := 0#32
  let c64_i32_470 : BitVec 32 := 64#32
  let arg0 : BitVec 32 := BitVec.ofNat 32 (i 0).val
  let v1388 : BitVec 32 := Scalar.addi c64_i32_470 arg0
  let v1389 : Index := Scalar.indexCast v1388
  let c0_473 : Index := 0#32
  ![1, 0, v1389.toNat, 0]
def k0_off4 (i : grid0.Coords) : Fin 4 → Nat :=
  let c1_476 : Index := 1#32
  let c1_477 : Index := 1#32
  let c64_i32_475 : BitVec 32 := 64#32
  let arg0 : BitVec 32 := BitVec.ofNat 32 (i 0).val
  let v1395 : BitVec 32 := Scalar.addi c64_i32_475 arg0
  let v1396 : Index := Scalar.indexCast v1395
  let c0_478 : Index := 0#32
  ![1, 1, v1396.toNat, 0]
def k0_off5 (i : grid0.Coords) : Fin 4 → Nat :=
  let c2_497 : Index := 2#32
  let c0_498 : Index := 0#32
  let c64_i32_496 : BitVec 32 := 64#32
  let arg0 : BitVec 32 := BitVec.ofNat 32 (i 0).val
  let v1438 : BitVec 32 := Scalar.addi c64_i32_496 arg0
  let v1439 : Index := Scalar.indexCast v1438
  let c0_499 : Index := 0#32
  ![2, 0, v1439.toNat, 0]
def k0_off6 (i : grid0.Coords) : Fin 4 → Nat :=
  let c2_502 : Index := 2#32
  let c1_503 : Index := 1#32
  let c64_i32_501 : BitVec 32 := 64#32
  let arg0 : BitVec 32 := BitVec.ofNat 32 (i 0).val
  let v1445 : BitVec 32 := Scalar.addi c64_i32_501 arg0
  let v1446 : Index := Scalar.indexCast v1445
  let c0_504 : Index := 0#32
  ![2, 1, v1446.toNat, 0]
def k0_off7 (i : grid0.Coords) : Fin 4 → Nat :=
  let c3_510 : Index := 3#32
  let c0_511 : Index := 0#32
  let c64_i32_509 : BitVec 32 := 64#32
  let arg0 : BitVec 32 := BitVec.ofNat 32 (i 0).val
  let v1457 : BitVec 32 := Scalar.addi c64_i32_509 arg0
  let v1458 : Index := Scalar.indexCast v1457
  let c0_512 : Index := 0#32
  ![3, 0, v1458.toNat, 0]
def k0_off8 (i : grid0.Coords) : Fin 4 → Nat :=
  let c3_515 : Index := 3#32
  let c1_516 : Index := 1#32
  let c64_i32_514 : BitVec 32 := 64#32
  let arg0 : BitVec 32 := BitVec.ofNat 32 (i 0).val
  let v1464 : BitVec 32 := Scalar.addi c64_i32_514 arg0
  let v1465 : Index := Scalar.indexCast v1464
  let c0_517 : Index := 0#32
  ![3, 1, v1465.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S1x16384x1024 : Shape := ⟨3, ![1, 16384, 1024]⟩
abbrev S1x1024 : Shape := ⟨2, ![1, 1024]⟩
abbrev S1x1024x2560 : Shape := ⟨3, ![1, 1024, 2560]⟩
abbrev S1x64 : Shape := ⟨2, ![1, 64]⟩
abbrev S16384 : Shape := ⟨1, ![16384]⟩
abbrev S1024 : Shape := ⟨1, ![1024]⟩
abbrev S1024x2560 : Shape := ⟨2, ![1024, 2560]⟩
abbrev S64 : Shape := ⟨1, ![64]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x2560 : Shape := ⟨3, ![1, 16384, 2560]⟩
abbrev S1x16384x16x64 : Shape := ⟨4, ![1, 16384, 16, 64]⟩
abbrev S1x16384x256 : Shape := ⟨3, ![1, 16384, 256]⟩
abbrev S1x16384x4x64 : Shape := ⟨4, ![1, 16384, 4, 64]⟩
abbrev S1x16384x16 : Shape := ⟨3, ![1, 16384, 16]⟩
abbrev S1x16384x16x1 : Shape := ⟨4, ![1, 16384, 16, 1]⟩
abbrev S1x1x1x64 : Shape := ⟨4, ![1, 1, 1, 64]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x1x32 : Shape := ⟨3, ![16384, 1, 32]⟩
abbrev S1x16384x16x32 : Shape := ⟨4, ![1, 16384, 16, 32]⟩
abbrev S1x16384x1x32 : Shape := ⟨4, ![1, 16384, 1, 32]⟩
abbrev S1x16384x4 : Shape := ⟨3, ![1, 16384, 4]⟩
abbrev S1x16384x4x1 : Shape := ⟨4, ![1, 16384, 4, 1]⟩
abbrev S1x16384x4x32 : Shape := ⟨4, ![1, 16384, 4, 32]⟩
abbrev S16384x256 : Shape := ⟨2, ![16384, 256]⟩
abbrev S16384x1024 : Shape := ⟨2, ![16384, 1024]⟩

abbrev nBuf : Space → Nat
  | .hbm => 143
  | .vmem => 0
  | .smem => 0
  | _ => 0

abbrev hbmTy0_0 (i : Nat) : BufTy := match i % 128 with
  | 0 => ⟨S1x16384x1024, .f32⟩
  | 1 => ⟨S1x1024, .f32⟩
  | 2 => ⟨S1x1024x2560, .f32⟩
  | 3 => ⟨S1x64, .f32⟩
  | 4 => ⟨S1x64, .f32⟩
  | 5 => ⟨S16384, .i32⟩
  | 6 => ⟨S1024, .f32⟩
  | 7 => ⟨S1024x2560, .f32⟩
  | 8 => ⟨S64, .f32⟩
  | 9 => ⟨S64, .f32⟩
  | 10 => ⟨S1x16384x1024, .f32⟩
  | 11 => ⟨S_, .f32⟩
  | 12 => ⟨S1x16384, .f32⟩
  | 13 => ⟨S1x16384x1, .f32⟩
  | 14 => ⟨S_, .f32⟩
  | 15 => ⟨S1x16384x1, .f32⟩
  | 16 => ⟨S1x16384x1, .f32⟩
  | 17 => ⟨S_, .f32⟩
  | 18 => ⟨S1x16384x1, .f32⟩
  | 19 => ⟨S1x16384x1, .f32⟩
  | 20 => ⟨S1x16384x1, .f32⟩
  | 21 => ⟨S1x16384x1024, .f32⟩
  | 22 => ⟨S1x16384x1024, .f32⟩
  | 23 => ⟨S1x1x1024, .f32⟩
  | 24 => ⟨S1x16384x1024, .f32⟩
  | 25 => ⟨S1x16384x1024, .f32⟩
  | 26 => ⟨S1x16384x2560, .f32⟩
  | 27 => ⟨S1x16384x1024, .f32⟩
  | 28 => ⟨S1x16384x16x64, .f32⟩
  | 29 => ⟨S1x16384x256, .f32⟩
  | 30 => ⟨S1x16384x4x64, .f32⟩
  | 31 => ⟨S1x16384x256, .f32⟩
  | 32 => ⟨S1x16384x4x64, .f32⟩
  | 33 => ⟨S1x16384x1024, .f32⟩
  | 34 => ⟨S1x16384x16x64, .f32⟩
  | 35 => ⟨S_, .f32⟩
  | 36 => ⟨S1x16384x16, .f32⟩
  | 37 => ⟨S1x16384x16x1, .f32⟩
  | 38 => ⟨S_, .f32⟩
  | 39 => ⟨S1x16384x16x1, .f32⟩
  | 40 => ⟨S1x16384x16x1, .f32⟩
  | 41 => ⟨S_, .f32⟩
  | 42 => ⟨S1x16384x16x1, .f32⟩
  | 43 => ⟨S1x16384x16x1, .f32⟩
  | 44 => ⟨S1x16384x16x1, .f32⟩
  | 45 => ⟨S1x16384x16x64, .f32⟩
  | 46 => ⟨S1x16384x16x64, .f32⟩
  | 47 => ⟨S1x1x1x64, .f32⟩
  | 48 => ⟨S1x16384x16x64, .f32⟩
  | 49 => ⟨S1x16384x16x64, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S_, .f32⟩
  | 58 => ⟨S32, .f32⟩
  | 59 => ⟨S32, .f32⟩
  | 60 => ⟨S16384, .f32⟩
  | 61 => ⟨S16384x1, .f32⟩
  | 62 => ⟨S1x32, .f32⟩
  | 63 => ⟨S16384x32, .f32⟩
  | 64 => ⟨S16384x32, .f32⟩
  | 65 => ⟨S16384x32, .f32⟩
  | 66 => ⟨S16384x32, .f32⟩
  | 67 => ⟨S16384x1x32, .f32⟩
  | 68 => ⟨S16384x32, .f32⟩
  | 69 => ⟨S16384x1x32, .f32⟩
  | 70 => ⟨S1x16384x16x32, .f32⟩
  | 71 => ⟨S1x16384x16x32, .f32⟩
  | 72 => ⟨S1x16384x1x32, .f32⟩
  | 73 => ⟨S1x16384x16x32, .f32⟩
  | 74 => ⟨S1x16384x16x32, .f32⟩
  | 75 => ⟨S1x16384x1x32, .f32⟩
  | 76 => ⟨S1x16384x16x32, .f32⟩
  | 77 => ⟨S1x16384x16x32, .f32⟩
  | 78 => ⟨S1x16384x16x32, .f32⟩
  | 79 => ⟨S1x16384x1x32, .f32⟩
  | 80 => ⟨S1x16384x16x32, .f32⟩
  | 81 => ⟨S1x16384x16x32, .f32⟩
  | 82 => ⟨S1x16384x1x32, .f32⟩
  | 83 => ⟨S1x16384x16x32, .f32⟩
  | 84 => ⟨S1x16384x16x32, .f32⟩
  | 85 => ⟨S1x16384x16x32, .f32⟩
  | 86 => ⟨S1x16384x16x64, .f32⟩
  | 87 => ⟨S1x16384x4x64, .f32⟩
  | 88 => ⟨S_, .f32⟩
  | 89 => ⟨S1x16384x4, .f32⟩
  | 90 => ⟨S1x16384x4x1, .f32⟩
  | 91 => ⟨S_, .f32⟩
  | 92 => ⟨S1x16384x4x1, .f32⟩
  | 93 => ⟨S1x16384x4x1, .f32⟩
  | 94 => ⟨S_, .f32⟩
  | 95 => ⟨S1x16384x4x1, .f32⟩
  | 96 => ⟨S1x16384x4x1, .f32⟩
  | 97 => ⟨S1x16384x4x1, .f32⟩
  | 98 => ⟨S1x16384x4x64, .f32⟩
  | 99 => ⟨S1x16384x4x64, .f32⟩
  | 100 => ⟨S1x1x1x64, .f32⟩
  | 101 => ⟨S1x16384x4x64, .f32⟩
  | 102 => ⟨S1x16384x4x64, .f32⟩
  | 103 => ⟨S32, .f32⟩
  | 104 => ⟨S_, .f32⟩
  | 105 => ⟨S32, .f32⟩
  | 106 => ⟨S32, .f32⟩
  | 107 => ⟨S_, .f32⟩
  | 108 => ⟨S32, .f32⟩
  | 109 => ⟨S32, .f32⟩
  | 110 => ⟨S_, .f32⟩
  | 111 => ⟨S32, .f32⟩
  | 112 => ⟨S32, .f32⟩
  | 113 => ⟨S16384, .f32⟩
  | 114 => ⟨S16384x1, .f32⟩
  | 115 => ⟨S1x32, .f32⟩
  | 116 => ⟨S16384x32, .f32⟩
  | 117 => ⟨S16384x32, .f32⟩
  | 118 => ⟨S16384x32, .f32⟩
  | 119 => ⟨S16384x32, .f32⟩
  | 120 => ⟨S16384x1x32, .f32⟩
  | 121 => ⟨S16384x32, .f32⟩
  | 122 => ⟨S16384x1x32, .f32⟩
  | 123 => ⟨S1x16384x4x32, .f32⟩
  | 124 => ⟨S1x16384x4x32, .f32⟩
  | 125 => ⟨S1x16384x1x32, .f32⟩
  | 126 => ⟨S1x16384x4x32, .f32⟩
  | 127 => ⟨S1x16384x4x32, .f32⟩
  | _ => ⟨S1x16384x1024, .f32⟩

abbrev hbmTy0_1 (i : Nat) : BufTy := match i % 128 with
  | 0 => ⟨S1x16384x1x32, .f32⟩
  | 1 => ⟨S1x16384x4x32, .f32⟩
  | 2 => ⟨S1x16384x4x32, .f32⟩
  | 3 => ⟨S1x16384x4x32, .f32⟩
  | 4 => ⟨S1x16384x1x32, .f32⟩
  | 5 => ⟨S1x16384x4x32, .f32⟩
  | 6 => ⟨S1x16384x4x32, .f32⟩
  | 7 => ⟨S1x16384x1x32, .f32⟩
  | 8 => ⟨S1x16384x4x32, .f32⟩
  | 9 => ⟨S1x16384x4x32, .f32⟩
  | 10 => ⟨S1x16384x4x32, .f32⟩
  | 11 => ⟨S1x16384x4x64, .f32⟩
  | 12 => ⟨S16384x256, .f32⟩
  | 13 => ⟨S16384x256, .f32⟩
  | 14 => ⟨S16384x1024, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_8 : Ref sig .tc := ⟨.hbm, 88, rfl⟩
abbrev main_v74 : Ref sig .tc := ⟨.hbm, 89, rfl⟩
abbrev main_v75 : Ref sig .tc := ⟨.hbm, 90, rfl⟩
abbrev main_cst_9 : Ref sig .tc := ⟨.hbm, 91, rfl⟩
abbrev main_v76 : Ref sig .tc := ⟨.hbm, 92, rfl⟩
abbrev main_v77 : Ref sig .tc := ⟨.hbm, 93, rfl⟩
abbrev main_cst_10 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_11 : Ref sig .tc := ⟨.hbm, 104, rfl⟩
abbrev main_v87 : Ref sig .tc := ⟨.hbm, 105, rfl⟩
abbrev main_v88 : Ref sig .tc := ⟨.hbm, 106, rfl⟩
abbrev main_cst_12 : Ref sig .tc := ⟨.hbm, 107, rfl⟩
abbrev main_v89 : Ref sig .tc := ⟨.hbm, 108, rfl⟩
abbrev main_v90 : Ref sig .tc := ⟨.hbm, 109, rfl⟩
abbrev main_cst_13 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩

abbrev nD : Nat := 1
abbrev τ : Topo := Topo.v7x

variable {F : FTy → Type} [FloatOps F]
-- ==== Kernel5.lean ====
abbrev S128x1x16x64 : Shape := ⟨4, ![128, 1, 16, 64]⟩
abbrev S128x1x1024 : Shape := ⟨3, ![128, 1, 1024]⟩
abbrev S1x1024x1024 : Shape := ⟨3, ![1, 1024, 1024]⟩
abbrev S128x1024 : Shape := ⟨2, ![128, 1024]⟩
abbrev S1024x1024 : Shape := ⟨2, ![1024, 1024]⟩

abbrev nBuf : Space → Nat
  | .hbm => 10
  | .vmem => 5
  | .smem => 0
  | _ => 0

abbrev bufTy : (tb : Table) → Fin (tcTables nBuf tb) → BufTy
  | .hbm, ⟨0, _⟩ => ⟨S128x1x16x64, .f32⟩
  | .hbm, ⟨1, _⟩ => ⟨S128x1x1024, .f32⟩
  | .hbm, ⟨2, _⟩ => ⟨S128x1x1024, .f32⟩
  | .hbm, ⟨3, _⟩ => ⟨S1x1024x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S1024x1024, .f32⟩
  | .hbm, ⟨8, _⟩ => ⟨S1024x1024, .bf16⟩
  | .hbm, ⟨9, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S1024x1024, .bf16⟩
  | .local _ .vmem, ⟨4, _⟩ => ⟨S128x1024, .f32⟩
  | _, _ => ⟨S128x1x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference5Ideal.lean ====
abbrev S128x1x16x64 : Shape := ⟨4, ![128, 1, 16, 64]⟩
abbrev S128x1x1024 : Shape := ⟨3, ![128, 1, 1024]⟩
abbrev S1x1024x1024 : Shape := ⟨3, ![1, 1024, 1024]⟩
abbrev S1024x1024 : Shape := ⟨2, ![1024, 1024]⟩
abbrev S_ : Shape := ⟨0, ![]⟩
abbrev S128x1024 : Shape := ⟨2, ![128, 1024]⟩

abbrev nBuf : Space → Nat
  | .hbm => 19
  | .vmem => 0
  | .smem => 0
  | _ => 0

abbrev bufTy : (tb : Table) → Fin (tcTables nBuf tb) → BufTy
  | .hbm, ⟨0, _⟩ => ⟨S128x1x16x64, .f32⟩
  | .hbm, ⟨1, _⟩ => ⟨S128x1x1024, .f32⟩
  | .hbm, ⟨2, _⟩ => ⟨S128x1x1024, .f32⟩
  | .hbm, ⟨3, _⟩ => ⟨S1x1024x1024, .f32⟩
  | .hbm, ⟨4, _⟩ => ⟨S1024x1024, .f32⟩
  | .hbm, ⟨5, _⟩ => ⟨S128x1x1024, .f32⟩
  | .hbm, ⟨6, _⟩ => ⟨S128x1x1024, .f32⟩
  | .hbm, ⟨7, _⟩ => ⟨S128x1x1024, .f32⟩
  | .hbm, ⟨8, _⟩ => ⟨S_, .f32⟩
  | .hbm, ⟨9, _⟩ => ⟨S128x1x1024, .f32⟩
  | .hbm, ⟨10, _⟩ => ⟨S128x1x1024, .f32⟩
  | .hbm, ⟨11, _⟩ => ⟨S_, .f32⟩
  | .hbm, ⟨12, _⟩ => ⟨S128x1x1024, .f32⟩
  | .hbm, ⟨13, _⟩ => ⟨S128x1x1024, .f32⟩
  | .hbm, ⟨14, _⟩ => ⟨S128x1x1024, .f32⟩
  | .hbm, ⟨15, _⟩ => ⟨S128x1x1024, .f32⟩
  | .hbm, ⟨16, _⟩ => ⟨S128x1x1024, .f32⟩
  | .hbm, ⟨17, _⟩ => ⟨S128x1x1024, .f32⟩
  | .hbm, ⟨18, _⟩ => ⟨S128x1024, .f32⟩
  | _, _ => ⟨S128x1x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Kernel6.lean ====
abbrev S128x1x16x64 : Shape := ⟨4, ![128, 1, 16, 64]⟩
abbrev S128x1x2x64 : Shape := ⟨4, ![128, 1, 2, 64]⟩
abbrev S128x128x2x64 : Shape := ⟨4, ![128, 128, 2, 64]⟩
abbrev S1x16 : Shape := ⟨2, ![1, 16]⟩
abbrev S128x1024 : Shape := ⟨2, ![128, 1024]⟩
abbrev S_ : Shape := ⟨0, ![]⟩
abbrev S16 : Shape := ⟨1, ![16]⟩
abbrev S16x1 : Shape := ⟨2, ![16, 1]⟩
abbrev S2 : Shape := ⟨1, ![2]⟩
abbrev S1x2 : Shape := ⟨2, ![1, 2]⟩
abbrev S16x2 : Shape := ⟨2, ![16, 2]⟩
abbrev S128x16x1x64 : Shape := ⟨4, ![128, 16, 1, 64]⟩
abbrev S1x16x2x1 : Shape := ⟨4, ![1, 16, 2, 1]⟩
abbrev S128x16x2x64 : Shape := ⟨4, ![128, 16, 2, 64]⟩
abbrev S128x16x128 : Shape := ⟨3, ![128, 16, 128]⟩
abbrev S128x2x64x128 : Shape := ⟨4, ![128, 2, 64, 128]⟩
abbrev S128x128x128 : Shape := ⟨3, ![128, 128, 128]⟩
abbrev S128x128 : Shape := ⟨2, ![128, 128]⟩
abbrev S128x1x128 : Shape := ⟨3, ![128, 1, 128]⟩
abbrev S128x16x64 : Shape := ⟨3, ![128, 16, 64]⟩
abbrev S8x16x128 : Shape := ⟨3, ![8, 16, 128]⟩
abbrev S8x128x128 : Shape := ⟨3, ![8, 128, 128]⟩
abbrev S8x1x128 : Shape := ⟨3, ![8, 1, 128]⟩
abbrev S8x16x64 : Shape := ⟨3, ![8, 16, 64]⟩
abbrev S16x64 : Shape := ⟨2, ![16, 64]⟩
abbrev S1x16x128 : Shape := ⟨3, ![1, 16, 128]⟩
abbrev S16x128 : Shape := ⟨2, ![16, 128]⟩
abbrev S1x128x128 : Shape := ⟨3, ![1, 128, 128]⟩
abbrev S1x1x128 : Shape := ⟨3, ![1, 1, 128]⟩
abbrev S1x128 : Shape := ⟨2, ![1, 128]⟩
abbrev S1x16x64 : Shape := ⟨3, ![1, 16, 64]⟩
abbrev S128 : Shape := ⟨1, ![128]⟩
abbrev S128x1 : Shape := ⟨2, ![128, 1]⟩

abbrev nBuf : Space → Nat
  | .hbm => 58
  | .vmem => 19
  | .smem => 0
  | _ => 0

abbrev bufTy : (tb : Table) → Fin (tcTables nBuf tb) → BufTy
  | .hbm, ⟨0, _⟩ => ⟨S128x1x16x64, .f32⟩
  | .hbm, ⟨1, _⟩ => ⟨S128x1x2x64, .f32⟩
  | .hbm, ⟨2, _⟩ => ⟨S128x1x2x64, .f32⟩
  | .hbm, ⟨3, _⟩ => ⟨S128x128x2x64, .f32⟩
  | .hbm, ⟨4, _⟩ => ⟨S128x128x2x64, .f32⟩
  | .hbm, ⟨5, _⟩ => ⟨S1x16, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .bf16⟩
  | .hbm, ⟨11, _⟩ => ⟨S16, .i32⟩
  | .hbm, ⟨12, _⟩ => ⟨S16x1, .i32⟩
  | .hbm, ⟨13, _⟩ => ⟨S_, .i32⟩
  | .hbm, ⟨14, _⟩ => ⟨S_, .i32⟩
  | .hbm, ⟨15, _⟩ => ⟨S16x1, .i32⟩
  | .hbm, ⟨16, _⟩ => ⟨S16x1, .i32⟩
  | .hbm, ⟨17, _⟩ => ⟨S16x1, .i32⟩
  | .hbm, ⟨18, _⟩ => ⟨S_, .i32⟩
  | .hbm, ⟨19, _⟩ => ⟨S16x1, .i32⟩
  | .hbm, ⟨20, _⟩ => ⟨S16x1, .i1⟩
  | .hbm, ⟨21, _⟩ => ⟨S16x1, .i32⟩
  | .hbm, ⟨22, _⟩ => ⟨S16x1, .i32⟩
  | .hbm, ⟨23, _⟩ => ⟨S_, .i32⟩
  | .hbm, ⟨24, _⟩ => ⟨S16x1, .i32⟩
  | .hbm, ⟨25, _⟩ => ⟨S16x1, .i1⟩
  | .hbm, ⟨26, _⟩ => ⟨S16x1, .i1⟩
  | .hbm, ⟨27, _⟩ => ⟨S_, .i32⟩
  | .hbm, ⟨28, _⟩ => ⟨S16x1, .i32⟩
  | .hbm, ⟨29, _⟩ => ⟨S16x1, .i32⟩
  | .hbm, ⟨30, _⟩ => ⟨S16x1, .i32⟩
  | .hbm, ⟨31, _⟩ => ⟨S2, .i32⟩
  | .hbm, ⟨32, _⟩ => ⟨S1x2, .i32⟩
  | .hbm, ⟨33, _⟩ => ⟨S16x2, .i32⟩
  | .hbm, ⟨34, _⟩ => ⟨S16x2, .i32⟩
  | .hbm, ⟨35, _⟩ => ⟨S16x2, .i1⟩
  | .hbm, ⟨36, _⟩ => ⟨S16x2, .bf16⟩
  | .hbm, ⟨37, _⟩ => ⟨S128x16x1x64, .bf16⟩
  | .hbm, ⟨38, _⟩ => ⟨S1x16x2x1, .bf16⟩
  | .hbm, ⟨39, _⟩ => ⟨S128x16x2x64, .bf16⟩
  | .hbm, ⟨40, _⟩ => ⟨S128x16x2x64, .bf16⟩
  | .hbm, ⟨41, _⟩ => ⟨S128x16x2x64, .bf16⟩
  | .hbm, ⟨42, _⟩ => ⟨S128x16x128, .bf16⟩
  | .hbm, ⟨43, _⟩ => ⟨S128x2x64x128, .f32⟩
  | .hbm, ⟨44, _⟩ => ⟨S128x128x128, .f32⟩
  | .hbm, ⟨45, _⟩ => ⟨S128x2x64x128, .f32⟩
  | .hbm, ⟨46, _⟩ => ⟨S128x128x128, .f32⟩
  | .hbm, ⟨47, _⟩ => ⟨S128x128, .f32⟩
  | .hbm, ⟨48, _⟩ => ⟨S128x128, .f32⟩
  | .hbm, ⟨49, _⟩ => ⟨S16, .f32⟩
  | .hbm, ⟨50, _⟩ => ⟨S16x1, .f32⟩
  | .hbm, ⟨51, _⟩ => ⟨S128x128, .f32⟩
  | .hbm, ⟨52, _⟩ => ⟨S128x128, .f32⟩
  | .hbm, ⟨53, _⟩ => ⟨S128x1x128, .f32⟩
  | .hbm, ⟨54, _⟩ => ⟨S128x1x128, .f32⟩
  | .hbm, ⟨55, _⟩ => ⟨S128x16x64, .f32⟩
  | .hbm, ⟨56, _⟩ => ⟨S128x128x128, .f32⟩
  | .hbm, ⟨57, _⟩ => ⟨S128x128x128, .f32⟩
  | .local _ .vmem, ⟨0, _⟩ => ⟨S8x16x128, .bf16⟩
  | .local _ .vmem, ⟨1, _⟩ => ⟨S8x16x128, .bf16⟩
  | .local _ .vmem, ⟨2, _⟩ => ⟨S8x128x128, .f32⟩
  | .local _ .vmem, ⟨3, _⟩ => ⟨S8x128x128, .f32⟩
  | .local _ .vmem, ⟨4, _⟩ => ⟨S8x128x128, .f32⟩
  | .local _ .vmem, ⟨5, _⟩ => ⟨S8x128x128, .f32⟩
  | .local _ .vmem, ⟨6, _⟩ => ⟨S8x1x128, .f32⟩
  | .local _ .vmem, ⟨7, _⟩ => ⟨S8x1x128, .f32⟩
  | .local _ .vmem, ⟨8, _⟩ => ⟨S8x1x128, .f32⟩
  | .local _ .vmem, ⟨9, _⟩ => ⟨S8x1x128, .f32⟩
  | .local _ .vmem, ⟨10, _⟩ => ⟨S128x128, .f32⟩
  | .local _ .vmem, ⟨11, _⟩ => ⟨S128x128, .f32⟩
  | .local _ .vmem, ⟨12, _⟩ => ⟨S16x1, .f32⟩
  | .local _ .vmem, ⟨13, _⟩ => ⟨S8x16x64, .f32⟩
  | .local _ .vmem, ⟨14, _⟩ => ⟨S8x16x64, .f32⟩
  | .local _ .vmem, ⟨15, _⟩ => ⟨S8x128x128, .f32⟩
  | .local _ .vmem, ⟨16, _⟩ => ⟨S8x128x128, .f32⟩
  | .local _ .vmem, ⟨17, _⟩ => ⟨S8x128x128, .f32⟩
  | .local _ .vmem, ⟨18, _⟩ => ⟨S8x128x128, .f32⟩
  | _, _ => ⟨S128x1x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31_0 : Ref sig .tc := ⟨.hbm, 55, rfl⟩
abbrev main_v31_1 : Ref sig .tc := ⟨.hbm, 56, rfl⟩
abbrev main_v31_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x16x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S128x1x16x64 : Shape := ⟨4, ![128, 1, 16, 64]⟩
abbrev S128x1x2x64 : Shape := ⟨4, ![128, 1, 2, 64]⟩
abbrev S128x128x2x64 : Shape := ⟨4, ![128, 128, 2, 64]⟩
abbrev S1x16 : Shape := ⟨2, ![1, 16]⟩
abbrev S128x129x2x64 : Shape := ⟨4, ![128, 129, 2, 64]⟩
abbrev S129 : Shape := ⟨1, ![129]⟩
abbrev S_ : Shape := ⟨0, ![]⟩
abbrev S1 : Shape := ⟨1, ![1]⟩
abbrev S1x1 : Shape := ⟨2, ![1, 1]⟩
abbrev S1x129 : Shape := ⟨2, ![1, 129]⟩
abbrev S128x1x2x8x64 : Shape := ⟨5, ![128, 1, 2, 8, 64]⟩
abbrev S128x2x129x1x8 : Shape := ⟨5, ![128, 2, 129, 1, 8]⟩
abbrev S128x2x8x1x129 : Shape := ⟨5, ![128, 2, 8, 1, 129]⟩
abbrev S16 : Shape := ⟨1, ![16]⟩
abbrev S2x8x1x1 : Shape := ⟨4, ![2, 8, 1, 1]⟩
abbrev S128x2x8x1 : Shape := ⟨4, ![128, 2, 8, 1]⟩
abbrev S128x2x8x1x1 : Shape := ⟨5, ![128, 2, 8, 1, 1]⟩
abbrev S1x2x8x1x1 : Shape := ⟨5, ![1, 2, 8, 1, 1]⟩
abbrev S128x2x64x8x1 : Shape := ⟨5, ![128, 2, 64, 8, 1]⟩
abbrev S128x16x64 : Shape := ⟨3, ![128, 16, 64]⟩
abbrev S128x128x128 : Shape := ⟨3, ![128, 128, 128]⟩

abbrev nBuf : Space → Nat
  | .hbm => 68
  | .vmem => 0
  | .smem => 0
  | _ => 0

abbrev bufTy : (tb : Table) → Fin (tcTables nBuf tb) → BufTy
  | .hbm, ⟨0, _⟩ => ⟨S128x1x16x64, .f32⟩
  | .hbm, ⟨1, _⟩ => ⟨S128x1x2x64, .f32⟩
  | .hbm, ⟨2, _⟩ => ⟨S128x1x2x64, .f32⟩
  | .hbm, ⟨3, _⟩ => ⟨S128x128x2x64, .f32⟩
  | .hbm, ⟨4, _⟩ => ⟨S128x128x2x64, .f32⟩
  | .hbm, ⟨5, _⟩ => ⟨S1x16, .f32⟩
  | .hbm, ⟨6, _⟩ => ⟨S128x129x2x64, .f32⟩
  | .hbm, ⟨7, _⟩ => ⟨S128x129x2x64, .f32⟩
  | .hbm, ⟨8, _⟩ => ⟨S129, .i32⟩
  | .hbm, ⟨9, _⟩ => ⟨S_, .i32⟩
  | .hbm, ⟨10, _⟩ => ⟨S129, .i32⟩
  | .hbm, ⟨11, _⟩ => ⟨S129, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S1, .i32⟩
  | .hbm, ⟨16, _⟩ => ⟨S1x1, .i32⟩
  | .hbm, ⟨17, _⟩ => ⟨S1x129, .i32⟩
  | .hbm, ⟨18, _⟩ => ⟨S1x129, .i32⟩
  | .hbm, ⟨19, _⟩ => ⟨S1x129, .i32⟩
  | .hbm, ⟨20, _⟩ => ⟨S_, .i32⟩
  | .hbm, ⟨21, _⟩ => ⟨S1x129, .i32⟩
  | .hbm, ⟨22, _⟩ => ⟨S1x129, .i1⟩
  | .hbm, ⟨23, _⟩ => ⟨S_, .i32⟩
  | .hbm, ⟨24, _⟩ => ⟨S1x129, .i32⟩
  | .hbm, ⟨25, _⟩ => ⟨S1x129, .i1⟩
  | .hbm, ⟨26, _⟩ => ⟨S1x129, .i1⟩
  | .hbm, ⟨27, _⟩ => ⟨S128x1x2x8x64, .f32⟩
  | .hbm, ⟨28, _⟩ => ⟨S128x2x129x1x8, .f32⟩
  | .hbm, ⟨29, _⟩ => ⟨S128x2x8x1x129, .f32⟩
  | .hbm, ⟨30, _⟩ => ⟨S_, .f32⟩
  | .hbm, ⟨31, _⟩ => ⟨S128x2x8x1x129, .f32⟩
  | .hbm, ⟨32, _⟩ => ⟨S128x2x8x1x129, .f32⟩
  | .hbm, ⟨33, _⟩ => ⟨S_, .f32⟩
  | .hbm, ⟨34, _⟩ => ⟨S_, .f32⟩
  | .hbm, ⟨35, _⟩ => ⟨S128x2x8x1x129, .i1⟩
  | .hbm, ⟨36, _⟩ => ⟨S128x2x8x1x129, .f32⟩
  | .hbm, ⟨37, _⟩ => ⟨S128x2x8x1x129, .f32⟩
  | .hbm, ⟨38, _⟩ => ⟨S16, .f32⟩
  | .hbm, ⟨39, _⟩ => ⟨S2x8x1x1, .f32⟩
  | .hbm, ⟨40, _⟩ => ⟨S_, .f32⟩
  | .hbm, ⟨41, _⟩ => ⟨S128x2x8x1, .f32⟩
  | .hbm, ⟨42, _⟩ => ⟨S128x2x8x1x1, .f32⟩
  | .hbm, ⟨43, _⟩ => ⟨S1x2x8x1x1, .f32⟩
  | .hbm, ⟨44, _⟩ => ⟨S128x2x8x1x1, .f32⟩
  | .hbm, ⟨45, _⟩ => ⟨S128x2x8x1x1, .f32⟩
  | .hbm, ⟨46, _⟩ => ⟨S128x2x8x1x129, .f32⟩
  | .hbm, ⟨47, _⟩ => ⟨S128x2x8x1x129, .f32⟩
  | .hbm, ⟨48, _⟩ => ⟨S128x2x8x1x129, .f32⟩
  | .hbm, ⟨49, _⟩ => ⟨S_, .f32⟩
  | .hbm, ⟨50, _⟩ => ⟨S128x2x8x1, .f32⟩
  | .hbm, ⟨51, _⟩ => ⟨S128x2x8x1x1, .f32⟩
  | .hbm, ⟨52, _⟩ => ⟨S1x2x8x1x1, .f32⟩
  | .hbm, ⟨53, _⟩ => ⟨S128x2x8x1x1, .f32⟩
  | .hbm, ⟨54, _⟩ => ⟨S128x2x8x1x1, .f32⟩
  | .hbm, ⟨55, _⟩ => ⟨S128x2x8x1x1, .f32⟩
  | .hbm, ⟨56, _⟩ => ⟨S128x2x8x1x1, .f32⟩
  | .hbm, ⟨57, _⟩ => ⟨S128x2x8x1x129, .f32⟩
  | .hbm, ⟨58, _⟩ => ⟨S128x2x8x1x129, .f32⟩
  | .hbm, ⟨59, _⟩ => ⟨S128x2x64x8x1, .f32⟩
  | .hbm, ⟨60, _⟩ => ⟨S128x1x2x8x64, .f32⟩
  | .hbm, ⟨61, _⟩ => ⟨S128x16x64, .f32⟩
  | .hbm, ⟨62, _⟩ => ⟨S128x128x2x64, .f32⟩
  | .hbm, ⟨63, _⟩ => ⟨S128x128x128, .f32⟩
  | .hbm, ⟨64, _⟩ => ⟨S128x128x128, .f32⟩
  | .hbm, ⟨65, _⟩ => ⟨S128x128x2x64, .f32⟩
  | .hbm, ⟨66, _⟩ => ⟨S128x128x128, .f32⟩
  | .hbm, ⟨67, _⟩ => ⟨S128x128x128, .f32⟩
  | _, _ => ⟨S128x1x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Proof.Words.lean ====
/-
  Comparisons of small words, and the conjunction and disjunction of their bits, as propositions about naturals.
-/
module

public import Idealize.ShloMosaic.PureOps
public import Idealize.ShloMosaic.Lib.Pointwise

@[expose] public section

namespace Cert.Words

open Idealize.ShloMosaic

theorem select_eq_ite {α : Type} (c : BitVec 1) (x y : α) : Scalar.select c x y = if c = 1#1 then x else y := by
  rcases BitVec.eq_zero_or_eq_one c with rfl | rfl <;> rfl

theorem andi_iff (a b : BitVec 1) : IntOp.andi a b = 1#1 ↔ a = 1#1 ∧ b = 1#1 := by
  rcases BitVec.eq_zero_or_eq_one a with rfl | rfl <;> rcases BitVec.eq_zero_or_eq_one b with rfl | rfl <;> decide

theorem ori_iff (a b : BitVec 1) : IntOp.ori a b = 1#1 ↔ a = 1#1 ∨ b = 1#1 := by
  rcases BitVec.eq_zero_or_eq_one a with rfl | rfl <;> rcases BitVec.eq_zero_or_eq_one b with rfl | rfl <;> decide

theorem toInt_small {a : ℕ} (h : a < 2 ^ 31) : (BitVec.ofNat 32 a).toInt = a := by
  simp only [BitVec.toInt_eq_toNat_cond, BitVec.toNat_ofNat]; omega

theorem sge_iff {a b : ℕ} (ha : a < 2 ^ 31) (hb : b < 2 ^ 31) :
    IntOp.cmpi .sge (BitVec.ofNat 32 a) (BitVec.ofNat 32 b) = 1#1 ↔ b ≤ a := by
  simp only [IntOp.cmpi, BitVec.sle, toInt_small ha, toInt_small hb]
  by_cases h : b ≤ a <;> simp [h]

theorem sle_iff {a b : ℕ} (ha : a < 2 ^ 31) (hb : b < 2 ^ 31) :
    IntOp.cmpi .sle (BitVec.ofNat 32 a) (BitVec.ofNat 32 b) = 1#1 ↔ a ≤ b := by
  simp only [IntOp.cmpi, BitVec.sle, toInt_small ha, toInt_small hb]
  by_cases h : a ≤ b <;> simp [h]

theorem sgt_iff {a b : ℕ} (ha : a < 2 ^ 31) (hb : b < 2 ^ 31) :
    IntOp.cmpi .sgt (BitVec.ofNat 32 a) (BitVec.ofNat 32 b) = 1#1 ↔ b < a := by
  simp only [IntOp.cmpi, BitVec.slt, toInt_small ha, toInt_small hb]
  by_cases h : b < a <;> simp [h]

theorem slt_iff {a b : ℕ} (ha : a < 2 ^ 31) (hb : b < 2 ^ 31) :
    IntOp.cmpi .slt (BitVec.ofNat 32 a) (BitVec.ofNat 32 b) = 1#1 ↔ a < b := by
  simp only [IntOp.cmpi, BitVec.slt, toInt_small ha, toInt_small hb]
  by_cases h : a < b <;> simp [h]

theorem addi_ofNat (a b : ℕ) : IntOp.addi (BitVec.ofNat 32 a) (BitVec.ofNat 32 b) = BitVec.ofNat 32 (a + b) := by
  simp [IntOp.addi, BitVec.ofNat_add]

end Cert.Words
-- ==== Proof.Reals.lean ====
/-
  Facts about extended reals that the attention proofs share: exponentials, inverses, and a softmax with one common
  denominator whose weights are applied before or after the division.
-/
module

public import Idealize.ShloMosaic.PureOps
public import Idealize.ShloMosaic.Lib.Pointwise

@[expose] public section

noncomputable section

namespace Cert.Reals

open Idealize.ShloMosaic

theorem ofBits_bot : Ideal.ofBits .f32 0xFF800000#32 = ⊥ := by simp [Ideal.ofBits, Ideal.ieee]

theorem ofBits_top : Ideal.ofBits .f32 0x7F800000#32 = ⊤ := by simp [Ideal.ofBits, Ideal.ieee]

/-- A nonnegative factor other than `⊤` goes into a sum. -/
theorem sum_mul_of_nonneg {ι : Type} (S : Finset ι) (f : ι → EReal) {r : EReal} (h0 : 0 ≤ r) (h1 : r ≠ ⊤) :
    (∑ i ∈ S, f i) * r = ∑ i ∈ S, f i * r := by
  classical
  induction S using Finset.induction_on with
  | empty => simp
  | insert a S ha ih =>
    rw [Finset.sum_insert ha, Finset.sum_insert ha, EReal.right_distrib_of_nonneg_of_ne_top h0 h1, ih]

theorem inv_ne_top (x : EReal) : x⁻¹ ≠ ⊤ := by
  induction x with
  | bot => simp
  | top => simp
  | coe x => rw [← EReal.coe_inv]; exact EReal.coe_ne_top _

theorem exp_bot : Ideal.exp ⊥ = 0 := rfl

theorem exp_coe (r : ℝ) : Ideal.exp (r : EReal) = (Real.exp r : ℝ) := rfl

theorem exp_nonneg (x : EReal) : 0 ≤ Ideal.exp x := by
  induction x with
  | bot => exact le_refl _
  | top => exact le_top
  | coe x => rw [exp_coe]; exact EReal.coe_nonneg.mpr (Real.exp_pos x).le

/-- The peak a softmax subtracts: the largest of the scores `s` and the sink's. -/
def top {n : ℕ} (s : Fin n → EReal) (sink : EReal) : EReal := max (Finset.univ.fold max ⊥ s) sink

/-- The softmax's denominator over the scores `s` and the sink's. -/
def den {n : ℕ} (s : Fin n → EReal) (sink : EReal) : EReal :=
  ∑ k, Ideal.exp (s k - top s sink) + Ideal.exp (sink - top s sink)

/-- One query's attention: the values `v` weighted by the softmax of the scores `s`, with a sink that has no value. -/
def attn {n : ℕ} (s v : Fin n → EReal) (sink : EReal) : EReal :=
  ∑ j, v j * Ideal.div (Ideal.exp (s j - top s sink)) (den s sink)

/-- Scores below `⊤` and a finite sink leave a denominator above zero. -/
theorem den_pos {n : ℕ} (s : Fin n → EReal) (sink : ℝ) (hs : ∀ j, s j ≠ ⊤) : 0 < den s sink := by
  have h1 : top s sink ≠ ⊤ := by
    refine ne_of_lt (max_lt ?_ (EReal.coe_lt_top _))
    rw [Finset.fold_max_lt]
    exact ⟨bot_lt_top, fun j _ => lt_top_iff_ne_top.mpr (hs j)⟩
  have h2 : top s sink ≠ ⊥ := ne_of_gt (lt_of_lt_of_le (EReal.bot_lt_coe sink) (le_max_right _ _))
  unfold den
  lift top s sink to ℝ using ⟨h1, h2⟩ with t
  have h3 : (0 : EReal) < Ideal.exp ((sink : EReal) - t) := by
    rw [← EReal.coe_sub, exp_coe]; exact EReal.coe_pos.mpr (Real.exp_pos _)
  exact lt_of_lt_of_le h3 (le_add_of_nonneg_left (Finset.sum_nonneg fun _ _ => exp_nonneg _))

/-- Dividing the weighted sum by the denominator is weighting by the divided exponentials. -/
theorem attn_eq {n : ℕ} (s v : Fin n → EReal) (sink : EReal) (h : 0 < den s sink) :
    (∑ j, v j * Ideal.exp (s j - top s sink)) * Ideal.div 1 (den s sink) = attn s v sink := by
  have hd : ∀ x : EReal, Ideal.div x (den s sink) = x * (den s sink)⁻¹ := fun x => by rw [Ideal.div, if_neg h.ne']
  rw [attn, hd, one_mul, sum_mul_of_nonneg _ _ (EReal.inv_nonneg_of_nonneg h.le) (inv_ne_top _)]
  exact Finset.sum_congr rfl fun j _ => by rw [hd, mul_assoc]

/-- Values may differ where the score is `⊥`: such a key's weight is zero. -/
theorem attn_congr {n : ℕ} {s s' v v' : Fin n → EReal} {sink : EReal} (hs : ∀ j, s j = s' j) (hv : ∀ j, s j ≠ ⊥ → v j = v' j)
    (h : 0 < den s sink) : attn s v sink = attn s' v' sink := by
  obtain rfl : s = s' := funext hs
  refine Finset.sum_congr rfl fun j _ => ?_
  by_cases hj : s j = ⊥
  · rw [hj, EReal.bot_sub, exp_bot, Ideal.div, if_neg h.ne', zero_mul, mul_zero, mul_zero]
  · rw [hv j hj]

/-- A sum of products of finite numbers is finite. -/
theorem sum_ne_top {ι : Type} (S : Finset ι) (f : ι → EReal) (h : ∀ i, ∃ r : ℝ, f i = r) : ∃ r : ℝ, ∑ i ∈ S, f i = r := by
  choose g hg using h
  refine ⟨∑ i ∈ S, g i, ?_⟩
  rw [Finset.sum_congr rfl fun i _ => hg i]
  classical
  induction S using Finset.induction_on with
  | empty => simp
  | insert a S ha ih => rw [Finset.sum_insert ha, Finset.sum_insert ha, ih, EReal.coe_add]

end Cert.Reals
-- ==== Proof.SwaTile.lean ====
/-
  The body of the sliding-window kernel, cut at its own seams. One program instance handles four blocks of 128 queries;
  for each block and each of the two key heads it stacks the eight query heads that share that key head, computes one
  softmax for the stack, and stores the outcome as four square tiles. The functions here are that computation with the
  block and the key head as parameters, and each is read at an index.
-/
module

public import proofs.«01_k».proof.Proof.Gen.KernelIdeal.Value
public import Idealize.ShloMosaic.Lib.Pipeline.ValueKit
public import Idealize.ShloMosaic.Lib.Pointwise
public import proofs.«01_k».proof.Proof.Words
public import proofs.«01_k».proof.Proof.Reals

@[expose] public section

set_option maxRecDepth 16384

noncomputable section

namespace Cert.KernelIdeal.Swa

open Cert.KernelIdeal Cert.KernelIdeal.Gen Idealize.ShloMosaic Idealize.ShloMosaic.TcCoe Cert.Words Cert.Reals

/-- One where the lane belongs to head slot `c` of the pair of heads that shares 128 lanes. -/
def slot (c : BitVec 32) : IVec S128x128 1 :=
  let lane : IVec S128x128 32 := iota .tc S128x128 32 [1] iota_S128x128_d1_w32
  let q : IVec S128x128 32 := divsi lane (broadcast S128x128 64#32)
  let sgn : IVec S128x128 32 := subi (extui 32 (cmpi .sgt lane (broadcast S128x128 0#32)) natLt_1_32)
    (extui 32 (cmpi .slt lane (broadcast S128x128 0#32)) natLt_1_32)
  let one : BitVec 32 := Scalar.subi (Scalar.extui (Scalar.cmpi .sgt 64#32 0#32)) (Scalar.extui (Scalar.cmpi .slt 64#32 0#32))
  let off : IVec S128x128 1 := andi (cmpi .ne sgn (broadcast S128x128 one))
    (cmpi .ne (remsi lane (broadcast S128x128 64#32)) (broadcast S128x128 0#32))
  cmpi .eq (select off (subi q (broadcast S128x128 1#32)) q) (broadcast S128x128 c)

/-- A tile of two query heads with the lanes outside slot `c` zeroed. -/
def lone (c : BitVec 32) (q : Vec Ideal S128x128 .bf16) : FVec Ideal S128x128 .bf16 :=
  truncf .bf16 (select (slot c) (extf .f32 (shapeCast S128x128 q shapeCasts_S128x128_S128x128) bitsLt_bf16_f32)
    (broadcast S128x128 (Scalar.ofBits (F := Ideal) .f32 0x00000000#32))) bitsLt_bf16_f32

/-- The same after the two heads of the tile have changed places. -/
def rolled (c : BitVec 32) (q : Vec Ideal S128x128 .bf16) : FVec Ideal S128x128 .bf16 :=
  truncf .bf16 (select (slot c) (dynamicRotate 1 64#32 none
      (extf .f32 (shapeCast S128x128 q shapeCasts_S128x128_S128x128) bitsLt_bf16_f32) rotates_S128x128_d1)
    (broadcast S128x128 (Scalar.ofBits (F := Ideal) .f32 0x00000000#32))) bitsLt_bf16_f32

/-- Eight tiles, one under the other. -/
def stackQ (a0 a1 a2 a3 a4 a5 a6 a7 : FVec Ideal S128x128 .bf16) : FVec Ideal S1024x128 .bf16 :=
  concatenate S1024x128 0 [⟨S128x128, a0⟩, ⟨S128x128, a1⟩, ⟨S128x128, a2⟩, ⟨S128x128, a3⟩, ⟨S128x128, a4⟩, ⟨S128x128, a5⟩, ⟨S128x128, a6⟩, ⟨S128x128, a7⟩] concatenates_S128x128_S128x128_S128x128_S128x128_S128x128_S128x128_S128x128_S128x128_S1024x128_d0

/-- Eight sink scores, each along 128 columns. -/
def stackS (s0 s1 s2 s3 s4 s5 s6 s7 : Elt Ideal .f32) : FVec Ideal S1x1024 .f32 :=
  concatenate S1x1024 1 [⟨S1x128, broadcast S1x128 s0⟩, ⟨S1x128, broadcast S1x128 s1⟩, ⟨S1x128, broadcast S1x128 s2⟩, ⟨S1x128, broadcast S1x128 s3⟩, ⟨S1x128, broadcast S1x128 s4⟩, ⟨S1x128, broadcast S1x128 s5⟩, ⟨S1x128, broadcast S1x128 s6⟩, ⟨S1x128, broadcast S1x128 s7⟩] concatenates_S1x128_S1x128_S1x128_S1x128_S1x128_S1x128_S1x128_S1x128_S1x1024_d1

/-- Scores of the stacked queries, masked out to the named constant. -/
def scores (kk : FVec Ideal S256x128 .bf16) (mask : IVec S256x1024 1) (qs : FVec Ideal S1024x128 .bf16) : FVec Ideal S256x1024 .f32 :=
  select mask (matmul dot_S256x128_S1024x128_S256x1024_1_1_0_0_n_n none kk qs (constant S256x1024 .f32 0x00000000#32))
    (broadcast S256x1024 (Named.named (F := Ideal) κ "mask" 0xF149F2CA#32))

/-- The largest score of a column, the sink's among them. -/
def peak (sc : FVec Ideal S256x1024 .f32) (sk : FVec Ideal S1x1024 .f32) : FVec Ideal S1x1024 .f32 :=
  maximumf (shapeCast S1x1024 (multiReduction .maximumf [0] S1024 sc 0xFF800000#32 reduces_S256x1024_S1024 (.inl rfl) rfl) shapeCasts_S1024_S1x1024) sk

/-- Softmax over the 256 keys and the sink, then the weighted sum of the values; columns are the stacked queries. -/
def mix (vt : FVec Ideal S128x256 .bf16) (sc : FVec Ideal S256x1024 .f32) (sk : FVec Ideal S1x1024 .f32) : FVec Ideal S128x1024 .f32 :=
  let e : FVec Ideal S256x1024 .f32 := exp (subf sc (broadcastTo S256x1024 (peak sc sk) broadcasts_S1x1024_S256x1024))
  let den : FVec Ideal S1x1024 .f32 := addf
    (shapeCast S1x1024 (multiReduction .add [0] S1024 e 0x00000000#32 reduces_S256x1024_S1024 (.inl rfl) rfl) shapeCasts_S1024_S1x1024)
    (exp (subf sk (peak sc sk)))
  mulf (matmul dot_S128x256_S256x1024_S128x1024_1_0_0_1_n_n none vt (truncf .bf16 e bitsLt_bf16_f32) (constant S128x1024 .f32 0x00000000#32))
    (broadcastTo S128x1024 (divf (broadcast S1x1024 (Scalar.ofBits (F := Ideal) .f32 0x3F800000#32)) den) broadcasts_S1x1024_S128x1024)

theorem slot_apply (c : Fin 2) (r l : Fin 128) :
    slot (BitVec.ofNat 32 c.val) (ix2 r l) = 1#1 ↔ l.val / 64 = c.val := by
  pointwise [slot]
  revert c l
  decide +kernel

theorem lone_apply (c : BitVec 32) (q : Vec Ideal S128x128 .bf16) (r l : Fin 128) :
    lone c q (ix2 r l) = if slot c (ix2 r l) = 1#1 then q (ix2 r l) else 0 := by
  pointwise [lone]
  exact select_eq_ite _ _ _

theorem rolled_apply (c : BitVec 32) (q : Vec Ideal S128x128 .bf16) (r l : Fin 128) :
    rolled c q (ix2 r l) = if slot c (ix2 r l) = 1#1 then q (ix2 r ⟨(l.val + 64) % 128, Nat.mod_lt _ (by decide)⟩) else 0 := by
  pointwise [rolled]
  exact select_eq_ite _ _ _

theorem scores_apply (kk : FVec Ideal S256x128 .bf16) (mask : IVec S256x1024 1) (qs : FVec Ideal S1024x128 .bf16)
    (j : Fin 256) (n : Fin 1024) :
    scores kk mask qs (ix2 j n) = if mask (ix2 j n) = 1#1 then ∑ l : Fin 128, (kk (ix2 j l) : EReal) * qs (ix2 n l) else ⊥ := by
  pointwise [scores]
  exact select_eq_ite _ _ _

theorem mix_apply (vt : FVec Ideal S128x256 .bf16) (sc : FVec Ideal S256x1024 .f32) (sk : FVec Ideal S1x1024 .f32)
    (d : Fin 128) (n : Fin 1024) (h : 0 < den (fun j : Fin 256 => (sc (ix2 j n) : EReal)) (sk (ix2 0 n))) :
    mix vt sc sk (ix2 d n) = attn (fun j => sc (ix2 j n)) (fun j => vt (ix2 d j)) (sk (ix2 0 n)) := by
  pointwise [mix, peak]
  rw [ofBits_bot]
  exact attn_eq _ _ _ h

/-- The column number's place in its group of 128, as the kernel spells a signed remainder. -/
theorem rem_word : ∀ n : Fin 1024, (Scalar.select
            (IntOp.andi
              (IntOp.xori
                (IntOp.cmpi CmpIPredicate.slt
                  (IntOp.remsi ArithUnit.vector (BitVec.ofNat 32 ↑n)
                    (Scalar.select (Scalar.cmpi CmpIPredicate.eq 128#32 0#32) 1#32 128#32))
                  0#32)
                (Scalar.cmpi CmpIPredicate.slt (Scalar.select (Scalar.cmpi CmpIPredicate.eq 128#32 0#32) 1#32 128#32)
                  0#32))
              (IntOp.cmpi CmpIPredicate.ne
                (IntOp.remsi ArithUnit.vector (BitVec.ofNat 32 ↑n)
                  (Scalar.select (Scalar.cmpi CmpIPredicate.eq 128#32 0#32) 1#32 128#32))
                0#32))
            (IntOp.addi
              (IntOp.remsi ArithUnit.vector (BitVec.ofNat 32 ↑n)
                (Scalar.select (Scalar.cmpi CmpIPredicate.eq 128#32 0#32) 1#32 128#32))
              (Scalar.select (Scalar.cmpi CmpIPredicate.eq 128#32 0#32) 1#32 128#32))
            (IntOp.remsi ArithUnit.vector (BitVec.ofNat 32 ↑n)
              (Scalar.select (Scalar.cmpi CmpIPredicate.eq 128#32 0#32) 1#32 128#32))) = BitVec.ofNat 32 (n.val % 128) := by
  decide +kernel

theorem band_apply (j : Fin 256) (n : Fin 1024) :
    k0_pay4 (ix2 j n) = 1#1 ↔ n.val % 128 ≤ j.val ∧ j.val ≤ n.val % 128 + 128 := by
  pointwise [k0_pay4]
  rw [rem_word]
  have h : n.val % 128 < 128 := Nat.mod_lt _ (by decide)
  rw [addi_ofNat, andi_iff, sge_iff (by omega) (by omega), sle_iff (by omega) (by omega)]

theorem first_apply (j : Fin 256) (n : Fin 1024) (m : IVec S256x1024 1) (b : BitVec 1) :
    k0_pay8 m b k0_pay7 (ix2 j n) = 1#1 ↔ m (ix2 j n) = 1#1 ∧ (b = 1#1 ∨ 128 ≤ j.val) := by
  pointwise [k0_pay8, k0_pay7]
  rw [andi_iff, ori_iff, sge_iff (by omega) (by omega)]

end Cert.KernelIdeal.Swa
-- ==== Proof.SwaBlock.lean ====
/-
  What one program instance of the sliding-window kernel leaves in its scratch: the attention outcome of its 512 queries,
  sixteen heads beside one another. The thirty-two stored tiles are one function of block, key head and pair of heads, and
  that function is read at an index here.
-/
module

public import proofs.«01_k».proof.Proof.SwaTile

@[expose] public section

set_option maxRecDepth 16384

noncomputable section

namespace Cert.KernelIdeal.Swa

open Cert.KernelIdeal Cert.KernelIdeal.Gen Idealize.ShloMosaic Idealize.ShloMosaic.TcCoe Cert.Words Cert.Reals

theorem inb_tile (u : Fin 4) (h : Fin 8) : ∀ a, (![128 * u.val, 128 * h.val] : Fin 2 → ℕ) a + (![128, 128] : Fin 2 → ℕ) a ≤ S512x1024.size a := by
  intro a; fin_cases a
  · show 128 * u.val + 128 ≤ 512; omega
  · show 128 * h.val + 128 ≤ 1024; omega

theorem inb_one (i : Fin 16) : ∀ a, (![i.val] : Fin 1 → ℕ) a + (![1] : Fin 1 → ℕ) a ≤ S16.size a := by
  intro a; fin_cases a
  show i.val + 1 ≤ 16; omega

/-- Block `u`'s queries of the pair of heads `h`. -/
def qTile (x0 : Vec Ideal S512x1024 .bf16) (u : Fin 4) (h : Fin 8) : Vec Ideal S128x128 .bf16 :=
  View.ld x0 (Rect.unit ![128 * u.val, 128 * h.val] ![128, 128] (inb_tile u h))

/-- Head `i`'s sink score. -/
def sinkOf (x5 : Vec Ideal S16 .f32) (i : Fin 16) : Elt Ideal .f32 :=
  View.ld x5 (Rect.unit ![i.val] ![1] (inb_one i)) (Shape.Idx.first Nat.one_pos)

/-- The `g`-th query head of key head `c`, in the lanes of slot `c`. -/
def qPiece (c : Fin 2) (u : Fin 4) (x0 : Vec Ideal S512x1024 .bf16) (g : Fin 8) : FVec Ideal S128x128 .bf16 :=
  if g.val % 2 = c.val then lone (BitVec.ofNat 32 c.val) (qTile x0 u ⟨4 * c.val + g.val / 2, by omega⟩)
  else rolled (BitVec.ofNat 32 c.val) (qTile x0 u ⟨4 * c.val + g.val / 2, by omega⟩)

/-- The eight query heads of key head `c`, one under the other. -/
def qStack (c : Fin 2) (u : Fin 4) (x0 : Vec Ideal S512x1024 .bf16) : FVec Ideal S1024x128 .bf16 :=
  let f := qPiece c u x0
  stackQ (f 0) (f 1) (f 2) (f 3) (f 4) (f 5) (f 6) (f 7)

/-- Their sink scores. -/
def sStack (c : Fin 2) (x5 : Vec Ideal S16 .f32) : FVec Ideal S1x1024 .f32 :=
  let f := fun g : Fin 8 => sinkOf x5 ⟨8 * c.val + g.val, by omega⟩
  stackS (f 0) (f 1) (f 2) (f 3) (f 4) (f 5) (f 6) (f 7)

theorem slices_rows (u : Fin 4) : S640x128.Slices ![128 * u.val, 0] S256x128 := by
  revert u; decide

theorem slices_half (c : Fin 2) : S128x1024.Slices ![64 * c.val, 0] S64x1024 := by
  revert c; decide

theorem slices_cols (p : Fin 8) : S64x1024.Slices ![0, 128 * p.val] S64x128 := by
  revert p; decide

/-- One stack's attention: key head `c`, queries of block `u`, its own block of keys and the one before. -/
def outcome (c : Fin 2) (u : Fin 4) (mask : IVec S256x1024 1) (x0 : Vec Ideal S512x1024 .bf16) (x1 : Vec Ideal S512x128 .f32)
    (x2 : Vec Ideal S128x128 .f32) (x3 : Vec Ideal S512x128 .f32) (x4 : Vec Ideal S128x128 .f32) (x5 : Vec Ideal S16 .f32) :
    FVec Ideal S128x1024 .f32 :=
  mix (truncf .bf16 (transpose S128x256 [1, 0] (extractStridedSlice S256x128 ![128 * u.val, 0] (k0_pay3 x4 x3) (slices_rows u)) transposes_S256x128_p1_0_S128x256) bitsLt_bf16_f32)
    (scores (extractStridedSlice S256x128 ![128 * u.val, 0] (k0_pay2 x2 x1) (slices_rows u)) mask (qStack c u x0))
    (sStack c x5)

/-- Two heads of an outcome, back beside one another with queries down the rows. -/
def tile (c : Fin 2) (p : Fin 4) (o : FVec Ideal S128x1024 .f32) : FVec Ideal S128x128 .f32 :=
  let half : FVec Ideal S64x1024 .f32 := extractStridedSlice S64x1024 ![64 * c.val, 0] o (slices_half c)
  shapeCast S128x128 (transpose S128x128 [1, 0] (concatenate S128x128 0
    [⟨S64x128, extractStridedSlice S64x128 ![0, 128 * (⟨2 * p.val, by omega⟩ : Fin 8).val] half (slices_cols ⟨2 * p.val, by omega⟩)⟩,
     ⟨S64x128, extractStridedSlice S64x128 ![0, 128 * (⟨2 * p.val + 1, by omega⟩ : Fin 8).val] half (slices_cols ⟨2 * p.val + 1, by omega⟩)⟩]
    concatenates_S64x128_S64x128_S128x128_d0) transposes_S128x128_p1_0_S128x128) shapeCasts_S128x128_S128x128

theorem ld_congr {α : Type} {n m : ℕ} (f : Fin n → Fin m → α) {i i' : Fin n} {j j' : Fin m} (hi : i.val = i'.val) (hj : j.val = j'.val) :
    f i j = f i' j' := by
  rw [Fin.ext hi, Fin.ext hj]

theorem stackQ_apply (f : Fin 8 → FVec Ideal S128x128 .bf16) (n : Fin 1024) (l : Fin 128) :
    stackQ (f 0) (f 1) (f 2) (f 3) (f 4) (f 5) (f 6) (f 7) (ix2 n l) = f ⟨n.val / 128, by omega⟩ (ix2 ⟨n.val % 128, Nat.mod_lt _ (by decide)⟩ l) := by
  pointwise [stackQ]
  have hn := n.isLt
  rcases (by omega : n.val / 128 = 0 ∨ n.val / 128 = 1 ∨ n.val / 128 = 2 ∨ n.val / 128 = 3 ∨ n.val / 128 = 4 ∨ n.val / 128 = 5 ∨ n.val / 128 = 6 ∨ n.val / 128 = 7) with e | e | e | e | e | e | e | e
  all_goals
    repeat first | rw [dif_pos (show (_ : ℕ) < 128 by omega)] | rw [dif_neg (show ¬ (_ : ℕ) < 128 by omega)]
    exact ld_congr (fun g r => f g (ix2 r l)) e.symm (by dsimp only; omega)

theorem stackS_apply (f : Fin 8 → Elt Ideal .f32) (n : Fin 1024) :
    stackS (f 0) (f 1) (f 2) (f 3) (f 4) (f 5) (f 6) (f 7) (ix2 0 n) = f ⟨n.val / 128, by omega⟩ := by
  pointwise [stackS]
  have hn := n.isLt
  rcases (by omega : n.val / 128 = 0 ∨ n.val / 128 = 1 ∨ n.val / 128 = 2 ∨ n.val / 128 = 3 ∨ n.val / 128 = 4 ∨ n.val / 128 = 5 ∨ n.val / 128 = 6 ∨ n.val / 128 = 7) with e | e | e | e | e | e | e | e
  all_goals
    repeat first | rw [dif_pos (show (_ : ℕ) < 128 by omega)] | rw [dif_neg (show ¬ (_ : ℕ) < 128 by omega)]
    exact congrArg f (Fin.ext e.symm)

theorem tile_apply (c : Fin 2) (p : Fin 4) (o : FVec Ideal S128x1024 .f32) (r l : Fin 128) :
    tile c p o (ix2 r l) = o (ix2 ⟨64 * c.val + l.val % 64, by omega⟩ ⟨256 * p.val + 128 * (l.val / 64) + r.val, by omega⟩) := by
  pointwise [tile]
  rcases Nat.lt_or_ge l.val 64 with hl | hl
  · rw [dif_pos hl]
    exact ld_congr (fun a b => o (ix2 a b)) (by dsimp only; omega) (by dsimp only; omega)
  · rw [dif_neg (by omega)]
    exact ld_congr (fun a b => o (ix2 a b)) (by dsimp only; omega) (by dsimp only; omega)

theorem qPiece_apply (c : Fin 2) (u : Fin 4) (x0 : Vec Ideal S512x1024 .bf16) (g : Fin 8) (r l : Fin 128) :
    qPiece c u x0 g (ix2 r l) = if l.val / 64 = c.val then
      x0 (ix2 ⟨128 * u.val + r.val, by omega⟩ ⟨64 * (8 * c.val + g.val) + l.val % 64, by omega⟩) else 0 := by
  unfold qPiece
  split
  · rw [lone_apply]
    simp only [slot_apply]
    split
    · pointwise [qTile]
      exact ld_congr (fun a b => x0 (ix2 a b)) rfl (by dsimp only; omega)
    · rfl
  · rw [rolled_apply]
    simp only [slot_apply]
    split
    · pointwise [qTile]
      exact ld_congr (fun a b => x0 (ix2 a b)) rfl (by dsimp only; omega)
    · rfl

/-- The rows of keys or values an instance sees: the last 128 of the instance before, then its own 512. -/
def rowsOf (prev : Vec Ideal S128x128 .f32) (own : Vec Ideal S512x128 .f32) (j : Fin 640) (l : Fin 128) : EReal :=
  if h : j.val < 128 then prev (ix2 ⟨j.val, h⟩ l) else own (ix2 ⟨j.val - 128, by omega⟩ l)

theorem pay2_apply (x2 : Vec Ideal S128x128 .f32) (x1 : Vec Ideal S512x128 .f32) (j : Fin 640) (l : Fin 128) :
    k0_pay2 x2 x1 (ix2 j l) = rowsOf x2 x1 j l := by
  pointwise [k0_pay2]
  rfl

theorem pay3_apply (x4 : Vec Ideal S128x128 .f32) (x3 : Vec Ideal S512x128 .f32) (j : Fin 640) (l : Fin 128) :
    k0_pay3 x4 x3 (ix2 j l) = rowsOf x4 x3 j l := by
  pointwise [k0_pay3]
  rfl

end Cert.KernelIdeal.Swa
-- ==== Proof.SwaOut.lean ====
/-
  The outcome of one sliding-window stack at an index: the attention of one query of one head over the 256 keys of its own
  block and the block before.
-/
module

public import proofs.«01_k».proof.Proof.SwaBlock

@[expose] public section

set_option maxRecDepth 16384

noncomputable section

namespace Cert.KernelIdeal.Swa

open Cert.KernelIdeal Cert.KernelIdeal.Gen Idealize.ShloMosaic Idealize.ShloMosaic.TcCoe Cert.Words Cert.Reals

/-- A sum over 128 lanes of which only slot `c` counts is a sum over the 64 lanes of that slot. -/
theorem sum_slot (c : Fin 2) (a b : Fin 128 → EReal) :
    (∑ l : Fin 128, a l * (if l.val / 64 = c.val then b l else 0)) = ∑ d : Fin 64, a ⟨64 * c.val + d.val, by omega⟩ * b ⟨64 * c.val + d.val, by omega⟩ := by
  simp only [mul_ite, mul_zero]
  rw [← Finset.sum_filter]
  refine (Finset.sum_bij (fun (d : Fin 64) _ => (⟨64 * c.val + d.val, by omega⟩ : Fin 128)) ?_ ?_ ?_ ?_).symm
  · intro d _; simp only [Finset.mem_filter, Finset.mem_univ, true_and]; omega
  · intro d _ d' _ h
    have := congrArg Fin.val h
    exact Fin.ext (by dsimp only at this; omega)
  · intro l hl
    have hl := (Finset.mem_filter.1 hl).2
    exact ⟨⟨l.val % 64, by omega⟩, Finset.mem_univ _, Fin.ext (by dsimp only; omega)⟩
  · intro d _; rfl

/-- Which of its 256 keys a query sees: none after itself, none more than 128 before, none before the sequence begins. -/
def seen (b : BitVec 1) (row : Fin 512) (j : Fin 256) : Prop :=
  (row.val % 128 ≤ j.val ∧ j.val ≤ row.val % 128 + 128) ∧ (row.val / 128 ≠ 0 ∨ b = 1#1 ∨ 128 ≤ j.val)

instance (b : BitVec 1) (row : Fin 512) (j : Fin 256) : Decidable (seen b row j) := by unfold seen; infer_instance

/-- The score of query `row` of head `hd` against key `j`. -/
def score (b : BitVec 1) (x0 : Vec Ideal S512x1024 .bf16) (x1 : Vec Ideal S512x128 .f32) (x2 : Vec Ideal S128x128 .f32)
    (row : Fin 512) (hd : Fin 16) (j : Fin 256) : EReal :=
  if seen b row j then ∑ d : Fin 64, rowsOf x2 x1 ⟨128 * (row.val / 128) + j.val, by omega⟩ ⟨64 * (hd.val / 8) + d.val, by omega⟩
    * x0 (ix2 row ⟨64 * hd.val + d.val, by omega⟩) else ⊥

/-- Coordinate `d` of the attention of query `row` of head `hd`. -/
def attended (b : BitVec 1) (x0 : Vec Ideal S512x1024 .bf16) (x1 : Vec Ideal S512x128 .f32) (x2 : Vec Ideal S128x128 .f32)
    (x3 : Vec Ideal S512x128 .f32) (x4 : Vec Ideal S128x128 .f32) (x5 : Vec Ideal S16 .f32) (row : Fin 512) (hd : Fin 16) (d : Fin 64) : EReal :=
  attn (score b x0 x1 x2 row hd) (fun j => rowsOf x4 x3 ⟨128 * (row.val / 128) + j.val, by omega⟩ ⟨64 * (hd.val / 8) + d.val, by omega⟩) (sinkOf x5 hd)

section
variable (b : BitVec 1) (x0 : Vec Ideal S512x1024 .bf16) (x1 : Vec Ideal S512x128 .f32) (x2 : Vec Ideal S128x128 .f32)
    (x3 : Vec Ideal S512x128 .f32) (x4 : Vec Ideal S128x128 .f32) (x5 : Vec Ideal S16 .f32)

/-- The mask of block `u`: a band, cut off at the sequence's beginning in the first block. -/
def Masks (u : Fin 4) (mask : IVec S256x1024 1) : Prop :=
  ∀ (j : Fin 256) (n : Fin 1024), mask (ix2 j n) = 1#1 ↔ seen b ⟨128 * u.val + n.val % 128, by omega⟩ j

theorem masks_first : Masks b 0 (k0_pay8 k0_pay4 b k0_pay7) := by
  intro j n
  rw [first_apply, band_apply]
  unfold seen
  dsimp only
  rw [show (128 * (0 : Fin 4).val + n.val % 128) = n.val % 128 by simp]
  constructor
  · rintro ⟨h, h'⟩; exact ⟨by omega, Or.inr h'⟩
  · rintro ⟨h, h'⟩
    refine ⟨by omega, ?_⟩
    rcases h' with h' | h'
    · omega
    · exact h'

theorem masks_later (u : Fin 4) (hu : u ≠ 0) : Masks b u k0_pay4 := by
  intro j n
  rw [band_apply]
  unfold seen
  dsimp only
  have : u.val ≠ 0 := fun h => hu (Fin.ext h)
  constructor
  · intro h; exact ⟨by omega, Or.inl (by omega)⟩
  · rintro ⟨h, _⟩; omega

theorem outcome_score (c : Fin 2) (u : Fin 4) (mask : IVec S256x1024 1) (hm : Masks b u mask) (j : Fin 256) (n : Fin 1024) :
    scores (extractStridedSlice S256x128 ![128 * u.val, 0] (k0_pay2 x2 x1) (slices_rows u)) mask (qStack c u x0) (ix2 j n)
      = score b x0 x1 x2 ⟨128 * u.val + n.val % 128, by omega⟩ ⟨8 * c.val + n.val / 128, by omega⟩ j := by
  rw [scores_apply]
  unfold score
  refine if_congr (hm j n) ?_ rfl
  simp only [qStack, stackQ_apply, qPiece_apply]
  rw [sum_slot]
  refine Finset.sum_congr rfl fun d _ => ?_
  congr 1
  · refine Eq.trans (b := k0_pay2 x2 x1 (ix2 ⟨128 * u.val + j.val, by omega⟩ ⟨64 * c.val + d.val, by omega⟩)) ?_ ?_
    · pointwise
    · rw [pay2_apply]
      exact ld_congr (rowsOf x2 x1) (by dsimp only; omega) (by dsimp only; omega)
  · exact ld_congr (fun r l => x0 (ix2 r l)) (by dsimp only) (by dsimp only; omega)

theorem outcome_value (u : Fin 4) (l : Fin 128) (j : Fin 256) :
    (truncf .bf16 (transpose S128x256 [1, 0] (extractStridedSlice S256x128 ![128 * u.val, 0] (k0_pay3 x4 x3) (slices_rows u)) transposes_S256x128_p1_0_S128x256) bitsLt_bf16_f32 : FVec Ideal S128x256 .bf16) (ix2 l j)
      = rowsOf x4 x3 ⟨128 * u.val + j.val, by omega⟩ l := by
  rw [← pay3_apply]
  pointwise

theorem outcome_apply (c : Fin 2) (u : Fin 4) (mask : IVec S256x1024 1) (hm : Masks b u mask)
    (hd : ∀ row hd, 0 < den (score b x0 x1 x2 row hd) (sinkOf x5 hd)) (d : Fin 64) (n : Fin 1024) :
    outcome c u mask x0 x1 x2 x3 x4 x5 (ix2 ⟨64 * c.val + d.val, by omega⟩ n)
      = attended b x0 x1 x2 x3 x4 x5 ⟨128 * u.val + n.val % 128, by omega⟩ ⟨8 * c.val + n.val / 128, by omega⟩ d := by
  have hs : sStack c x5 (ix2 0 n) = sinkOf x5 ⟨8 * c.val + n.val / 128, by omega⟩ := by
    unfold sStack
    exact stackS_apply (fun g : Fin 8 => sinkOf x5 ⟨8 * c.val + g.val, by omega⟩) n
  have hsc := fun j => outcome_score b x0 x1 x2 c u mask hm j n
  unfold outcome
  rw [mix_apply]
  · simp only [hsc, hs, outcome_value]
    unfold attended
    congr 1
    funext j
    exact (outcome_value x3 x4 u _ j).trans (ld_congr (rowsOf x4 x3) (by dsimp only; omega) (by dsimp only; omega))
  · simp only [hsc, hs]
    exact hd _ _

theorem piece_apply (c : Fin 2) (u : Fin 4) (p : Fin 4) (mask : IVec S256x1024 1) (hm : Masks b u mask)
    (hd : ∀ row hd, 0 < den (score b x0 x1 x2 row hd) (sinkOf x5 hd)) (r l : Fin 128) :
    tile c p (outcome c u mask x0 x1 x2 x3 x4 x5) (ix2 r l)
      = attended b x0 x1 x2 x3 x4 x5 ⟨128 * u.val + r.val, by omega⟩ ⟨8 * c.val + 2 * p.val + l.val / 64, by omega⟩ ⟨l.val % 64, by omega⟩ := by
  rw [tile_apply]
  refine (outcome_apply b x0 x1 x2 x3 x4 x5 c u mask hm hd ⟨l.val % 64, by omega⟩ _).trans ?_
  exact ld_congr (fun r h => attended b x0 x1 x2 x3 x4 x5 r h _) (by dsimp only; omega) (by dsimp only; omega)

theorem inb_piece (c : Fin 2) (u : Fin 4) (p : Fin 4) :
    ∀ a, (![128 * u.val, 512 * c.val + 128 * p.val] : Fin 2 → ℕ) a + (![128, 128] : Fin 2 → ℕ) a ≤ S512x1024.size a := by
  intro a; fin_cases a
  · show 128 * u.val + 128 ≤ 512; omega
  · show 512 * c.val + 128 * p.val + 128 ≤ 1024; omega

/-- The attention of all 512 queries, sixteen heads of 64 lanes beside one another. -/
def wide : Vec Ideal S512x1024 .f32 := fun y =>
  attended b x0 x1 x2 x3 x4 x5 (y 0) ⟨(y 1).val / 64, by have h : (y 1).val < 1024 := (y 1).isLt; omega⟩ ⟨(y 1).val % 64, by omega⟩

/-- A stored tile is a block of the whole. -/
theorem piece_wide (c : Fin 2) (u : Fin 4) (p : Fin 4) (mask : IVec S256x1024 1) (hm : Masks b u mask)
    (hd : ∀ row hd, 0 < den (score b x0 x1 x2 row hd) (sinkOf x5 hd))
    (x : (Rect.unit (s := S512x1024) ![128 * u.val, 512 * c.val + 128 * p.val] ![128, 128] (inb_piece c u p)).shape.Idx) :
    tile c p (outcome c u mask x0 x1 x2 x3 x4 x5) x
      = wide b x0 x1 x2 x3 x4 x5 ((Rect.unit (s := S512x1024) ![128 * u.val, 512 * c.val + 128 * p.val] ![128, 128] (inb_piece c u p)).emb x) := by
  have hx : x = ix2 (x 0) (x 1) := by
    funext a; fin_cases a <;> rfl
  have h0 : (x 0).val < 128 := (x 0).isLt
  have h1 : (x 1).val < 128 := (x 1).isLt
  rw [hx]
  refine (piece_apply b x0 x1 x2 x3 x4 x5 c u p mask hm hd ⟨(x 0).val, h0⟩ ⟨(x 1).val, h1⟩).trans ?_
  unfold wide
  have e0 : (((Rect.unit (s := S512x1024) ![128 * u.val, 512 * c.val + 128 * p.val] ![128, 128] (inb_piece c u p)).emb x) 0).val = 128 * u.val + (x 0).val := by
    show 128 * u.val + 1 * (x 0).val = _; omega
  have e1 : (((Rect.unit (s := S512x1024) ![128 * u.val, 512 * c.val + 128 * p.val] ![128, 128] (inb_piece c u p)).emb x) 1).val = 512 * c.val + 128 * p.val + (x 1).val := by
    show 512 * c.val + 128 * p.val + 1 * (x 1).val = _; omega
  rw [← hx]
  refine congr (congr (congrArg (attended b x0 x1 x2 x3 x4 x5) (Fin.ext ?_)) (Fin.ext ?_)) (Fin.ext ?_)
  · rw [e0]
  · dsimp only; rw [e1]; omega
  · dsimp only; rw [e1]; omega
end

end Cert.KernelIdeal.Swa
-- ==== Proof.SwaBody.lean ====
/-
  What the body of the sliding-window kernel stores: the residual plus the gated attention through the output projection.
-/
module

public import proofs.«01_k».proof.Proof.SwaOut
public import Idealize.ShloMosaic.Lib.Pipeline.ReadBack
public import Idealize.ShloMosaic.Lib.VecWindow

@[expose] public section

set_option maxRecDepth 16384

noncomputable section

namespace Cert.KernelIdeal.Swa

open Cert.KernelIdeal Cert.KernelIdeal.Gen Idealize.ShloMosaic Idealize.ShloMosaic.TcCoe Cert.Words Cert.Reals

/-- The word that says whether there is a block before the instance's first. -/
def early (n : ℕ) : BitVec 1 := Scalar.cmpi .sgt (BitVec.ofNat 32 n) 0#32

/-- Tiles that are blocks of one array, and cover it, read back as that array. -/
theorem readCov_tiles {sig : RefSig} {κ : Kind} {sp : Space} (v : View sig κ sp S512x1024 .f32) (W : Vec Ideal S512x1024 .f32)
    (L : List (View.Piece (Elt Ideal) S512x1024 .f32)) (inb : ∀ a, (![0, 0] : Fin 2 → ℕ) a + S512x1024.size a ≤ S512x1024.size a)
    (h : View.PiecesOf W L) (ht : View.Piece.tiledL L ![128, 128] = true) :
    v.readCov L (Rect.unit ![0, 0] S512x1024.size inb).toLoadRect = W := by
  rw [View.readCov_eq_canon']
  funext z
  refine (View.canon_apply_of_pieces W L h.mem _ (View.cover_of_tiledL L ![128, 128] ht _)).trans (congrArg W ?_)
  exact Rect.emb_unit_full _ z

set_option maxHeartbeats 2000000 in
theorem out_wide (c : Dev nD) (i : grid0.Coords) (arg1 : Memref sig .tc .vmem S512x1024 .bf16) (harg1 : arg1.IsWhole) (arg2 : Memref sig .tc .vmem S512x128 .f32) (harg2 : arg2.IsWhole) (arg3 : Memref sig .tc .vmem S128x128 .f32) (harg3 : arg3.IsWhole) (arg4 : Memref sig .tc .vmem S512x128 .f32) (harg4 : arg4.IsWhole) (arg5 : Memref sig .tc .vmem S128x128 .f32) (harg5 : arg5.IsWhole) (arg6 : Memref sig .tc .smem S16 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1024x1024 .bf16) (harg9 : arg9.IsWhole) (arg10 : Memref sig .tc .vmem S512x1024 .f32) (harg10 : arg10.IsWhole) (arg11 : Memref sig .tc .vmem S512x1024 .f32) (harg11 : arg11.IsWhole)
    (x0 : Vec Ideal S512x1024 .bf16) (x1 : Vec Ideal S512x128 .f32) (x2 : Vec Ideal S128x128 .f32) (x3 : Vec Ideal S512x128 .f32) (x4 : Vec Ideal S128x128 .f32) (x5 : Vec Ideal S16 .f32) (x6 : Vec Ideal S512x1024 .f32) (x7 : Vec Ideal S512x1024 .f32) (x8 : Vec Ideal S1024x1024 .bf16)
    (hd : ∀ row hd, 0 < den (score (early (i 0).val) x0 x1 x2 row hd) (sinkOf x5 hd)) (y : S512x1024.Idx) :
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 y = k0_pay1 (k0_pay181 x7) (wide (early (i 0).val) x0 x1 x2 x3 x4 x5) x6 x8 y := by
  have piece := piece_wide (early (i 0).val) x0 x1 x2 x3 x4 x5
  have first := masks_first (early (i 0).val)
  have later := masks_later (early (i 0).val)
  frame_out
  rw [readCov_tiles _ (wide (early (i 0).val) x0 x1 x2 x3 x4 x5)]
  · exact ⟨piece 1 3 3 k0_pay4 (later 3 (by decide)) hd,
      piece 1 3 2 k0_pay4 (later 3 (by decide)) hd,
      piece 1 3 1 k0_pay4 (later 3 (by decide)) hd,
      piece 1 3 0 k0_pay4 (later 3 (by decide)) hd,
      piece 0 3 3 k0_pay4 (later 3 (by decide)) hd,
      piece 0 3 2 k0_pay4 (later 3 (by decide)) hd,
      piece 0 3 1 k0_pay4 (later 3 (by decide)) hd,
      piece 0 3 0 k0_pay4 (later 3 (by decide)) hd,
      piece 1 2 3 k0_pay4 (later 2 (by decide)) hd,
      piece 1 2 2 k0_pay4 (later 2 (by decide)) hd,
      piece 1 2 1 k0_pay4 (later 2 (by decide)) hd,
      piece 1 2 0 k0_pay4 (later 2 (by decide)) hd,
      piece 0 2 3 k0_pay4 (later 2 (by decide)) hd,
      piece 0 2 2 k0_pay4 (later 2 (by decide)) hd,
      piece 0 2 1 k0_pay4 (later 2 (by decide)) hd,
      piece 0 2 0 k0_pay4 (later 2 (by decide)) hd,
      piece 1 1 3 k0_pay4 (later 1 (by decide)) hd,
      piece 1 1 2 k0_pay4 (later 1 (by decide)) hd,
      piece 1 1 1 k0_pay4 (later 1 (by decide)) hd,
      piece 1 1 0 k0_pay4 (later 1 (by decide)) hd,
      piece 0 1 3 k0_pay4 (later 1 (by decide)) hd,
      piece 0 1 2 k0_pay4 (later 1 (by decide)) hd,
      piece 0 1 1 k0_pay4 (later 1 (by decide)) hd,
      piece 0 1 0 k0_pay4 (later 1 (by decide)) hd,
      piece 1 0 3 (k0_pay8 k0_pay4 (early (i 0).val) k0_pay7) first hd,
      piece 1 0 2 (k0_pay8 k0_pay4 (early (i 0).val) k0_pay7) first hd,
      piece 1 0 1 (k0_pay8 k0_pay4 (early (i 0).val) k0_pay7) first hd,
      piece 1 0 0 (k0_pay8 k0_pay4 (early (i 0).val) k0_pay7) first hd,
      piece 0 0 3 (k0_pay8 k0_pay4 (early (i 0).val) k0_pay7) first hd,
      piece 0 0 2 (k0_pay8 k0_pay4 (early (i 0).val) k0_pay7) first hd,
      piece 0 0 1 (k0_pay8 k0_pay4 (early (i 0).val) k0_pay7) first hd,
      piece 0 0 0 (k0_pay8 k0_pay4 (early (i 0).val) k0_pay7) first hd, trivial⟩
  · sl_kernel_rfl

end Cert.KernelIdeal.Swa
-- ==== Proof.SwaBlocks.lean ====
/-
  The blocks an instance of the sliding-window kernel is handed, read in the arguments.
-/
module

public import proofs.«01_k».proof.Proof.SwaBody

@[expose] public section

set_option maxRecDepth 16384

noncomputable section

namespace Cert.KernelIdeal.Swa

open Cert.KernelIdeal Cert.KernelIdeal.Gen Idealize.ShloMosaic Idealize.ShloMosaic.TcCoe Cert.Words Cert.Reals

theorem idx : ∀ t : Fin cfg0.N, t.val < 32 ∧ (grid0.coords t 0).val = t.val ∧ win0_0.index t = ![t.val, 0] ∧ win0_1.index t = ![t.val, 0]
    ∧ win0_2.index t = ![4 * t.val - 1, 0] ∧ win0_3.index t = ![t.val, 0] ∧ win0_4.index t = ![4 * t.val - 1, 0] ∧ win0_5.index t = ![0]
    ∧ win0_6.index t = ![t.val, 0] ∧ win0_7.index t = ![t.val, 0] ∧ win0_8.index t = ![0, 0] ∧ win0_9.index t = ![t.val, 0] :=
  (by decide +kernel : ∀ t : Fin grid0.N, _)

variable (m : (ℓ : Loc nD τ sig) → Buf (Elt Ideal) ℓ) (c : Dev nD)

/-! The arguments by name. -/
abbrev argH : Vec Ideal S1x16384x1024 .f32 := m (c, Proc.tc.devRef main_arg0)
abbrev argQ : Vec Ideal S1x16384x16x64 .f32 := m (c, Proc.tc.devRef main_arg1)
abbrev argK : Vec Ideal S1x16384x2x64 .f32 := m (c, Proc.tc.devRef main_arg2)
abbrev argV : Vec Ideal S1x16384x2x64 .f32 := m (c, Proc.tc.devRef main_arg3)
abbrev argG : Vec Ideal S1x16384x1024 .f32 := m (c, Proc.tc.devRef main_arg4)
abbrev argS : Vec Ideal S1x16 .f32 := m (c, Proc.tc.devRef main_arg5)
abbrev argW : Vec Ideal S1x1024x1024 .f32 := m (c, Proc.tc.devRef main_arg6)

theorem q_at (t : Fin cfg0.N) (r : Fin 512) (l : Fin 1024) :
    iblk m c 0 t (ix2 r l) = argQ m c (ix4 0 ⟨512 * t.val + r.val, by have := (idx t).1; omega⟩ ⟨l.val / 64, by omega⟩ ⟨l.val % 64, by omega⟩) * Ideal.ofBits .f32 0x3E000000#32 := by
  have e : ((View.whole main_v3).slice (win0_0.rect t)).emb (ix2 r l) = ix2 ⟨512 * t.val + r.val, by have := (idx t).1; omega⟩ l := by
    blk_ext [iblk, V, idx t]
  blk_simp [iblk]
  entry_read
  rw [e]
  pointwise

theorem k_at (t : Fin cfg0.N) (r : Fin 512) (l : Fin 128) :
    iblk m c 1 t (ix2 r l) = argK m c (ix4 0 ⟨512 * t.val + r.val, by have := (idx t).1; omega⟩ ⟨l.val / 64, by omega⟩ ⟨l.val % 64, by omega⟩) := by
  have e : ((View.whole main_v4).slice (win0_1.rect t)).emb (ix2 r l) = ix2 ⟨512 * t.val + r.val, by have := (idx t).1; omega⟩ l := by
    blk_ext [iblk, V, idx t]
  blk_simp [iblk]
  entry_read
  rw [e]
  pointwise

theorem kp_at (t : Fin cfg0.N) (r : Fin 128) (l : Fin 128) :
    iblk m c 2 t (ix2 r l) = argK m c (ix4 0 ⟨128 * (4 * t.val - 1) + r.val, by have := (idx t).1; omega⟩ ⟨l.val / 64, by omega⟩ ⟨l.val % 64, by omega⟩) := by
  have e : ((View.whole main_v4).slice (win0_2.rect t)).emb (ix2 r l) = ix2 ⟨128 * (4 * t.val - 1) + r.val, by have := (idx t).1; omega⟩ l := by
    blk_ext [iblk, V, idx t]
  blk_simp [iblk]
  entry_read
  rw [e]
  pointwise

theorem v_at (t : Fin cfg0.N) (r : Fin 512) (l : Fin 128) :
    iblk m c 3 t (ix2 r l) = argV m c (ix4 0 ⟨512 * t.val + r.val, by have := (idx t).1; omega⟩ ⟨l.val / 64, by omega⟩ ⟨l.val % 64, by omega⟩) := by
  have e : ((View.whole main_v5).slice (win0_3.rect t)).emb (ix2 r l) = ix2 ⟨512 * t.val + r.val, by have := (idx t).1; omega⟩ l := by
    blk_ext [iblk, V, idx t]
  blk_simp [iblk]
  entry_read
  rw [e]
  pointwise

theorem vp_at (t : Fin cfg0.N) (r : Fin 128) (l : Fin 128) :
    iblk m c 4 t (ix2 r l) = argV m c (ix4 0 ⟨128 * (4 * t.val - 1) + r.val, by have := (idx t).1; omega⟩ ⟨l.val / 64, by omega⟩ ⟨l.val % 64, by omega⟩) := by
  have e : ((View.whole main_v5).slice (win0_4.rect t)).emb (ix2 r l) = ix2 ⟨128 * (4 * t.val - 1) + r.val, by have := (idx t).1; omega⟩ l := by
    blk_ext [iblk, V, idx t]
  blk_simp [iblk]
  entry_read
  rw [e]
  pointwise

theorem s_at (t : Fin cfg0.N) (r : Fin 16) : iblk m c 5 t (ix1 r) = argS m c (ix2 0 r) := by
  have e : ((View.whole main_v6).slice (win0_5.rect t)).emb (ix1 r) = ix1 r := by
    blk_ext [iblk, V, idx t]
  blk_simp [iblk]
  entry_read
  rw [e]
  pointwise

theorem g_at (t : Fin cfg0.N) (r : Fin 512) (l : Fin 1024) :
    iblk m c 6 t (ix2 r l) = argG m c (ix3 0 ⟨512 * t.val + r.val, by have := (idx t).1; omega⟩ l) := by
  have e : ((View.whole main_v7).slice (win0_6.rect t)).emb (ix2 r l) = ix2 ⟨512 * t.val + r.val, by have := (idx t).1; omega⟩ l := by
    blk_ext [iblk, V, idx t]
  blk_simp [iblk]
  entry_read
  rw [e]
  pointwise

theorem h_at (t : Fin cfg0.N) (r : Fin 512) (l : Fin 1024) :
    iblk m c 7 t (ix2 r l) = argH m c (ix3 0 ⟨512 * t.val + r.val, by have := (idx t).1; omega⟩ l) := by
  have e : ((View.whole main_v8).slice (win0_7.rect t)).emb (ix2 r l) = ix2 ⟨512 * t.val + r.val, by have := (idx t).1; omega⟩ l := by
    blk_ext [iblk, V, idx t]
  blk_simp [iblk]
  entry_read
  rw [e]
  pointwise

theorem w_at (t : Fin cfg0.N) (r : Fin 1024) (l : Fin 1024) :
    iblk m c 8 t (ix2 r l) = argW m c (ix3 0 r l) := by
  have e : ((View.whole main_v10).slice (win0_8.rect t)).emb (ix2 r l) = ix2 r l := by
    blk_ext [iblk, V, idx t]
  blk_simp [iblk]
  entry_read
  rw [e]
  pointwise

end Cert.KernelIdeal.Swa
-- ==== Proof.SwaRef.lean ====
/-
  The sliding-window reference in stages, and each stage at an index: the keys of a block with the block before, the masked
  scores, their softmax with the sink, the mixture of values.
-/
module

public import proofs.«01_k».proof.Proof.Gen.ReferenceIdeal.Run
public import Idealize.ShloMosaic.Lib.Pipeline.ValueKit
public import Idealize.ShloMosaic.Lib.Pointwise
public import proofs.«01_k».proof.Proof.Words
public import proofs.«01_k».proof.Proof.Reals

@[expose] public section

set_option maxRecDepth 16384

noncomputable section

namespace Cert.ReferenceIdeal.Swa

open Cert.ReferenceIdeal Cert.ReferenceIdeal.Gen Idealize.ShloMosaic Idealize.ShloMosaic.TcCoe Idealize.ShloMosaic.StableHlo Cert.Words Cert.Reals

/-- Every block of 128 rows behind the block before it; before the first block zeros. -/
def twice (k : FVec Ideal S1x16384x2x64 .f32) : FVec Ideal S1x128x256x2x64 .f32 :=
  let own : FVec Ideal S1x128x128x2x64 .f32 := shapeCast _ k shapeCasts_S1x16384x2x64_S1x128x128x2x64
  concatenate S1x128x256x2x64 2 [⟨S1x128x128x2x64, extractStridedSlice S1x128x128x2x64 ![0, 0, 0, 0, 0]
      (pad S1x129x128x2x64 ![0, 1, 0, 0, 0] ![0, 0, 0, 0, 0] ![0, 0, 0, 0, 0] own (sitofp (F := Ideal) .f32 (constantI S_ 32 0#32)) pads_S1x128x128x2x64_S1x129x128x2x64_000_100_000_000_000 h_S_)
      slices_S1x129x128x2x64_S1x128x128x2x64_0_0_0_0_0⟩, ⟨S1x128x128x2x64, own⟩] concatenates_S1x128x128x2x64_S1x128x128x2x64_S1x128x256x2x64_d2

/-- Which keys of the two blocks a query sees. -/
def seen : IVec S128x128x256 1 :=
  let i : IVec S128x1 32 := broadcastInDim S128x1 ![0] bcast_S128_S128x1_0 (iotaInDim S128 32 0)
  let j : IVec S1x256 32 := broadcastInDim S1x256 ![1] bcast_S256_S1x256_1 (iotaInDim S256 32 0)
  let band : IVec S128x256 1 := andi
    (cmpi .sge (broadcastInDim S128x256 ![0, 1] bcast_S1x256_S128x256_0_1 j) (broadcastInDim S128x256 ![0, 1] bcast_S128x1_S128x256_0_1 i))
    (cmpi .sle (broadcastInDim S128x256 ![0, 1] bcast_S1x256_S128x256_0_1 j) (broadcastInDim S128x256 ![0, 1] bcast_S128x1_S128x256_0_1
      (addi i (broadcastInDim S128x1 ![] bcast_S_S128x1 (constantI S_ 32 128#32)))))
  let later : IVec S128x1x1 1 := cmpi .sgt (broadcastInDim S128x1x1 ![0] bcast_S128_S128x1x1_0 (iotaInDim S128 32 0)) (broadcastInDim S128x1x1 ![] bcast_S_S128x1x1 (constantI S_ 32 0#32))
  let own : IVec S1x256 1 := cmpi .sge j (broadcastInDim S1x256 ![] bcast_S_S1x256 (constantI S_ 32 128#32))
  andi (broadcastInDim S128x128x256 ![0, 1, 2] bcast_S1x128x256_S128x128x256_0_1_2 (broadcastInDim S1x128x256 ![1, 2] bcast_S128x256_S1x128x256_1_2 band))
    (broadcastInDim S128x128x256 ![0, 1, 2] bcast_S128x1x256_S128x128x256_0_1_2
      (ori (broadcastInDim S128x1x256 ![0, 1, 2] bcast_S128x1x1_S128x1x256_0_1_2 later)
        (broadcastInDim S128x1x256 ![0, 1, 2] bcast_S1x1x256_S128x1x256_0_1_2 (broadcastInDim S1x1x256 ![1, 2] bcast_S1x256_S1x1x256_1_2 own))))

/-- The masked scores. -/
def scores (q : FVec Ideal S1x16384x16x64 .f32) (kk : FVec Ideal S1x128x256x2x64 .f32) : FVec Ideal S1x128x2x8x128x256 .f32 :=
  select (broadcastInDim S1x128x2x8x128x256 ![0, 1, 2, 3, 4, 5] bcast_S1x128x1x1x128x256_S1x128x2x8x128x256_0_1_2_3_4_5
      (broadcastInDim S1x128x1x1x128x256 ![1, 4, 5] bcast_S128x128x256_S1x128x1x1x128x256_1_4_5 seen))
    (mulf (transpose S1x128x2x8x128x256 [0, 1, 2, 5, 4, 3]
        (Host.dotGeneral (φ₁ := .f32) (φ₂ := .f32) (F := Ideal) dot_S1x128x256x2x64_S1x128x128x2x8x64_S1x128x2x256x128x8_4_5_2_24_013_013 none kk
          (shapeCast _ q shapeCasts_S1x16384x16x64_S1x128x128x2x8x64 : FVec Ideal S1x128x128x2x8x64 .f32))
        transposes_S1x128x2x256x128x8_S1x128x2x8x128x256_0_1_2_5_4_3)
      (broadcastInDim S1x128x2x8x128x256 ![] bcast_S_S1x128x2x8x128x256 (constant (F := Ideal) S_ .f32 0x3E000000#32)))
    (broadcastInDim S1x128x2x8x128x256 ![] bcast_S_S1x128x2x8x128x256 (id (constant (F := Ideal) S_ .f32 0xFF800000#32)))

/-- The sink scores, one per head. -/
def sinks (s : FVec Ideal S1x16 .f32) : FVec Ideal S2x8x1x1 .f32 :=
  shapeCast _ (shapeCast _ s shapeCasts_S1x16_S16 : FVec Ideal S16 .f32) shapeCasts_S16_S2x8x1x1

/-- The greatest of a query's scores. -/
def rowMax (sc : FVec Ideal S1x128x2x8x128x256 .f32) : FVec Ideal S1x128x2x8x128 .f32 :=
  Host.reduce (FloatOps.maximumf (F := Ideal)) sc (constant (F := Ideal) S_ .f32 0xFF800000#32) reducesTo_S1x128x2x8x128x256_S1x128x2x8x128_d5 h_S_

/-- The sum over a query's scores. -/
def rowSum (x : FVec Ideal S1x128x2x8x128x256 .f32) : FVec Ideal S1x128x2x8x128 .f32 :=
  Host.reduceAdd x (constant (F := Ideal) S_ .f32 0x00000000#32) reducesTo_S1x128x2x8x128x256_S1x128x2x8x128_d5 h_S_

/-- The greatest of a query's scores and its head's sink. -/
def peak (sc : FVec Ideal S1x128x2x8x128x256 .f32) (sk : FVec Ideal S2x8x1x1 .f32) : FVec Ideal S1x128x2x8x128x1 .f32 :=
  maximumf (broadcastInDim S1x128x2x8x128x1 ![0, 1, 2, 3, 4] bcast_S1x128x2x8x128_S1x128x2x8x128x1_0_1_2_3_4 (rowMax sc))
    (broadcastInDim S1x128x2x8x128x1 ![0, 1, 2, 3, 4, 5] bcast_S1x1x2x8x1x1_S1x128x2x8x128x1_0_1_2_3_4_5
      (broadcastInDim S1x1x2x8x1x1 ![2, 3, 4, 5] bcast_S2x8x1x1_S1x1x2x8x1x1_2_3_4_5 sk))

/-- The numerators of the softmax. -/
def lifted (sc : FVec Ideal S1x128x2x8x128x256 .f32) (mx : FVec Ideal S1x128x2x8x128x1 .f32) : FVec Ideal S1x128x2x8x128x256 .f32 :=
  Host.exp (subf sc (broadcastInDim S1x128x2x8x128x256 ![0, 1, 2, 3, 4, 5] bcast_S1x128x2x8x128x1_S1x128x2x8x128x256_0_1_2_3_4_5 mx))

/-- The softmax with the sink in its denominator. -/
def probs (sc : FVec Ideal S1x128x2x8x128x256 .f32) (sk : FVec Ideal S2x8x1x1 .f32) : FVec Ideal S1x128x2x8x128x256 .f32 :=
  Host.divf (lifted sc (peak sc sk)) (broadcastInDim S1x128x2x8x128x256 ![0, 1, 2, 3, 4, 5] bcast_S1x128x2x8x128x1_S1x128x2x8x128x256_0_1_2_3_4_5
    (addf (broadcastInDim S1x128x2x8x128x1 ![0, 1, 2, 3, 4] bcast_S1x128x2x8x128_S1x128x2x8x128x1_0_1_2_3_4 (rowSum (lifted sc (peak sc sk))))
      (Host.exp (subf (broadcastInDim S1x128x2x8x128x1 ![0, 1, 2, 3, 4, 5] bcast_S1x1x2x8x1x1_S1x128x2x8x128x1_0_1_2_3_4_5
        (broadcastInDim S1x1x2x8x1x1 ![2, 3, 4, 5] bcast_S2x8x1x1_S1x1x2x8x1x1_2_3_4_5 sk)) (peak sc sk)))))

/-- The values mixed by the probabilities. -/
def mixed (vv : FVec Ideal S1x128x256x2x64 .f32) (p : FVec Ideal S1x128x2x8x128x256 .f32) : FVec Ideal S1x16384x1024 .f32 :=
  shapeCast _ (transpose S1x128x128x2x8x64 [0, 1, 5, 2, 4, 3]
    (Host.dotGeneral (φ₁ := .f32) (φ₂ := .f32) (F := Ideal) dot_S1x128x256x2x64_S1x128x2x8x128x256_S1x128x2x64x8x128_2_5_4_34_013_012 none vv p)
    transposes_S1x128x2x64x8x128_S1x128x128x2x8x64_0_1_5_2_4_3) shapeCasts_S1x128x128x2x8x64_S1x16384x1024

/-- The layer's tail: the gated attention through the output projection, onto the residual. -/
def tail (h : FVec Ideal S1x16384x1024 .f32) (o gate : FVec Ideal S1x16384x1024 .f32) (w : FVec Ideal S1x1024x1024 .f32) : FVec Ideal S16384x1024 .f32 :=
  addf (shapeCast _ h shapeCasts_S1x16384x1024_S16384x1024)
    (shapeCast _ (Host.dotGeneral (φ₁ := .f32) (φ₂ := .f32) (F := Ideal) dot_S1x16384x1024_S1024x1024_S1x16384x1024_2_0_01_1_n_n none
      (mulf o (mulf gate (Host.divf (broadcastInDim S1x16384x1024 ![] bcast_S_S1x16384x1024 (constant (F := Ideal) S_ .f32 0x3F800000#32))
        (addf (broadcastInDim S1x16384x1024 ![] bcast_S_S1x16384x1024 (constant (F := Ideal) S_ .f32 0x3F800000#32)) (Host.exp (Host.negf gate))))))
      (shapeCast _ w shapeCasts_S1x1024x1024_S1024x1024 : FVec Ideal S1024x1024 .f32)) shapeCasts_S1x16384x1024_S16384x1024)

/-- The result is the stages in order. -/
theorem res_eq (m : (ℓ : Loc nD τ sig) → Buf (Elt Ideal) ℓ) (c : Dev nD) :
    Value.res_out0 (F := Ideal) m c = tail (m ((c.tc : Thread nD τ).loc main_arg0))
      (mixed (twice (m ((c.tc : Thread nD τ).loc main_arg3)))
        (probs (scores (m ((c.tc : Thread nD τ).loc main_arg1)) (twice (m ((c.tc : Thread nD τ).loc main_arg2)))) (sinks (m ((c.tc : Thread nD τ).loc main_arg5)))))
      (m ((c.tc : Thread nD τ).loc main_arg4)) (m ((c.tc : Thread nD τ).loc main_arg6)) := by

  unfold tail mixed probs lifted peak rowMax rowSum sinks scores seen twice
  rfl

end Cert.ReferenceIdeal.Swa
-- ==== Proof.SwaRefAt.lean ====
/-
  The stages of the sliding-window reference at an index.
-/
module

public import proofs.«01_k».proof.Proof.SwaRef
public import Idealize.ShloMosaic.Lib.Pipeline.ValueKit
public import Idealize.ShloMosaic.Lib.Pointwise
public import proofs.«01_k».proof.Proof.Words
public import proofs.«01_k».proof.Proof.Reals

@[expose] public section

set_option maxRecDepth 16384

noncomputable section

namespace Cert.ReferenceIdeal.Swa

open Cert.ReferenceIdeal Cert.ReferenceIdeal.Gen Idealize.ShloMosaic Idealize.ShloMosaic.TcCoe Idealize.ShloMosaic.StableHlo Cert.Words Cert.Reals

theorem twice_apply (k : FVec Ideal S1x16384x2x64 .f32) (n : Fin 128) (j : Fin 256) (c : Fin 2) (d : Fin 64) :
    twice k (ix5 0 n j c d) = if h : j.val < 128 then
        (if h' : 1 ≤ n.val then k (ix4 0 ⟨(n.val - 1) * 128 + j.val, by omega⟩ c d) else 0)
      else k (ix4 0 ⟨n.val * 128 + (j.val - 128), by omega⟩ c d) := by
  pointwise [twice]
  split
  · rename_i hj
    by_cases hn : 1 ≤ n.val
    · rw [dif_pos ⟨⟨hn, by omega⟩, hj⟩, dif_pos hn]
    · rw [dif_neg (fun h => hn h.1.1), dif_neg hn]
      simp [FloatOps.sitofp]
  · rfl

theorem seen_apply (n : Fin 128) (r : Fin 128) (j : Fin 256) :
    seen (ix3 n r j) = 1#1 ↔ (r.val ≤ j.val ∧ j.val ≤ r.val + 128) ∧ (n.val ≠ 0 ∨ 128 ≤ j.val) := by
  pointwise [seen]
  rw [andi_iff, andi_iff, ori_iff, sge_iff (by omega) (by omega), sge_iff (by omega) (by omega), addi_ofNat (r.val) 128,
    sle_iff (by omega) (by omega), sgt_iff (by omega) (by omega)]
  omega

theorem scores_apply (q : FVec Ideal S1x16384x16x64 .f32) (kk : FVec Ideal S1x128x256x2x64 .f32) (n : Fin 128) (c : Fin 2) (g : Fin 8) (r : Fin 128) (j : Fin 256) :
    scores q kk (ix6 0 n c g r j) = if (r.val ≤ j.val ∧ j.val ≤ r.val + 128) ∧ (n.val ≠ 0 ∨ 128 ≤ j.val) then
      (∑ x : Fin 64, kk (ix5 0 n j c x) * q (ix4 0 ⟨n.val * 128 + r.val, by omega⟩ ⟨c.val * 8 + g.val, by omega⟩ x)) * Ideal.ofBits .f32 0x3E000000#32 else ⊥ := by
  pointwise [scores]
  rw [select_eq_ite]
  refine if_congr (seen_apply n r j) rfl ?_
  exact ofBits_bot

theorem reduces_last : S1x128x2x8x128x256.Reduces [5] S1x128x2x8x128 := by decide

theorem lift_last (n : Fin 128) (c : Fin 2) (g : Fin 8) (r : Fin 128) (j : Fin 256) :
    reduces_last.lift (ix5 0 n c g r) j = ix6 0 n c g r j := by
  funext a; apply Fin.ext
  fin_cases a <;> rfl

theorem rowMax_apply (sc : FVec Ideal S1x128x2x8x128x256 .f32) (n : Fin 128) (c : Fin 2) (g : Fin 8) (r : Fin 128) :
    rowMax sc (ix5 0 n c g r) = Finset.univ.fold max ⊥ (fun j : Fin 256 => sc (ix6 0 n c g r j)) := by
  unfold rowMax
  refine (Host.reduce_eq_fold_single (max : EReal → EReal → EReal) sc _ reducesTo_S1x128x2x8x128x256_S1x128x2x8x128_d5 reduces_last h_S_ (ix5 0 n c g r)).trans ?_
  rw [show (constant (F := Ideal) S_ .f32 0xFF800000#32) (Shape.Idx.first h_S_) = ⊥ from ofBits_bot]
  exact congrArg (Finset.univ.fold max ⊥) (funext fun j => congrArg sc (lift_last n c g r j))

theorem rowSum_apply (x : FVec Ideal S1x128x2x8x128x256 .f32) (n : Fin 128) (c : Fin 2) (g : Fin 8) (r : Fin 128) :
    rowSum x (ix5 0 n c g r) = ∑ j : Fin 256, x (ix6 0 n c g r j) := by
  unfold rowSum
  refine (Ideal.hostReduceAdd_single reducesTo_S1x128x2x8x128x256_S1x128x2x8x128_d5 reduces_last x _ (ix5 0 n c g r)).trans ?_
  rw [show (constant (F := Ideal) S_ .f32 0x00000000#32) (Shape.Idx.first h_S_) = 0 by simp [constant, FloatOps.ofBits, Ideal.ofBits, Ideal.ieee], zero_add]
  exact Finset.sum_congr rfl fun j _ => congrArg x (lift_last n c g r j)

/-- One number per query, as a column. -/
theorem column_apply (x : FVec Ideal S1x128x2x8x128 .f32) (n : Fin 128) (c : Fin 2) (g : Fin 8) (r : Fin 128) :
    broadcastInDim S1x128x2x8x128x1 ![0, 1, 2, 3, 4] bcast_S1x128x2x8x128_S1x128x2x8x128x1_0_1_2_3_4 x (ix6 0 n c g r 0) = x (ix5 0 n c g r) := by
  unfold broadcastInDim
  refine congrArg x ?_
  funext a; apply Fin.ext
  fin_cases a <;> rfl

/-- A column, at every key. -/
theorem spread_apply (x : FVec Ideal S1x128x2x8x128x1 .f32) (n : Fin 128) (c : Fin 2) (g : Fin 8) (r : Fin 128) (j : Fin 256) :
    broadcastInDim S1x128x2x8x128x256 ![0, 1, 2, 3, 4, 5] bcast_S1x128x2x8x128x1_S1x128x2x8x128x256_0_1_2_3_4_5 x (ix6 0 n c g r j) = x (ix6 0 n c g r 0) := by
  unfold broadcastInDim
  refine congrArg x ?_
  funext a; apply Fin.ext
  fin_cases a <;> rfl

/-- One number per head, at every query. -/
theorem heads_apply (x : FVec Ideal S2x8x1x1 .f32) (n : Fin 128) (c : Fin 2) (g : Fin 8) (r : Fin 128) :
    broadcastInDim S1x128x2x8x128x1 ![0, 1, 2, 3, 4, 5] bcast_S1x1x2x8x1x1_S1x128x2x8x128x1_0_1_2_3_4_5
        (broadcastInDim S1x1x2x8x1x1 ![2, 3, 4, 5] bcast_S2x8x1x1_S1x1x2x8x1x1_2_3_4_5 x) (ix6 0 n c g r 0) = x (ix4 c g 0 0) := by
  unfold broadcastInDim
  refine congrArg x ?_
  funext a; apply Fin.ext
  fin_cases a <;> rfl

theorem maximumf_apply {s : Shape} (x y : FVec Ideal s .f32) (i : s.Idx) : maximumf x y i = max (x i) (y i) := rfl

theorem peak_apply (sc : FVec Ideal S1x128x2x8x128x256 .f32) (sk : FVec Ideal S2x8x1x1 .f32) (n : Fin 128) (c : Fin 2) (g : Fin 8) (r : Fin 128) :
    peak sc sk (ix6 0 n c g r 0) = top (fun j : Fin 256 => sc (ix6 0 n c g r j)) (sk (ix4 c g 0 0)) := by
  rw [peak, maximumf_apply, column_apply, rowMax_apply, heads_apply, top]

theorem hostExp_apply {s : Shape} (x : FVec Ideal s .f32) (i : s.Idx) : Host.exp x i = Ideal.exp (x i) := rfl

theorem subf_apply {s : Shape} (x y : FVec Ideal s .f32) (i : s.Idx) : subf x y i = x i - y i := rfl

theorem addf_apply {s : Shape} (x y : FVec Ideal s .f32) (i : s.Idx) : addf x y i = x i + y i := rfl

theorem hostDivf_apply {s : Shape} (x y : FVec Ideal s .f32) (i : s.Idx) : Host.divf x y i = Ideal.div (x i) (y i) := rfl

theorem lifted_apply (sc : FVec Ideal S1x128x2x8x128x256 .f32) (mx : FVec Ideal S1x128x2x8x128x1 .f32) (n : Fin 128) (c : Fin 2) (g : Fin 8) (r : Fin 128) (j : Fin 256) :
    lifted sc mx (ix6 0 n c g r j) = Ideal.exp (sc (ix6 0 n c g r j) - mx (ix6 0 n c g r 0)) := by
  rw [lifted, hostExp_apply, subf_apply, spread_apply]

theorem probs_apply (sc : FVec Ideal S1x128x2x8x128x256 .f32) (sk : FVec Ideal S2x8x1x1 .f32) (n : Fin 128) (c : Fin 2) (g : Fin 8) (r : Fin 128) (j : Fin 256) :
    probs sc sk (ix6 0 n c g r j) = Ideal.div (Ideal.exp (sc (ix6 0 n c g r j) - top (fun j : Fin 256 => sc (ix6 0 n c g r j)) (sk (ix4 c g 0 0))))
      (den (fun j : Fin 256 => sc (ix6 0 n c g r j)) (sk (ix4 c g 0 0))) := by
  rw [probs, hostDivf_apply, spread_apply, addf_apply, column_apply, rowSum_apply, hostExp_apply, subf_apply, heads_apply, den]
  simp only [lifted_apply, peak_apply]

theorem sinks_apply (x : FVec Ideal S1x16 .f32) (c : Fin 2) (g : Fin 8) :
    sinks x (ix4 c g 0 0) = x (ix2 0 ⟨c.val * 8 + g.val, by omega⟩) := by
  pointwise [sinks]

theorem mixed_apply (vv : FVec Ideal S1x128x256x2x64 .f32) (sc : FVec Ideal S1x128x2x8x128x256 .f32) (sk : FVec Ideal S2x8x1x1 .f32) (s : Fin 16384) (l : Fin 1024) :
    mixed vv (probs sc sk) (ix3 0 s l) = attn
      (fun j : Fin 256 => sc (ix6 0 ⟨s.val / 128, by omega⟩ ⟨l.val / 512, by omega⟩ ⟨l.val / 64 % 8, by omega⟩ ⟨s.val % 128, by omega⟩ j))
      (fun j : Fin 256 => vv (ix5 0 ⟨s.val / 128, by omega⟩ j ⟨l.val / 512, by omega⟩ ⟨l.val % 64, by omega⟩))
      (sk (ix4 ⟨l.val / 512, by omega⟩ ⟨l.val / 64 % 8, by omega⟩ 0 0)) := by
  pointwise [mixed]
  simp only [probs_apply]
  rfl

theorem tail_apply (h o gate : FVec Ideal S1x16384x1024 .f32) (w : FVec Ideal S1x1024x1024 .f32) (s : Fin 16384) (l : Fin 1024) :
    tail h o gate w (ix2 s l) = h (ix3 0 s l) +
      ∑ x : Fin 1024, o (ix3 0 s x) * (gate (ix3 0 s x) * Ideal.div 1 (1 + Ideal.exp (-gate (ix3 0 s x)))) * w (ix3 0 x l) := by
  pointwise [tail]

end Cert.ReferenceIdeal.Swa
-- ==== Proof.SwaFinal.lean ====
/-
  The sliding-window kernel's blocks and the reference, query by query; the result array.
-/
module

public import proofs.«01_k».proof.Proof.SwaBlocks
public import proofs.«01_k».proof.Proof.SwaRefAt
public import proofs.«01_k».proof.Proof.Gen.KernelIdeal.Value

@[expose] public section

set_option maxRecDepth 16384

noncomputable section

namespace Cert.KernelIdeal.Swa

open Cert.KernelIdeal Cert.KernelIdeal.Gen Idealize.ShloMosaic Idealize.ShloMosaic.TcCoe Cert.Words Cert.Reals
open Cert.ReferenceIdeal.Swa (twice sinks probs mixed tail twice_apply sinks_apply mixed_apply tail_apply)

/-- The scale of the scores. -/
theorem eighth : Ideal.ofBits .f32 0x3E000000#32 = ((1 / 8 : ℝ) : EReal) := by
  simp [Ideal.ofBits, Ideal.ieee, -EReal.coe_mul]; norm_num

/-- A block past the first has keys before it. -/
theorem early_eq (n : ℕ) (hn : n < 32) : early n = 1#1 ↔ 0 < n := by
  unfold early
  exact sgt_iff (a := n) (b := 0) (by omega) (by omega)

variable (m : (ℓ : Loc nD τ sig) → Buf (Elt Ideal) ℓ) (c : Dev nD)

/-- The query's number in the whole sequence: its block. -/
def blockOf (t : Fin cfg0.N) (row : Fin 512) : Fin 128 := ⟨4 * t.val + row.val / 128, by have := (idx t).1; omega⟩

/-- The keys and values handed to an instance are the reference's doubled blocks, wherever a query may look. -/
theorem rows_twice (kk : Vec Ideal S1x16384x2x64 .f32) (t : Fin cfg0.N) (own : Vec Ideal S512x128 .f32) (prev : Vec Ideal S128x128 .f32)
    (ho : ∀ (r : Fin 512) (l : Fin 128), own (ix2 r l) = kk (ix4 0 ⟨512 * t.val + r.val, by have := (idx t).1; omega⟩ ⟨l.val / 64, by omega⟩ ⟨l.val % 64, by omega⟩))
    (hp : ∀ (r : Fin 128) (l : Fin 128), prev (ix2 r l) = kk (ix4 0 ⟨128 * (4 * t.val - 1) + r.val, by have := (idx t).1; omega⟩ ⟨l.val / 64, by omega⟩ ⟨l.val % 64, by omega⟩))
    (row : Fin 512) (j : Fin 256) (hj : (blockOf t row).val ≠ 0 ∨ 128 ≤ j.val) (l : Fin 128) (g : Fin 2) (d : Fin 64)
    (hg : l.val / 64 = g.val) (hd : l.val % 64 = d.val) :
    rowsOf prev own ⟨128 * (row.val / 128) + j.val, by omega⟩ l = twice kk (ix5 0 (blockOf t row) j g d) := by
  have ht := (idx t).1
  have eg : (⟨l.val / 64, by omega⟩ : Fin 2) = g := Fin.ext hg
  have ed : (⟨l.val % 64, by omega⟩ : Fin 64) = d := Fin.ext hd
  rw [twice_apply]
  unfold rowsOf
  unfold blockOf at hj ⊢
  dsimp only at hj ⊢
  split
  · rename_i h
    rw [hp, eg, ed, dif_pos (by omega), dif_pos (by omega)]
    refine congrArg (fun x => kk (ix4 0 x g d)) (Fin.ext ?_)
    dsimp only
    omega
  · rename_i h
    rw [ho, eg, ed]
    split
    · rw [dif_pos (by omega)]
      refine congrArg (fun x => kk (ix4 0 x g d)) (Fin.ext ?_)
      dsimp only
      omega
    · refine congrArg (fun x => kk (ix4 0 x g d)) (Fin.ext ?_)
      dsimp only
      omega

theorem score_eq (t : Fin cfg0.N) (row : Fin 512) (hd : Fin 16) (j : Fin 256) :
    score (early t.val) (iblk m c 0 t) (iblk m c 1 t) (iblk m c 2 t) row hd j
      = Cert.ReferenceIdeal.Swa.scores (argQ m c) (twice (argK m c)) (ix6 0 (blockOf t row) ⟨hd.val / 8, by omega⟩ ⟨hd.val % 8, by omega⟩ ⟨row.val % 128, by omega⟩ j) := by
  have ht := (idx t).1
  rw [Cert.ReferenceIdeal.Swa.scores_apply]
  unfold score
  by_cases h : seen (early t.val) row j
  · have h' := h
    unfold seen at h'
    rw [early_eq _ ht] at h'
    have hn : (blockOf t row).val ≠ 0 ∨ 128 ≤ j.val := by unfold blockOf; dsimp only; omega
    rw [if_pos h, if_pos ⟨h'.1, hn⟩, sum_mul_of_nonneg _ _ (by rw [eighth]; exact EReal.coe_nonneg.mpr (by norm_num)) (by rw [eighth]; exact EReal.coe_ne_top _)]
    refine Finset.sum_congr rfl fun d _ => ?_
    rw [rows_twice (argK m c) t _ _ (k_at m c t) (kp_at m c t) row j hn _ ⟨hd.val / 8, by omega⟩ d (by dsimp only; omega) (by dsimp only; omega), q_at, mul_assoc]
    have e1 : (⟨512 * t.val + row.val, by omega⟩ : Fin 16384) = ⟨(blockOf t row).val * 128 + row.val % 128, by unfold blockOf; dsimp only; omega⟩ :=
      Fin.ext (by unfold blockOf; dsimp only; omega)
    have e2 : (⟨(64 * hd.val + d.val) / 64, by omega⟩ : Fin 16) = ⟨hd.val / 8 * 8 + hd.val % 8, by omega⟩ := Fin.ext (by dsimp only; omega)
    have e3 : (⟨(64 * hd.val + d.val) % 64, by omega⟩ : Fin 64) = d := Fin.ext (by dsimp only; omega)
    simp only [e1, e2, e3]
  · have h' := h
    unfold seen at h'
    rw [early_eq _ ht] at h'
    rw [if_neg h, if_neg]
    intro hh
    refine h' ⟨hh.1, ?_⟩
    have := hh.2
    unfold blockOf at this
    dsimp only at this
    omega

theorem sink_eq (t : Fin cfg0.N) (hd : Fin 16) :
    sinkOf (iblk m c 5 t) hd = sinks (argS m c) (ix4 ⟨hd.val / 8, by omega⟩ ⟨hd.val % 8, by omega⟩ 0 0) := by
  rw [sinks_apply]
  have e : (⟨hd.val / 8 * 8 + hd.val % 8, by omega⟩ : Fin 16) = hd := Fin.ext (by dsimp only; omega)
  simp only [e]
  rw [← s_at m c t hd]
  exact congrArg (iblk m c 5 t) (by funext a; apply Fin.ext; fin_cases a; simp [Rect.unit, Rect.emb, ix1])

/-- Every query, key and sink is a real number. -/
structure Finite : Prop where
  q : ∀ y, ∃ r : ℝ, argQ m c y = r
  k : ∀ y, ∃ r : ℝ, argK m c y = r
  s : ∀ y, ∃ r : ℝ, argS m c y = r

/-- A row of a block of keys is a row of reals. -/
theorem rows_real {prev : Vec Ideal S128x128 .f32} {own : Vec Ideal S512x128 .f32} (hp : ∀ a b, ∃ r : ℝ, prev (ix2 a b) = r) (ho : ∀ a b, ∃ r : ℝ, own (ix2 a b) = r)
    (j : Fin 640) (l : Fin 128) : ∃ r : ℝ, rowsOf prev own j l = r := by
  unfold rowsOf
  split
  · exact hp _ _
  · exact ho _ _

theorem den_block (hf : Finite m c) (t : Fin cfg0.N) (row : Fin 512) (hd : Fin 16) :
    0 < den (score (early t.val) (iblk m c 0 t) (iblk m c 1 t) (iblk m c 2 t) row hd) (sinkOf (iblk m c 5 t) hd) := by
  obtain ⟨s, hs⟩ : ∃ r : ℝ, sinkOf (iblk m c 5 t) hd = r := by
    rw [sink_eq, sinks_apply]
    exact hf.s _
  rw [hs]
  refine den_pos _ s fun j => ?_
  unfold score
  split
  · obtain ⟨r, hr⟩ := sum_ne_top Finset.univ (fun d : Fin 64 => rowsOf (iblk m c 2 t) (iblk m c 1 t) ⟨128 * (row.val / 128) + j.val, by omega⟩ ⟨64 * (hd.val / 8) + d.val, by omega⟩
      * iblk m c 0 t (ix2 row ⟨64 * hd.val + d.val, by omega⟩)) fun d => by
        obtain ⟨a, ha⟩ := rows_real (prev := iblk m c 2 t) (own := iblk m c 1 t)
          (fun a b => by rw [kp_at]; exact hf.k _) (fun a b => by rw [k_at]; exact hf.k _)
          ⟨128 * (row.val / 128) + j.val, by omega⟩ ⟨64 * (hd.val / 8) + d.val, by omega⟩
        obtain ⟨b, hb⟩ := hf.q (ix4 0 ⟨512 * t.val + row.val, by have := (idx t).1; omega⟩ ⟨(64 * hd.val + d.val) / 64, by omega⟩ ⟨(64 * hd.val + d.val) % 64, by omega⟩)
        refine ⟨a * (b * (1 / 8)), ?_⟩
        rw [ha, q_at, hb, eighth, EReal.coe_mul, EReal.coe_mul]
    rw [hr]
    exact EReal.coe_ne_top r
  · exact bot_ne_top

/-- The attention an instance computes is the reference's. -/
theorem wide_eq (hf : Finite m c) (t : Fin cfg0.N) (row : Fin 512) (l : Fin 1024) :
    wide (early t.val) (iblk m c 0 t) (iblk m c 1 t) (iblk m c 2 t) (iblk m c 3 t) (iblk m c 4 t) (iblk m c 5 t) (ix2 row l)
      = mixed (twice (argV m c)) (probs (Cert.ReferenceIdeal.Swa.scores (argQ m c) (twice (argK m c))) (sinks (argS m c)))
          (ix3 0 ⟨512 * t.val + row.val, by have := (idx t).1; omega⟩ l) := by
  have ht := (idx t).1
  rw [mixed_apply]
  have e1 : (⟨(512 * t.val + row.val) / 128, by omega⟩ : Fin 128) = blockOf t row := Fin.ext (by unfold blockOf; dsimp only; omega)
  have e2 : (⟨l.val / 512, by omega⟩ : Fin 2) = ⟨l.val / 64 / 8, by omega⟩ := Fin.ext (by dsimp only; omega)
  have e3 : (⟨(512 * t.val + row.val) % 128, by omega⟩ : Fin 128) = ⟨row.val % 128, by omega⟩ := Fin.ext (by dsimp only; omega)
  simp only [e1, e2, e3]
  change attended (early t.val) _ _ _ _ _ _ row ⟨l.val / 64, by omega⟩ ⟨l.val % 64, by omega⟩ = _
  unfold attended
  have hsink := sink_eq m c t ⟨l.val / 64, by omega⟩
  dsimp only at hsink
  rw [← hsink]
  refine attn_congr (fun j => score_eq m c t row _ j) (fun j hj => ?_) (den_block m c hf t row _)
  have hn : (blockOf t row).val ≠ 0 ∨ 128 ≤ j.val := by
    by_contra hc
    refine hj ?_
    unfold score
    refine if_neg fun h => hc ?_
    unfold seen at h
    rw [early_eq _ ht] at h
    unfold blockOf
    dsimp only
    omega
  exact rows_twice (argV m c) t _ _ (v_at m c t) (vp_at m c t) row j hn _ _ _ (by dsimp only; omega) (by dsimp only; omega)

/-- The reference's result, of the kernel's arguments. -/
def result : Vec Ideal S16384x1024 .f32 :=
  tail (argH m c) (mixed (twice (argV m c)) (probs (Cert.ReferenceIdeal.Swa.scores (argQ m c) (twice (argK m c))) (sinks (argS m c)))) (argG m c) (argW m c)

theorem pay_apply (x7 o x6 : Vec Ideal S512x1024 .f32) (x8 : Vec Ideal S1024x1024 .bf16) (row : Fin 512) (l : Fin 1024) :
    k0_pay1 (F := Ideal) (k0_pay181 x7) o x6 x8 (ix2 row l) = x7 (ix2 row l)
      + ∑ x : Fin 1024, o (ix2 row x) * (x6 (ix2 row x) * Ideal.div 1 (1 + Ideal.exp (-x6 (ix2 row x)))) * x8 (ix2 x l) := by
  pointwise [k0_pay1, k0_pay181]
  simp only [zero_sub]

/-- What one instance leaves at one place is the reference's result there. -/
theorem point (hf : Finite m c) (t : Fin cfg0.N) (y : S512x1024.Idx) :
    outsAt0 m c t y = result m c (((View.whole main_v11).slice (win0_9.rect t)).emb y) := by
  obtain ⟨row, l, rfl⟩ : ∃ (a : Fin 512) (b : Fin 1024), y = ix2 a b := ⟨y 0, y 1, (ix2_eta y).symm⟩
  have ht := (idx t).1
  have e : ((View.whole main_v11).slice (win0_9.rect t)).emb (ix2 row l) = ix2 ⟨512 * t.val + row.val, by omega⟩ l := by
    blk_ext [iblk, V, idx t]
  have hc : (grid0.coords t 0).val = t.val := (idx t).2.1
  have hd := den_block m c hf t
  rw [← hc] at hd
  simp only [outsAt0]
  rw [out_wide _ _ _ _ _ _ _ _ _ _ _ _ _ _ _ _ _ _ _ _ _ _ _ _ _ _ _ _ _ _ _ _ _ hd, hc, e, pay_apply]
  unfold result
  rw [tail_apply, h_at]
  refine congrArg (_ + ·) (Finset.sum_congr rfl fun x _ => ?_)
  rw [wide_eq m c hf, g_at, w_at]

/-- The array the kernel leaves is the reference's result. -/
theorem final (hf : Finite m c) : (dats m 0 c).arrAt 9 cfg0.N = result m c := by
  refine (dats m 0 c).arrAt_eq_of_covers 9 _ (by decide +kernel) fun t _ y => ?_
  blk_simp
  rw [after0_9]
  exact point m c hf t y

end Cert.KernelIdeal.Swa
-- ==== Proof.SwaPre.lean ====
/-
  What the precondition says: every query, key and sink is a real number.
-/
module

public import proofs.«01_k».proof.Proof.SwaFinal
public import proofs.«01_k».proof.Proof.Gen.Pre_finite_scores
public import proofs.«01_k».proof.Defs

@[expose] public section

set_option maxRecDepth 16384

noncomputable section

namespace Cert.KernelIdeal.Swa

open Cert.KernelIdeal Cert.KernelIdeal.Gen Idealize.ShloMosaic Idealize.ShloMosaic.TcCoe Cert.Words Cert.Reals

/-- A number below infinity in size is a real. -/
theorem real_of_abs {x : EReal} (h : FloatOps.absf (F := Ideal) (φ := .f32) x < Ideal.ofBits .f32 2139095040#32) : ∃ r : ℝ, x = r := by
  rw [show (2139095040#32) = 0x7F800000#32 from rfl, ofBits_top] at h
  have h1 : max x (-x) < ⊤ := h
  induction x using EReal.rec with
  | bot => simp at h1
  | coe r => exact ⟨r, rfl⟩
  | top => simp at h1

theorem bit_iff (p : Prop) [Decidable p] : BitVec.ofBool (decide p) = 1#1 ↔ p := by
  by_cases h : p <;> simp [h]

/-- The precondition at one place. -/
theorem fn_apply (h : FVec Ideal S1x16384x1024 .f32) (q : FVec Ideal S1x16384x16x64 .f32) (k v : FVec Ideal S1x16384x2x64 .f32)
    (g : FVec Ideal S1x16384x1024 .f32) (s : FVec Ideal S1x16 .f32) (w : FVec Ideal S1x1024x1024 .f32) (n : Fin 16384) (a : Fin 2) (b : Fin 8) (d : Fin 64)
    (hp : Cert.Pre_finite_scores.fn (F := Ideal) h q k v g s w (ix5 0 n a b d) = 1#1) :
    ((∃ r : ℝ, q (ix4 0 n ⟨a.val * 8 + b.val, by omega⟩ d) = r) ∧ ∃ r : ℝ, k (ix4 0 n a d) = r) ∧ ∃ r : ℝ, s (ix2 0 ⟨a.val * 8 + b.val, by omega⟩) = r := by
  pointwise [Cert.Pre_finite_scores.fn] at hp
  rw [andi_iff, andi_iff, bit_iff, bit_iff, bit_iff] at hp
  exact ⟨⟨real_of_abs hp.1.1, real_of_abs hp.1.2⟩, real_of_abs hp.2⟩

/-- The precondition, of the kernel's arguments. -/
theorem finite (m : (ℓ : Loc nD τ sig) → Buf (Elt Ideal) ℓ) (hp : Cert.Pre_KernelIdeal_finite_scores m) (c : Dev nD) : Finite m c := by
  have hh := fun n a b d => fn_apply _ (argQ m c) (argK m c) _ _ (argS m c) _ n a b d (congrFun (hp c) (ix5 0 n a b d))
  refine ⟨fun y => ?_, fun y => ?_, fun y => ?_⟩
  · obtain ⟨n, a, d, rfl⟩ : ∃ (n : Fin 16384) (a : Fin 16) (d : Fin 64), y = ix4 0 n a d :=
      ⟨y 1, y 2, y 3, by rw [← Subsingleton.elim (α := Fin 1) (y 0) 0]; exact (ix4_eta y).symm⟩
    have h1 := (hh n ⟨a.val / 8, by omega⟩ ⟨a.val % 8, by omega⟩ d).1.1
    have e : (⟨a.val / 8 * 8 + a.val % 8, by omega⟩ : Fin 16) = a := Fin.ext (by dsimp only; omega)
    simp only [e] at h1
    exact h1
  · obtain ⟨n, a, d, rfl⟩ : ∃ (n : Fin 16384) (a : Fin 2) (d : Fin 64), y = ix4 0 n a d :=
      ⟨y 1, y 2, y 3, by rw [← Subsingleton.elim (α := Fin 1) (y 0) 0]; exact (ix4_eta y).symm⟩
    exact (hh n a 0 d).1.2
  · obtain ⟨a, rfl⟩ : ∃ (a : Fin 16), y = ix2 0 a :=
      ⟨y 1, by rw [← Subsingleton.elim (α := Fin 1) (y 0) 0]; exact (ix2_eta y).symm⟩
    have h1 := (hh 0 ⟨a.val / 8, by omega⟩ ⟨a.val % 8, by omega⟩ 0).2
    have e : (⟨a.val / 8 * 8 + a.val % 8, by omega⟩ : Fin 16) = a := Fin.ext (by dsimp only; omega)
    simp only [e] at h1
    exact h1

end Cert.KernelIdeal.Swa
-- ==== Proof.PostMath.lean ====
/-
  One head of 64 lanes: its norm and its rotation, and how two heads beside one another in 128 lanes are normed and rotated.
-/
module

public import proofs.«01_k».proof.Proof.Words
public import proofs.«01_k».proof.Proof.Reals

@[expose] public section

set_option maxRecDepth 16384

noncomputable section

namespace Cert.Heads

open Idealize.ShloMosaic

/-- The angle by which pair `d` of a head is turned at position `p`. -/
def angle (p d : ℕ) : EReal :=
  FloatOps.sitofp (F := Ideal) .f32 (BitVec.ofNat 32 p) * Ideal.div 1 (Ideal.pow (Ideal.ofBits .f32 1176256512#32)
    (Ideal.div (FloatOps.sitofp (F := Ideal) .f32 (BitVec.ofNat 32 d)) (Ideal.ofBits .f32 1107296256#32)))

/-- A head over its root mean square, by the gain. -/
def norm (f g : Fin 64 → EReal) (d : Fin 64) : EReal :=
  f d * Ideal.rsqrt (Ideal.div (∑ x, f x * f x) (Ideal.ofBits .f32 1115684864#32) + Ideal.ofBits .f32 897988541#32) * g d

/-- A head turned for its position. -/
def turn (p : ℕ) (f : Fin 64 → EReal) (d : Fin 64) : EReal :=
  if h : d.val < 32 then f d * Ideal.cos (angle p d.val) - f ⟨32 + d.val, by omega⟩ * Ideal.sin (angle p d.val)
  else f d * Ideal.cos (angle p (d.val - 32)) + f ⟨d.val - 32, by omega⟩ * Ideal.sin (angle p (d.val - 32))

/-- A mean of 64 is a sum by 1/64. -/
theorem mean64 (x : EReal) : Ideal.div x (Ideal.ofBits .f32 1115684864#32) = x * Ideal.ofBits .f32 0x3C800000#32 := by
  have e : Ideal.ofBits .f32 1115684864#32 = ((64 : ℝ) : EReal) := by
    simp [Ideal.ofBits, Ideal.ieee, -EReal.coe_mul]; norm_num
  have e' : Ideal.ofBits .f32 0x3C800000#32 = ((1 / 64 : ℝ) : EReal) := by
    simp [Ideal.ofBits, Ideal.ieee, -EReal.coe_mul]; norm_num
  rw [e, e', Ideal.div, if_neg (by simp), ← EReal.coe_inv]
  norm_num

/-- A sum over 128 lanes of which only head `c` counts is a sum over that head's lanes. -/
theorem sum_head (c : ℕ) (hc : c < 2) (a : Fin 128 → EReal) :
    (∑ l : Fin 128, a l * (if l.val / 64 = c then 1 else 0)) = ∑ d : Fin 64, a ⟨64 * c + d.val, by omega⟩ := by
  simp only [mul_ite, mul_one, mul_zero]
  rw [← Finset.sum_filter]
  refine (Finset.sum_bij (fun (d : Fin 64) _ => (⟨64 * c + d.val, by omega⟩ : Fin 128)) ?_ ?_ ?_ ?_).symm
  · intro d _; simp only [Finset.mem_filter, Finset.mem_univ, true_and]; omega
  · intro d _ d' _ h
    have := congrArg Fin.val h
    exact Fin.ext (by dsimp only at this; omega)
  · intro l hl
    have hl := (Finset.mem_filter.1 hl).2
    exact ⟨⟨l.val % 64, by omega⟩, Finset.mem_univ _, Fin.ext (by dsimp only; omega)⟩
  · intro d _; rfl

/-- Two heads normed at once are each normed. -/
theorem norm_lanes (f gain : Fin 128 → EReal) (b : Fin 128 → Fin 128 → EReal) (g : Fin 64 → EReal)
    (hb : ∀ x l, b x l = if x.val / 64 = l.val / 64 then 1 else 0) (hg : ∀ l : Fin 128, gain l = g ⟨l.val % 64, by omega⟩) (l : Fin 128) :
    f l * Ideal.rsqrt ((∑ x, f x * f x * b x l) * Ideal.ofBits .f32 0x3C800000#32 + Ideal.ofBits .f32 897988541#32) * gain l
      = norm (fun d => f ⟨64 * (l.val / 64) + d.val, by omega⟩) g ⟨l.val % 64, by omega⟩ := by
  unfold norm
  simp only [hb, mean64]
  rw [sum_head (l.val / 64) (by omega), hg]
  have e : (⟨64 * (l.val / 64) + l.val % 64, by omega⟩ : Fin 128) = l := Fin.ext (by dsimp only; omega)
  simp only [e]

/-- Two heads turned at once are each turned. -/
theorem turn_lanes (p : ℕ) (n : Fin 128 → EReal) (l : Fin 128) (w : BitVec 1) (hw : w = 1#1 ↔ l.val % 64 < 32) (cs sn : EReal)
    (hc : cs = Ideal.cos (angle p (l.val % 32)))
    (hs : sn = if l.val % 64 < 32 then -Ideal.sin (angle p (l.val % 64)) else Ideal.sin (angle p (l.val % 64 - 32))) :
    n l * cs + Scalar.select w (n ⟨(l.val + 128 - 96) % 128, by omega⟩) (n ⟨(l.val + 128 - 32) % 128, by omega⟩) * sn
      = turn p (fun d => n ⟨64 * (l.val / 64) + d.val, by omega⟩) ⟨l.val % 64, by omega⟩ := by
  have e : (⟨64 * (l.val / 64) + l.val % 64, by omega⟩ : Fin 128) = l := Fin.ext (by dsimp only; omega)
  unfold turn
  rw [Words.select_eq_ite, hc, hs]
  by_cases h : l.val % 64 < 32
  · rw [if_pos (hw.2 h), if_pos h, dif_pos h, mul_neg, ← sub_eq_add_neg]
    have e1 : l.val % 32 = l.val % 64 := by omega
    have e2 : (⟨(l.val + 128 - 96) % 128, by omega⟩ : Fin 128) = ⟨64 * (l.val / 64) + (32 + l.val % 64), by omega⟩ := Fin.ext (by dsimp only; omega)
    simp only [e, e1, e2]
  · rw [if_neg (fun h' => h (hw.1 h')), if_neg h, dif_neg h]
    have e1 : l.val % 32 = l.val % 64 - 32 := by omega
    have e2 : (⟨(l.val + 128 - 32) % 128, by omega⟩ : Fin 128) = ⟨64 * (l.val / 64) + (l.val % 64 - 32), by omega⟩ := Fin.ext (by dsimp only; omega)
    simp only [e, e1, e2]

theorem turn_congr {p p' : ℕ} (hp : p = p') {f f' : Fin 64 → EReal} (hf : ∀ d, f d = f' d) {d d' : Fin 64} (hd : d = d') : turn p f d = turn p' f' d' := by
  rw [hp, hd, funext hf]

theorem norm_congr {f f' g g' : Fin 64 → EReal} (hf : ∀ d, f d = f' d) (hg : ∀ d, g d = g' d) {d d' : Fin 64} (hd : d = d') : norm f g d = norm f' g' d' := by
  rw [hd, funext hf, funext hg]

end Cert.Heads
-- ==== Proof.PostTile.lean ====
/-
  The values an instance of the kernel between the two attentions stores, at an index.
-/
module

public import proofs.«01_k».proof.Proof.PostMath
public import proofs.«01_k».proof.Proof.Gen.Kernel2Ideal.Value
public import Idealize.ShloMosaic.Lib.Pipeline.ReadBack
public import Idealize.ShloMosaic.Lib.VecWindow
public import Idealize.ShloMosaic.Lib.Pipeline.ValueKit
public import Idealize.ShloMosaic.Lib.Pointwise

@[expose] public section

set_option maxRecDepth 16384

noncomputable section

namespace Cert.Kernel2Ideal.Post

open Cert.Kernel2Ideal Cert.Kernel2Ideal.Gen Idealize.ShloMosaic Idealize.ShloMosaic.TcCoe Cert.Words Cert.Reals

/-- 128 lanes, two heads, each over its root mean square and by its gain. -/
def headNorm (z : FVec Ideal S512x128 .f32) (b2 : FVec Ideal S128x128 .bf16) (g : Vec Ideal S1x128 .f32) : FVec Ideal S512x128 .f32 :=
  mulf (mulf z (rsqrt (addf
    (mulf (matmul dot_S512x128_S128x128_S512x128_1_0_0_1_n_n none (truncf .bf16 (mulf z z) bitsLt_bf16_f32) b2 (constant S512x128 .f32 0x00000000#32))
      (broadcast S512x128 (Scalar.ofBits (F := Ideal) .f32 0x3C800000#32)))
    (broadcast S512x128 (Scalar.ofBits (F := Ideal) .f32 0x358637BD#32)))))
    (broadcastTo S512x128 (shapeCast S1x128 g shapeCasts_S1x128_S1x128 : FVec Ideal S1x128 .f32) broadcasts_S1x128_S512x128)

theorem slices_q (c : Fin 8) : S512x2048.Slices ![0, 128 * c.val] S512x128 := by
  revert c; decide

/-- Two heads of queries, as stored. -/
def queries (c : Fin 8) (mask : IVec S512x128 1) (cs sn : FVec Ideal S512x128 .f32) (b2 : FVec Ideal S128x128 .bf16) (z : FVec Ideal S512x2048 .f32) (g : Vec Ideal S1x128 .f32) : FVec Ideal S512x128 .bf16 :=
  truncf .bf16 (mulf (k0_pay13 mask cs sn (headNorm (extractStridedSlice S512x128 ![0, 128 * c.val] z (slices_q c)) b2 g))
    (broadcast S512x128 (Scalar.ofBits (F := Ideal) .f32 0x3E000000#32))) bitsLt_bf16_f32

theorem headNorm_apply (z : FVec Ideal S512x128 .f32) (b2 : FVec Ideal S128x128 .bf16) (g : Vec Ideal S1x128 .f32) (r : Fin 512) (l : Fin 128) :
    headNorm z b2 g (ix2 r l) = z (ix2 r l) * Ideal.rsqrt ((∑ x, z (ix2 r x) * z (ix2 r x) * b2 (ix2 x l)) * Ideal.ofBits .f32 0x3C800000#32 + Ideal.ofBits .f32 0x358637BD#32) * g (ix2 0 l) := by
  pointwise [headNorm]

theorem pay13_apply (mask : IVec S512x128 1) (cs sn n : FVec Ideal S512x128 .f32) (r : Fin 512) (l : Fin 128) :
    k0_pay13 mask cs sn n (ix2 r l) = n (ix2 r l) * cs (ix2 r l)
      + Scalar.select (mask (ix2 r l)) (n (ix2 r ⟨(l.val + 128 - 96) % 128, by omega⟩)) (n (ix2 r ⟨(l.val + 128 - 32) % 128, by omega⟩)) * sn (ix2 r l) := by
  pointwise [k0_pay13]

theorem mask_apply (r : Fin 512) (l : Fin 128) :
    k0_pay7 (Scalar.select (Scalar.cmpi .eq 64#32 0#32) 1#32 64#32) k0_pay5 k0_pay6 (ix2 r l) = 1#1 ↔ l.val % 64 < 32 := by
  pointwise [k0_pay7, k0_pay5, k0_pay6]
  revert l
  decide +kernel

theorem pay3_apply (x o gt : Vec Ideal S512x1024 .f32) (w : Vec Ideal S1024x1024 .bf16) (r : Fin 512) (l : Fin 1024) :
    k0_pay3 x o gt w (ix2 r l) = x (ix2 r l) + ∑ k, o (ix2 r k) * (gt (ix2 r k) * Ideal.div 1 (1 + Ideal.exp (-gt (ix2 r k)))) * w (ix2 k l) := by
  pointwise [k0_pay3]
  simp only [zero_sub]

theorem pay4_apply (x o gt : Vec Ideal S512x1024 .f32) (w : Vec Ideal S1024x1024 .bf16) (r : Fin 512) (l : Fin 1024) :
    k0_pay4 x o gt w (ix2 r l) = k0_pay3 x o gt w (ix2 r l) * Ideal.rsqrt (Ideal.div (∑ k, k0_pay3 x o gt w (ix2 r k) * k0_pay3 x o gt w (ix2 r k)) (Ideal.ofBits .f32 0x44800000#32) + Ideal.ofBits .f32 0x358637BD#32) := by
  pointwise [k0_pay4]

theorem pay11_apply (n : FVec Ideal S512x1024 .f32) (g : Vec Ideal S1x1024 .f32) (w : Vec Ideal S1024x256 .bf16) (r : Fin 512) (l : Fin 256) :
    k0_pay11 n g w (ix2 r l) = ∑ k, n (ix2 r k) * g (ix2 0 k) * w (ix2 k l) := by
  pointwise [k0_pay11]

theorem pay15_apply (n : FVec Ideal S512x1024 .f32) (g : Vec Ideal S1x1024 .f32) (w : Vec Ideal S1024x2048 .bf16) (r : Fin 512) (l : Fin 2048) :
    k0_pay15 n g w (ix2 r l) = ∑ k, n (ix2 r k) * g (ix2 0 k) * w (ix2 k l) := by
  pointwise [k0_pay15]

theorem queries_apply (c : Fin 8) (mask : IVec S512x128 1) (cs sn : FVec Ideal S512x128 .f32) (b2 : FVec Ideal S128x128 .bf16) (z : FVec Ideal S512x2048 .f32) (g : Vec Ideal S1x128 .f32) (r : Fin 512) (l : Fin 128) :
    queries c mask cs sn b2 z g (ix2 r l) = k0_pay13 mask cs sn (headNorm (extractStridedSlice S512x128 ![0, 128 * c.val] z (slices_q c)) b2 g) (ix2 r l) * Ideal.ofBits .f32 0x3E000000#32 := by
  pointwise [queries]

theorem slice_apply (c : Fin 8) (z : FVec Ideal S512x2048 .f32) (r : Fin 512) (l : Fin 128) :
    (extractStridedSlice S512x128 ![0, 128 * c.val] z (slices_q c) : FVec Ideal S512x128 .f32) (ix2 r l) = z (ix2 r ⟨128 * c.val + l.val, by omega⟩) := by
  pointwise

theorem idx : ∀ t : Fin cfg0.N, t.val < 32 ∧ win0_0.index t = ![t.val, 0] ∧ win0_1.index t = ![t.val, 0]
    ∧ win0_2.index t = ![t.val, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![t.val, 0] ∧ win0_11.index t = ![t.val, 0] ∧ win0_12.index t = ![0, 0] ∧ win0_13.index t = ![t.val, 0]
    ∧ win0_14.index t = ![t.val, 0] ∧ win0_15.index t = ![t.val, 0] ∧ win0_16.index t = ![t.val, 0] ∧ win0_17.index t = ![t.val, 0] :=
  (by decide +kernel : ∀ t : Fin grid0.N, _)

variable (m : (ℓ : Loc nD τ sig) → Buf (Elt Ideal) ℓ) (c : Dev nD)

/-! The arguments by name. -/
abbrev argX : Vec Ideal S1x16384x1024 .f32 := m (c, Proc.tc.devRef main_arg0)
abbrev argO : Vec Ideal S1x16384x16x64 .f32 := m (c, Proc.tc.devRef main_arg1)
abbrev argG : Vec Ideal S1x16384x1024 .f32 := m (c, Proc.tc.devRef main_arg2)
abbrev argW : Vec Ideal S1x1024x1024 .f32 := m (c, Proc.tc.devRef main_arg3)
abbrev argGkv : Vec Ideal S1024 .f32 := m (c, Proc.tc.devRef main_arg4)
abbrev argWkv : Vec Ideal S1024x256 .f32 := m (c, Proc.tc.devRef main_arg5)
abbrev argKn : Vec Ideal S64 .f32 := m (c, Proc.tc.devRef main_arg6)
abbrev argGb : Vec Ideal S1x1024 .f32 := m (c, Proc.tc.devRef main_arg7)
abbrev argWb : Vec Ideal S1x1024x2048 .f32 := m (c, Proc.tc.devRef main_arg8)
abbrev argQn : Vec Ideal S1x64 .f32 := m (c, Proc.tc.devRef main_arg9)

theorem o_at (t : Fin cfg0.N) (r : Fin 512) (l : Fin 1024) :
    iblk m c 0 t (ix2 r l) = argO m c (ix4 0 ⟨512 * t.val + r.val, by have := (idx t).1; omega⟩ ⟨l.val / 64, by omega⟩ ⟨l.val % 64, by omega⟩) := by
  have e : ((View.whole main_v42).slice (win0_0.rect t)).emb (ix2 r l) = ix2 ⟨512 * t.val + r.val, by have := (idx t).1; omega⟩ l := by
    blk_ext [iblk, V, idx t]
  blk_simp [iblk]
  unfold V
  simp only [hostOps0, hostOps0_1, hostOps0_2, hostOps0_3, hostOps0_4, List.flatten_cons, List.flatten_nil, List.append_nil, List.cons_append, List.nil_append]
  entry_read
  rw [e]
  pointwise

theorem g_at (t : Fin cfg0.N) (r : Fin 512) (l : Fin 1024) : iblk m c 1 t (ix2 r l) = argG m c (ix3 0 ⟨512 * t.val + r.val, by have := (idx t).1; omega⟩ l) := by
  have e : ((View.whole main_v43).slice (win0_1.rect t)).emb (ix2 r l) = ix2 ⟨512 * t.val + r.val, by have := (idx t).1; omega⟩ l := by
    blk_ext [iblk, V, idx t]
  blk_simp [iblk]
  unfold V
  simp only [hostOps0, hostOps0_1, hostOps0_2, hostOps0_3, hostOps0_4, List.flatten_cons, List.flatten_nil, List.append_nil, List.cons_append, List.nil_append]
  entry_read
  rw [e]
  pointwise

theorem x_at (t : Fin cfg0.N) (r : Fin 512) (l : Fin 1024) : iblk m c 2 t (ix2 r l) = argX m c (ix3 0 ⟨512 * t.val + r.val, by have := (idx t).1; omega⟩ l) := by
  have e : ((View.whole main_v44).slice (win0_2.rect t)).emb (ix2 r l) = ix2 ⟨512 * t.val + r.val, by have := (idx t).1; omega⟩ l := by
    blk_ext [iblk, V, idx t]
  blk_simp [iblk]
  unfold V
  simp only [hostOps0, hostOps0_1, hostOps0_2, hostOps0_3, hostOps0_4, List.flatten_cons, List.flatten_nil, List.append_nil, List.cons_append, List.nil_append]
  entry_read
  rw [e]
  pointwise

theorem w_at (t : Fin cfg0.N) (r : Fin 1024) (l : Fin 1024) : iblk m c 3 t (ix2 r l) = argW m c (ix3 0 r l) := by
  have e : ((View.whole main_v46).slice (win0_3.rect t)).emb (ix2 r l) = ix2 r l := by
    blk_ext [iblk, V, idx t]
  blk_simp [iblk]
  unfold V
  simp only [hostOps0, hostOps0_1, hostOps0_2, hostOps0_3, hostOps0_4, List.flatten_cons, List.flatten_nil, List.append_nil, List.cons_append, List.nil_append]
  entry_read
  rw [e]
  pointwise

theorem wkv_at (t : Fin cfg0.N) (r : Fin 1024) (l : Fin 256) : iblk m c 5 t (ix2 r l) = argWkv m c (ix2 r l) := by
  have e : ((View.whole main_v48).slice (win0_5.rect t)).emb (ix2 r l) = ix2 r l := by
    blk_ext [iblk, V, idx t]
  blk_simp [iblk]
  unfold V
  simp only [hostOps0, hostOps0_1, hostOps0_2, hostOps0_3, hostOps0_4, List.flatten_cons, List.flatten_nil, List.append_nil, List.cons_append, List.nil_append]
  entry_read
  rw [e]
  pointwise

theorem wb_at (t : Fin cfg0.N) (r : Fin 1024) (l : Fin 2048) : iblk m c 8 t (ix2 r l) = argWb m c (ix3 0 r l) := by
  have e : ((View.whole main_v52).slice (win0_8.rect t)).emb (ix2 r l) = ix2 r l := by
    blk_ext [iblk, V, idx t]
  blk_simp [iblk]
  unfold V
  simp only [hostOps0, hostOps0_1, hostOps0_2, hostOps0_3, hostOps0_4, List.flatten_cons, List.flatten_nil, List.append_nil, List.cons_append, List.nil_append]
  entry_read
  rw [e]
  pointwise

theorem gkv_at (t : Fin cfg0.N) (l : Fin 1024) : iblk m c 4 t (ix2 0 l) = argGkv m c (ix1 l) := by
  have e : ((View.whole main_v47).slice (win0_4.rect t)).emb (ix2 0 l) = ix2 0 l := by
    blk_ext [iblk, V, idx t]
  blk_simp [iblk]
  unfold V
  simp only [hostOps0, hostOps0_1, hostOps0_2, hostOps0_3, hostOps0_4, List.flatten_cons, List.flatten_nil, List.append_nil, List.cons_append, List.nil_append]
  entry_read
  rw [e]
  pointwise

theorem kn_at (t : Fin cfg0.N) (l : Fin 128) : iblk m c 6 t (ix2 0 l) = argKn m c (ix1 ⟨l.val % 64, by omega⟩) := by
  have e : ((View.whole main_v36).slice (win0_6.rect t)).emb (ix2 0 l) = ix2 0 l := by
    blk_ext [iblk, V, idx t]
  blk_simp [iblk]
  unfold V
  simp only [hostOps0, hostOps0_1, hostOps0_2, hostOps0_3, hostOps0_4, List.flatten_cons, List.flatten_nil, List.append_nil, List.cons_append, List.nil_append]
  entry_read
  rw [e]
  pointwise

theorem gb_at (t : Fin cfg0.N) (l : Fin 1024) : iblk m c 7 t (ix2 0 l) = argGb m c (ix2 0 l) := by
  have e : ((View.whole main_v50).slice (win0_7.rect t)).emb (ix2 0 l) = ix2 0 l := by
    blk_ext [iblk, V, idx t]
  blk_simp [iblk]
  unfold V
  simp only [hostOps0, hostOps0_1, hostOps0_2, hostOps0_3, hostOps0_4, List.flatten_cons, List.flatten_nil, List.append_nil, List.cons_append, List.nil_append]
  entry_read
  rw [e]
  pointwise

theorem qn_at (t : Fin cfg0.N) (l : Fin 128) : iblk m c 9 t (ix2 0 l) = argQn m c (ix2 0 ⟨l.val % 64, by omega⟩) := by
  have e : ((View.whole main_v41).slice (win0_9.rect t)).emb (ix2 0 l) = ix2 0 l := by
    blk_ext [iblk, V, idx t]
  blk_simp [iblk]
  unfold V
  simp only [hostOps0, hostOps0_1, hostOps0_2, hostOps0_3, hostOps0_4, List.flatten_cons, List.flatten_nil, List.append_nil, List.cons_append, List.nil_append]
  entry_read
  rw [e]
  pointwise

theorem cos_at (t : Fin cfg0.N) (r : Fin 512) (l : Fin 128) : iblk m c 10 t (ix2 r l) = Ideal.cos (Heads.angle (512 * t.val + r.val) (l.val % 32)) := by
  have e : ((View.whole main_v18).slice (win0_10.rect t)).emb (ix2 r l) = ix2 ⟨512 * t.val + r.val, by have := (idx t).1; omega⟩ l := by
    blk_ext [iblk, V, idx t]
  blk_simp [iblk]
  unfold V
  simp only [hostOps0, hostOps0_1, hostOps0_2, hostOps0_3, hostOps0_4, List.flatten_cons, List.flatten_nil, List.append_nil, List.cons_append, List.nil_append]
  entry_read
  rw [e]
  pointwise [Heads.angle]

theorem sin_at (t : Fin cfg0.N) (r : Fin 512) (l : Fin 128) : iblk m c 11 t (ix2 r l)
    = if l.val % 64 < 32 then -Ideal.sin (Heads.angle (512 * t.val + r.val) (l.val % 64)) else Ideal.sin (Heads.angle (512 * t.val + r.val) (l.val % 64 - 32)) := by
  have e : ((View.whole main_v23).slice (win0_11.rect t)).emb (ix2 r l) = ix2 ⟨512 * t.val + r.val, by have := (idx t).1; omega⟩ l := by
    blk_ext [iblk, V, idx t]
  blk_simp [iblk]
  unfold V
  simp only [hostOps0, hostOps0_1, hostOps0_2, hostOps0_3, hostOps0_4, List.flatten_cons, List.flatten_nil, List.append_nil, List.cons_append, List.nil_append]
  entry_read
  rw [e]
  pointwise [Heads.angle]
  split <;> rfl

/-- A whole number by 64, rounded down, as the host computes it. -/
def by64 {s : Shape} (h : S_.BroadcastsInDim s (![] : Fin 0 → Fin s.rank)) (x : IVec s 32) : IVec s 32 :=
  select (andi (cmpi .ne (signi x) (broadcastInDim s ![] h (signi (constantI S_ 32 64#32))))
      (cmpi .ne (Host.remsi x (broadcastInDim s ![] h (constantI S_ 32 64#32))) (broadcastInDim s ![] h (constantI S_ 32 0#32))))
    (subi (Host.divsi x (broadcastInDim s ![] h (constantI S_ 32 64#32))) (broadcastInDim s ![] h (constantI S_ 32 1#32)))
    (Host.divsi x (broadcastInDim s ![] h (constantI S_ 32 64#32)))

/-- The same of one word. -/
def word64 (x : BitVec 32) : BitVec 32 :=
  Scalar.select (IntOp.andi (IntOp.cmpi .ne (if x = 0 then 0 else if x.msb = true then -1 else 1 : BitVec 32) (if 64#32 = 0 then 0 else if (64#32).msb = true then -1 else 1 : BitVec 32))
      (IntOp.cmpi .ne (IntOp.remsi ArithUnit.host x 64#32) 0#32))
    (IntOp.subi (IntOp.divsi ArithUnit.host x 64#32) 1#32) (IntOp.divsi ArithUnit.host x 64#32)

theorem word64_eq : ∀ r : Fin 128, word64 (BitVec.ofNat 32 r.val) = BitVec.ofNat 32 (r.val / 64) := by decide +kernel

theorem eq_word : ∀ a b : Fin 2, IntOp.cmpi .eq (BitVec.ofNat 32 a.val) (BitVec.ofNat 32 b.val) = if a.val = b.val then 1#1 else 0#1 := by decide

theorem b2_at (t : Fin cfg0.N) (r : Fin 128) (l : Fin 128) : iblk m c 12 t (ix2 r l) = (if r.val / 64 = l.val / 64 then 1 else 0 : EReal) := by
  have e : ((View.whole main_v32).slice (win0_12.rect t)).emb (ix2 r l) = ix2 r l := by
    blk_ext [iblk, V, idx t]
  blk_simp [iblk]
  unfold V
  simp only [hostOps0, hostOps0_1, hostOps0_2, hostOps0_3, hostOps0_4, List.flatten_cons, List.flatten_nil, List.append_nil, List.cons_append, List.nil_append]
  entry_read
  rw [e]
  change (uitofp (F := Ideal) .bf16 (cmpi .eq
    (broadcastInDim S128x128 ![0, 1] bcast_S128x1_S128x128_0_1 (by64 bcast_S_S128x1 (broadcastInDim S128x1 ![0] bcast_S128_S128x1_0 (iotaInDim S128 32 0))))
    (broadcastInDim S128x128 ![0, 1] bcast_S1x128_S128x128_0_1 (by64 bcast_S_S1x128 (broadcastInDim S1x128 ![1] bcast_S128_S1x128_1 (iotaInDim S128 32 0)))))) (ix2 r l) = _
  pointwise [by64]
  change FloatOps.uitofp (F := Ideal) .bf16 (IntOp.cmpi .eq (word64 (BitVec.ofNat 32 r.val)) (word64 (BitVec.ofNat 32 l.val))) = _
  rw [word64_eq, word64_eq, eq_word ⟨r.val / 64, by omega⟩ ⟨l.val / 64, by omega⟩]
  split
  · simp [FloatOps.uitofp]
  · simp [FloatOps.uitofp]

end Cert.Kernel2Ideal.Post
-- ==== Proof.PostRef.lean ====
/-
  The reference of the step between the two attentions, in stages: the gated output of the first layer, its norm, the
  projections, and the normed and rotated heads.
-/
module

public import proofs.«01_k».proof.Proof.PostMath
public import proofs.«01_k».proof.Proof.Gen.Reference2Ideal.Run

@[expose] public section

set_option maxRecDepth 16384

noncomputable section

namespace Cert.Reference2Ideal.Post

open Cert.Reference2Ideal Cert.Reference2Ideal.Gen Cert.Reference2Ideal.Facts Idealize.ShloMosaic Idealize.ShloMosaic.TcCoe

/-- The first layer's output. -/
def hidden (x : FVec Ideal S1x16384x1024 .f32) (o : FVec Ideal S1x16384x16x64 .f32) (gate : FVec Ideal S1x16384x1024 .f32) (w : FVec Ideal S1x1024x1024 .f32) :
    FVec Ideal S1x16384x1024 .f32 :=
  addf x (Host.dotGeneral (φ₁ := .f32) (φ₂ := .f32) (F := Ideal) dot_S1x16384x1024_S1024x1024_S1x16384x1024_2_0_01_1_n_n none
    (mulf (shapeCast _ o shapeCasts_S1x16384x16x64_S1x16384x1024)
      (mulf gate (Host.divf (broadcastInDim S1x16384x1024 ![] bcast_S_S1x16384x1024 (constant (F := Ideal) S_ .f32 0x3F800000#32))
        (addf (broadcastInDim S1x16384x1024 ![] bcast_S_S1x16384x1024 (constant (F := Ideal) S_ .f32 0x3F800000#32)) (Host.exp (Host.negf gate))))))
    (shapeCast _ w shapeCasts_S1x1024x1024_S1024x1024))

/-- A row over its root mean square. -/
def normed (h : FVec Ideal S1x16384x1024 .f32) : FVec Ideal S1x16384x1024 .f32 :=
  mulf h (broadcastInDim S1x16384x1024 ![0, 1, 2] bcast_S1x16384x1_S1x16384x1024_0_1_2 (Host.rsqrt (addf
    (Host.divf (broadcastInDim S1x16384x1 ![0, 1] bcast_S1x16384_S1x16384x1_0_1
      (Host.reduceAdd (mulf h h) (constant (F := Ideal) S_ .f32 0x00000000#32) reducesTo_S1x16384x1024_S1x16384_d2 h_S_))
      (broadcastInDim S1x16384x1 ![] bcast_S_S1x16384x1 (constant (F := Ideal) S_ .f32 0x44800000#32)))
    (broadcastInDim S1x16384x1 ![] bcast_S_S1x16384x1 (constant (F := Ideal) S_ .f32 0x358637BD#32)))))

/-- The normed row by its gain. -/
def gained (h : FVec Ideal S1x16384x1024 .f32) (g : FVec Ideal S1024 .f32) : FVec Ideal S1x16384x1024 .f32 :=
  mulf h (broadcastInDim S1x16384x1024 ![0, 1, 2] bcast_S1x1x1024_S1x16384x1024_0_1_2 (broadcastInDim S1x1x1024 ![2] bcast_S1024_S1x1x1024_2 g))

/-- The shared keys and values. -/
def keysValues (h : FVec Ideal S1x16384x1024 .f32) (g : FVec Ideal S1024 .f32) (w : FVec Ideal S1024x256 .f32) : FVec Ideal S1x16384x256 .f32 :=
  Host.dotGeneral (φ₁ := .f32) (φ₂ := .f32) (F := Ideal) dot_S1x16384x1024_S1024x256_S1x16384x256_2_0_01_1_n_n none (gained (normed h) g) w

/-- The second layer's queries and gate. -/
def queriesGate (h : FVec Ideal S1x16384x1024 .f32) (g : FVec Ideal S1x1024 .f32) (w : FVec Ideal S1x1024x2048 .f32) : FVec Ideal S1x16384x2048 .f32 :=
  Host.dotGeneral (φ₁ := .f32) (φ₂ := .f32) (F := Ideal) dot_S1x16384x1024_S1024x2048_S1x16384x2048_2_0_01_1_n_n none
    (gained (normed h) (shapeCast _ g shapeCasts_S1x1024_S1024)) (shapeCast _ w shapeCasts_S1x1024x2048_S1024x2048)

/-- The angles of the rotary embedding. -/
def angles : FVec Ideal S16384x32 .f32 :=
  mulf (broadcastInDim S16384x32 ![0, 1] bcast_S16384x1_S16384x32_0_1 (broadcastInDim S16384x1 ![0] bcast_S16384_S16384x1_0 (sitofp (F := Ideal) .f32 (iotaInDim S16384 32 0))))
    (broadcastInDim S16384x32 ![0, 1] bcast_S1x32_S16384x32_0_1 (broadcastInDim S1x32 ![1] bcast_S32_S1x32_1
      (Host.divf (broadcastInDim S32 ![] bcast_S_S32 (constant (F := Ideal) S_ .f32 0x3F800000#32))
        (Host.powf (broadcastInDim S32 ![] bcast_S_S32 (constant (F := Ideal) S_ .f32 0x461C4000#32))
          (Host.divf (sitofp (F := Ideal) .f32 (iotaInDim S32 32 0)) (broadcastInDim S32 ![] bcast_S_S32 (constant (F := Ideal) S_ .f32 0x42000000#32)))))))

def headNorm16 (z : FVec Ideal S1x16384x16x64 .f32) (g : FVec Ideal S64 .f32) : FVec Ideal S1x16384x16x64 .f32 :=
  mulf (mulf z (broadcastInDim S1x16384x16x64 ![0, 1, 2, 3] bcast_S1x16384x16x1_S1x16384x16x64_0_1_2_3 (Host.rsqrt (addf
    (Host.divf (broadcastInDim S1x16384x16x1 ![0, 1, 2] bcast_S1x16384x16_S1x16384x16x1_0_1_2
      (Host.reduceAdd (mulf z z) (constant (F := Ideal) S_ .f32 0x00000000#32) reducesTo_S1x16384x16x64_S1x16384x16_d3 h_S_))
      (broadcastInDim S1x16384x16x1 ![] bcast_S_S1x16384x16x1 (constant (F := Ideal) S_ .f32 0x42800000#32)))
    (broadcastInDim S1x16384x16x1 ![] bcast_S_S1x16384x16x1 (constant (F := Ideal) S_ .f32 0x358637BD#32))))))
    (broadcastInDim S1x16384x16x64 ![0, 1, 2, 3] bcast_S1x1x1x64_S1x16384x16x64_0_1_2_3 (broadcastInDim S1x1x1x64 ![3] bcast_S64_S1x1x1x64_3 g))

def rope16 (z : FVec Ideal S1x16384x16x64 .f32) : FVec Ideal S1x16384x16x64 .f32 :=
  let x1 : FVec Ideal S1x16384x16x32 .f32 := extractStridedSlice S1x16384x16x32 ![0, 0, 0, 0] z slices_S1x16384x16x64_S1x16384x16x32_0_0_0_0
  let x2 : FVec Ideal S1x16384x16x32 .f32 := extractStridedSlice S1x16384x16x32 ![0, 0, 0, 32] z slices_S1x16384x16x64_S1x16384x16x32_0_0_0_32
  let cs : FVec Ideal S1x16384x16x32 .f32 := broadcastInDim S1x16384x16x32 ![0, 1, 2, 3] bcast_S1x16384x1x32_S1x16384x16x32_0_1_2_3 (broadcastInDim S1x16384x1x32 ![1, 2, 3] bcast_S16384x1x32_S1x16384x1x32_1_2_3
    (broadcastInDim S16384x1x32 ![0, 2] bcast_S16384x32_S16384x1x32_0_2 (Host.cos angles)))
  let sn : FVec Ideal S1x16384x16x32 .f32 := broadcastInDim S1x16384x16x32 ![0, 1, 2, 3] bcast_S1x16384x1x32_S1x16384x16x32_0_1_2_3 (broadcastInDim S1x16384x1x32 ![1, 2, 3] bcast_S16384x1x32_S1x16384x1x32_1_2_3
    (broadcastInDim S16384x1x32 ![0, 2] bcast_S16384x32_S16384x1x32_0_2 (Host.sin angles)))
  concatenate S1x16384x16x64 3 [⟨S1x16384x16x32, subf (mulf x1 cs) (mulf x2 sn)⟩, ⟨S1x16384x16x32, addf (mulf x2 cs) (mulf x1 sn)⟩] concatenates_S1x16384x16x32_S1x16384x16x32_S1x16384x16x64_d3

def headNorm2 (z : FVec Ideal S1x16384x2x64 .f32) (g : FVec Ideal S64 .f32) : FVec Ideal S1x16384x2x64 .f32 :=
  mulf (mulf z (broadcastInDim S1x16384x2x64 ![0, 1, 2, 3] bcast_S1x16384x2x1_S1x16384x2x64_0_1_2_3 (Host.rsqrt (addf
    (Host.divf (broadcastInDim S1x16384x2x1 ![0, 1, 2] bcast_S1x16384x2_S1x16384x2x1_0_1_2
      (Host.reduceAdd (mulf z z) (constant (F := Ideal) S_ .f32 0x00000000#32) reducesTo_S1x16384x2x64_S1x16384x2_d3 h_S_))
      (broadcastInDim S1x16384x2x1 ![] bcast_S_S1x16384x2x1 (constant (F := Ideal) S_ .f32 0x42800000#32)))
    (broadcastInDim S1x16384x2x1 ![] bcast_S_S1x16384x2x1 (constant (F := Ideal) S_ .f32 0x358637BD#32))))))
    (broadcastInDim S1x16384x2x64 ![0, 1, 2, 3] bcast_S1x1x1x64_S1x16384x2x64_0_1_2_3 (broadcastInDim S1x1x1x64 ![3] bcast_S64_S1x1x1x64_3 g))

def rope2 (z : FVec Ideal S1x16384x2x64 .f32) : FVec Ideal S1x16384x2x64 .f32 :=
  let x1 : FVec Ideal S1x16384x2x32 .f32 := extractStridedSlice S1x16384x2x32 ![0, 0, 0, 0] z slices_S1x16384x2x64_S1x16384x2x32_0_0_0_0
  let x2 : FVec Ideal S1x16384x2x32 .f32 := extractStridedSlice S1x16384x2x32 ![0, 0, 0, 32] z slices_S1x16384x2x64_S1x16384x2x32_0_0_0_32
  let cs : FVec Ideal S1x16384x2x32 .f32 := broadcastInDim S1x16384x2x32 ![0, 1, 2, 3] bcast_S1x16384x1x32_S1x16384x2x32_0_1_2_3 (broadcastInDim S1x16384x1x32 ![1, 2, 3] bcast_S16384x1x32_S1x16384x1x32_1_2_3
    (broadcastInDim S16384x1x32 ![0, 2] bcast_S16384x32_S16384x1x32_0_2 (Host.cos angles)))
  let sn : FVec Ideal S1x16384x2x32 .f32 := broadcastInDim S1x16384x2x32 ![0, 1, 2, 3] bcast_S1x16384x1x32_S1x16384x2x32_0_1_2_3 (broadcastInDim S1x16384x1x32 ![1, 2, 3] bcast_S16384x1x32_S1x16384x1x32_1_2_3
    (broadcastInDim S16384x1x32 ![0, 2] bcast_S16384x32_S16384x1x32_0_2 (Host.sin angles)))
  concatenate S1x16384x2x64 3 [⟨S1x16384x2x32, subf (mulf x1 cs) (mulf x2 sn)⟩, ⟨S1x16384x2x32, addf (mulf x2 cs) (mulf x1 sn)⟩] concatenates_S1x16384x2x32_S1x16384x2x32_S1x16384x2x64_d3

/-- The five results. -/
def outH (h : FVec Ideal S1x16384x1024 .f32) : FVec Ideal S16384x1024 .f32 := shapeCast _ h shapeCasts_S1x16384x1024_S16384x1024
def outK (z : FVec Ideal S1x16384x256 .f32) (g : FVec Ideal S64 .f32) : FVec Ideal S16384x128 .f32 :=
  shapeCast _ (rope2 (headNorm2 (shapeCast _ (extractStridedSlice S1x16384x128 ![0, 0, 0] z slices_S1x16384x256_S1x16384x128_0_0_0) shapeCasts_S1x16384x128_S1x16384x2x64) g)) shapeCasts_S1x16384x2x64_S16384x128
def outV (z : FVec Ideal S1x16384x256 .f32) : FVec Ideal S16384x128 .f32 :=
  shapeCast _ (shapeCast _ (extractStridedSlice S1x16384x128 ![0, 0, 128] z slices_S1x16384x256_S1x16384x128_0_0_128) shapeCasts_S1x16384x128_S1x16384x2x64 : FVec Ideal S1x16384x2x64 .f32) shapeCasts_S1x16384x2x64_S16384x128
def outQ (z : FVec Ideal S1x16384x2048 .f32) (g : FVec Ideal S1x64 .f32) : FVec Ideal S16384x1024 .bf16 :=
  shapeCast _ (truncf .bf16 (mulf (rope16 (headNorm16 (shapeCast _ (extractStridedSlice S1x16384x1024 ![0, 0, 0] z slices_S1x16384x2048_S1x16384x1024_0_0_0) shapeCasts_S1x16384x1024_S1x16384x16x64) (shapeCast _ g shapeCasts_S1x64_S64)))
    (broadcastInDim S1x16384x16x64 ![] bcast_S_S1x16384x16x64 (constant (F := Ideal) S_ .f32 0x3E000000#32))) bitsLt_bf16_f32) shapeCasts_S1x16384x16x64_S16384x1024
def outG (z : FVec Ideal S1x16384x2048 .f32) : FVec Ideal S16384x1024 .f32 :=
  shapeCast _ (extractStridedSlice S1x16384x1024 ![0, 0, 1024] z slices_S1x16384x2048_S1x16384x1024_0_0_1024) shapeCasts_S1x16384x1024_S16384x1024

theorem outH_apply (h : FVec Ideal S1x16384x1024 .f32) (s : Fin 16384) (l : Fin 1024) : outH h (ix2 s l) = h (ix3 0 s l) := by
  pointwise [outH]

theorem outV_apply (z : FVec Ideal S1x16384x256 .f32) (s : Fin 16384) (l : Fin 128) : outV z (ix2 s l) = z (ix3 0 s ⟨128 + l.val, by omega⟩) := by
  pointwise [outV]

theorem outG_apply (z : FVec Ideal S1x16384x2048 .f32) (s : Fin 16384) (l : Fin 1024) : outG z (ix2 s l) = z (ix3 0 s ⟨1024 + l.val, by omega⟩) := by
  pointwise [outG]

theorem angles_apply (s : Fin 16384) (d : Fin 32) : angles (ix2 s d) = Heads.angle s.val d.val := by
  pointwise [angles, Heads.angle]

theorem rope2_apply (z : FVec Ideal S1x16384x2x64 .f32) (s : Fin 16384) (a : Fin 2) (d : Fin 64) :
    rope2 z (ix4 0 s a d) = Heads.turn s.val (fun d => z (ix4 0 s a d)) d := by
  pointwise [rope2]
  simp only [angles_apply, Heads.turn]
  by_cases h : d.val < 32
  · rw [dif_pos h, dif_pos h]
  · rw [dif_neg h, dif_neg h]
    have e : (⟨32 + (d.val - 32), by omega⟩ : Fin 64) = d := Fin.ext (by dsimp only; omega)
    simp only [e]

theorem headNorm2_apply (z : FVec Ideal S1x16384x2x64 .f32) (g : FVec Ideal S64 .f32) (s : Fin 16384) (a : Fin 2) (d : Fin 64) :
    headNorm2 z g (ix4 0 s a d) = Heads.norm (fun d => z (ix4 0 s a d)) (fun d => g (ix1 d)) d := by
  pointwise [headNorm2, Heads.norm]

theorem rope16_apply (z : FVec Ideal S1x16384x16x64 .f32) (s : Fin 16384) (a : Fin 16) (d : Fin 64) :
    rope16 z (ix4 0 s a d) = Heads.turn s.val (fun d => z (ix4 0 s a d)) d := by
  pointwise [rope16]
  simp only [angles_apply, Heads.turn]
  by_cases h : d.val < 32
  · rw [dif_pos h, dif_pos h]
  · rw [dif_neg h, dif_neg h]
    have e : (⟨32 + (d.val - 32), by omega⟩ : Fin 64) = d := Fin.ext (by dsimp only; omega)
    simp only [e]

theorem headNorm16_apply (z : FVec Ideal S1x16384x16x64 .f32) (g : FVec Ideal S64 .f32) (s : Fin 16384) (a : Fin 16) (d : Fin 64) :
    headNorm16 z g (ix4 0 s a d) = Heads.norm (fun d => z (ix4 0 s a d)) (fun d => g (ix1 d)) d := by
  pointwise [headNorm16, Heads.norm]

theorem normed_apply (h : FVec Ideal S1x16384x1024 .f32) (s : Fin 16384) (l : Fin 1024) :
    normed h (ix3 0 s l) = h (ix3 0 s l) * Ideal.rsqrt (Ideal.div (∑ x, h (ix3 0 s x) * h (ix3 0 s x)) (Ideal.ofBits .f32 0x44800000#32) + Ideal.ofBits .f32 0x358637BD#32) := by
  pointwise [normed]

theorem keysValues_apply (h : FVec Ideal S1x16384x1024 .f32) (g : FVec Ideal S1024 .f32) (w : FVec Ideal S1024x256 .f32) (s : Fin 16384) (l : Fin 256) :
    keysValues h g w (ix3 0 s l) = ∑ x, normed h (ix3 0 s x) * g (ix1 x) * w (ix2 x l) := by
  pointwise [keysValues, gained]

theorem queriesGate_apply (h : FVec Ideal S1x16384x1024 .f32) (g : FVec Ideal S1x1024 .f32) (w : FVec Ideal S1x1024x2048 .f32) (s : Fin 16384) (l : Fin 2048) :
    queriesGate h g w (ix3 0 s l) = ∑ x, normed h (ix3 0 s x) * g (ix2 0 x) * w (ix3 0 x l) := by
  pointwise [queriesGate, gained]

theorem hidden_apply (x : FVec Ideal S1x16384x1024 .f32) (o : FVec Ideal S1x16384x16x64 .f32) (gate : FVec Ideal S1x16384x1024 .f32) (w : FVec Ideal S1x1024x1024 .f32) (s : Fin 16384) (l : Fin 1024) :
    hidden x o gate w (ix3 0 s l) = x (ix3 0 s l) + ∑ k : Fin 1024,
      o (ix4 0 s ⟨k.val / 64, by omega⟩ ⟨k.val % 64, by omega⟩) * (gate (ix3 0 s k) * Ideal.div 1 (1 + Ideal.exp (-gate (ix3 0 s k)))) * w (ix3 0 k l) := by
  pointwise [hidden]

theorem outQ_apply (z : FVec Ideal S1x16384x2048 .f32) (g : FVec Ideal S1x64 .f32) (s : Fin 16384) (l : Fin 1024) :
    outQ z g (ix2 s l) = Heads.turn s.val (Heads.norm (fun d => z (ix3 0 s ⟨64 * (l.val / 64) + d.val, by omega⟩)) (fun d => g (ix2 0 d))) ⟨l.val % 64, by omega⟩ * Ideal.ofBits .f32 0x3E000000#32 := by
  pointwise [outQ]
  rw [rope16_apply]
  simp only [headNorm16_apply]
  refine congrArg (· * _) (Heads.turn_congr rfl (fun d => Heads.norm_congr (fun d => ?_) (fun d => ?_) rfl) rfl)
  · pointwise
    exact congrArg (fun x => z (ix3 0 s x)) (Fin.ext (by dsimp only; omega))
  · pointwise

theorem outK_apply (z : FVec Ideal S1x16384x256 .f32) (g : FVec Ideal S64 .f32) (s : Fin 16384) (l : Fin 128) :
    outK z g (ix2 s l) = Heads.turn s.val (Heads.norm (fun d => z (ix3 0 s ⟨64 * (l.val / 64) + d.val, by omega⟩)) (fun d => g (ix1 d))) ⟨l.val % 64, by omega⟩ := by
  pointwise [outK]
  rw [rope2_apply]
  simp only [headNorm2_apply]
  refine Heads.turn_congr rfl (fun d => Heads.norm_congr (fun d => ?_) (fun _ => rfl) rfl) rfl
  pointwise
  exact congrArg (fun x => z (ix3 0 s x)) (Fin.ext (by dsimp only; omega))

section
variable (m : (ℓ : Loc nD τ sig) → Buf (Elt Ideal) ℓ) (c : Dev nD)

/-- The first layer's output, of the reference's arguments. -/
abbrev hid : FVec Ideal S1x16384x1024 .f32 := hidden (m ((c.tc : Thread nD τ).loc main_arg0)) (m ((c.tc : Thread nD τ).loc main_arg1)) (m ((c.tc : Thread nD τ).loc main_arg2)) (m ((c.tc : Thread nD τ).loc main_arg3))
abbrev kv : FVec Ideal S1x16384x256 .f32 := keysValues (hid m c) (m ((c.tc : Thread nD τ).loc main_arg4)) (m ((c.tc : Thread nD τ).loc main_arg5))
abbrev zb : FVec Ideal S1x16384x2048 .f32 := queriesGate (hid m c) (m ((c.tc : Thread nD τ).loc main_arg7)) (m ((c.tc : Thread nD τ).loc main_arg8))

theorem res_k_eq : Value.res_main_v140 (F := Ideal) m c = outK (kv m c) (m ((c.tc : Thread nD τ).loc main_arg6)) := rfl

theorem res_q_eq : Value.res_main_v145 (F := Ideal) m c = outQ (zb m c) (m ((c.tc : Thread nD τ).loc main_arg9)) := rfl
end

end Cert.Reference2Ideal.Post
-- ==== Proof.PostFinal.lean ====
/-
  The arrays the kernel between the two attentions leaves are the reference's.
-/
module

public import proofs.«01_k».proof.Proof.PostTile
public import proofs.«01_k».proof.Proof.PostRef

@[expose] public section

set_option maxRecDepth 16384

noncomputable section

namespace Cert.Kernel2Ideal.Post

open Cert.Kernel2Ideal Cert.Kernel2Ideal.Gen Idealize.ShloMosaic Idealize.ShloMosaic.TcCoe
open Cert.Reference2Ideal.Post (hidden normed keysValues queriesGate outH outK outV outQ outG)

variable (m : (ℓ : Loc nD τ sig) → Buf (Elt Ideal) ℓ) (c : Dev nD)

/-- The first layer's output, of the kernel's arguments. -/
def hid : FVec Ideal Cert.Reference2Ideal.S1x16384x1024 .f32 := hidden (argX m c) (argO m c) (argG m c) (argW m c)
def kv : FVec Ideal Cert.Reference2Ideal.S1x16384x256 .f32 := keysValues (hid m c) (argGkv m c) (argWkv m c)
def zb : FVec Ideal Cert.Reference2Ideal.S1x16384x2048 .f32 := queriesGate (hid m c) (argGb m c) (argWb m c)

/-- A row of an instance in the whole sequence. -/
def pos (t : Fin cfg0.N) (r : Fin 512) : Fin 16384 := ⟨512 * t.val + r.val, by have := (idx t).1; omega⟩

abbrev tH (t : Fin cfg0.N) : FVec Ideal S512x1024 .f32 := k0_pay3 (iblk m c 2 t) (iblk m c 0 t) (iblk m c 1 t) (iblk m c 3 t)
abbrev tN (t : Fin cfg0.N) : FVec Ideal S512x1024 .f32 := k0_pay4 (iblk m c 2 t) (iblk m c 0 t) (iblk m c 1 t) (iblk m c 3 t)
abbrev tKv (t : Fin cfg0.N) : FVec Ideal S512x256 .f32 := k0_pay11 (tN m c t) (iblk m c 4 t) (iblk m c 5 t)
abbrev tZb (t : Fin cfg0.N) : FVec Ideal S512x2048 .f32 := k0_pay15 (tN m c t) (iblk m c 7 t) (iblk m c 8 t)
abbrev tMask : IVec S512x128 1 := k0_pay7 (Scalar.select (Scalar.cmpi .eq 64#32 0#32) 1#32 64#32) k0_pay5 k0_pay6

theorem tH_at (t : Fin cfg0.N) (r : Fin 512) (l : Fin 1024) : tH m c t (ix2 r l) = hid m c (ix3 0 (pos t r) l) := by
  rw [tH, pay3_apply, hid, Cert.Reference2Ideal.Post.hidden_apply, x_at]
  refine congrArg (_ + ·) (Finset.sum_congr rfl fun k _ => ?_)
  rw [o_at, g_at, w_at]
  rfl

theorem tN_at (t : Fin cfg0.N) (r : Fin 512) (l : Fin 1024) : tN m c t (ix2 r l) = normed (hid m c) (ix3 0 (pos t r) l) := by
  rw [tN, pay4_apply, Cert.Reference2Ideal.Post.normed_apply]
  simp only [tH_at]

theorem tKv_at (t : Fin cfg0.N) (r : Fin 512) (l : Fin 256) : tKv m c t (ix2 r l) = kv m c (ix3 0 (pos t r) l) := by
  rw [tKv, pay11_apply, kv, Cert.Reference2Ideal.Post.keysValues_apply]
  refine Finset.sum_congr rfl fun k _ => ?_
  rw [tN_at, gkv_at, wkv_at]

theorem tZb_at (t : Fin cfg0.N) (r : Fin 512) (l : Fin 2048) : tZb m c t (ix2 r l) = zb m c (ix3 0 (pos t r) l) := by
  rw [tZb, pay15_apply, zb, Cert.Reference2Ideal.Post.queriesGate_apply]
  refine Finset.sum_congr rfl fun k _ => ?_
  rw [tN_at, gb_at, wb_at]

/-- Two heads of an instance, normed and turned. -/
theorem heads_at (t : Fin cfg0.N) (z : FVec Ideal S512x128 .f32) (gain : Vec Ideal S1x128 .f32) (g : Fin 64 → EReal)
    (hg : ∀ l : Fin 128, gain (ix2 0 l) = g ⟨l.val % 64, by omega⟩) (r : Fin 512) (l : Fin 128) :
    k0_pay13 tMask (iblk m c 10 t) (iblk m c 11 t) (headNorm z (iblk m c 12 t) gain) (ix2 r l)
      = Heads.turn (pos t r).val (Heads.norm (fun d => z (ix2 r ⟨64 * (l.val / 64) + d.val, by omega⟩)) g) ⟨l.val % 64, by omega⟩ := by
  rw [pay13_apply]
  refine (Heads.turn_lanes (512 * t.val + r.val) (fun l => headNorm z (iblk m c 12 t) gain (ix2 r l)) l _ (mask_apply r l) _ _ (cos_at m c t r l) (sin_at m c t r l)).trans
    (Heads.turn_congr rfl (fun d => ?_) rfl)
  rw [headNorm_apply]
  refine (Heads.norm_lanes (fun l => z (ix2 r l)) (fun l => gain (ix2 0 l)) (fun x l => (iblk m c 12 t : Vec Ideal S128x128 .bf16) (ix2 x l)) g (b2_at m c t) hg _).trans
    (Heads.norm_congr (fun d' => ?_) (fun _ => rfl) (Fin.ext (by dsimp only; omega)))
  exact congrArg (fun x => z (ix2 r x)) (Fin.ext (by dsimp only; omega))

theorem k_at (t : Fin cfg0.N) (r : Fin 512) (l : Fin 128) :
    k0_pay13 tMask (iblk m c 10 t) (iblk m c 11 t) (headNorm (extractStridedSlice S512x128 ![0, 0] (tKv m c t) slices_S512x256_o0_0_S512x128) (iblk m c 12 t) (iblk m c 6 t)) (ix2 r l)
      = outK (kv m c) (argKn m c) (ix2 (pos t r) l) := by
  rw [heads_at m c t _ _ (fun d => argKn m c (ix1 d)) (kn_at m c t), Cert.Reference2Ideal.Post.outK_apply]
  refine Heads.turn_congr rfl (fun d => Heads.norm_congr (fun d => ?_) (fun _ => rfl) rfl) rfl
  rw [← tKv_at]
  pointwise

theorem v_at (t : Fin cfg0.N) (r : Fin 512) (l : Fin 128) : k0_pay14 (tKv m c t) (ix2 r l) = outV (kv m c) (ix2 (pos t r) l) := by
  rw [Cert.Reference2Ideal.Post.outV_apply, ← tKv_at]
  pointwise [k0_pay14]

theorem gate_at (t : Fin cfg0.N) (r : Fin 512) (l : Fin 1024) : k0_pay2 (tZb m c t) (ix2 r l) = outG (zb m c) (ix2 (pos t r) l) := by
  rw [Cert.Reference2Ideal.Post.outG_apply, ← tZb_at]
  pointwise [k0_pay2]

theorem q_at (t : Fin cfg0.N) (k : Fin 8) (r : Fin 512) (l : Fin 128) :
    queries k tMask (iblk m c 10 t) (iblk m c 11 t) (iblk m c 12 t) (tZb m c t) (iblk m c 9 t) (ix2 r l)
      = outQ (zb m c) (argQn m c) (ix2 (pos t r) ⟨128 * k.val + l.val, by omega⟩) := by
  rw [queries_apply, heads_at m c t _ _ (fun d => argQn m c (ix2 0 d)) (qn_at m c t), Cert.Reference2Ideal.Post.outQ_apply]
  refine congrArg (· * _) (Heads.turn_congr rfl (fun d => Heads.norm_congr (fun d => ?_) (fun _ => rfl) rfl) (Fin.ext (by dsimp only; omega)))
  rw [slice_apply, tZb_at]
  exact congrArg (fun x => zb m c (ix3 0 (pos t r) x)) (Fin.ext (by dsimp only; omega))

theorem pay8_eq (x : Vec Ideal S512x128 .f32) : k0_pay8 x = x := by
  funext i
  obtain ⟨r, l, rfl⟩ : ∃ (a : Fin 512) (b : Fin 128), i = ix2 a b := ⟨i 0, i 1, (ix2_eta i).symm⟩
  pointwise [k0_pay8]

theorem pay9_eq (x : Vec Ideal S512x128 .f32) : k0_pay9 x = x := by
  funext i
  obtain ⟨r, l, rfl⟩ : ∃ (a : Fin 512) (b : Fin 128), i = ix2 a b := ⟨i 0, i 1, (ix2_eta i).symm⟩
  pointwise [k0_pay9]

theorem pay10_eq (x : Vec Ideal S128x128 .bf16) : k0_pay10 x = x := by
  funext i
  obtain ⟨r, l, rfl⟩ : ∃ (a : Fin 128) (b : Fin 128), i = ix2 a b := ⟨i 0, i 1, (ix2_eta i).symm⟩
  pointwise [k0_pay10]

theorem pay12_eq (n : FVec Ideal S512x1024 .f32) (b2 : Vec Ideal S128x128 .bf16) (g : Vec Ideal S1x1024 .f32) (w : Vec Ideal S1024x256 .bf16) (kn : Vec Ideal S1x128 .f32) :
    k0_pay12 n b2 g w kn = headNorm (extractStridedSlice S512x128 ![0, 0] (k0_pay11 n g w) slices_S512x256_o0_0_S512x128) b2 kn := by
  rw [show k0_pay12 n b2 g w kn = headNorm (extractStridedSlice S512x128 ![0, 0] (k0_pay11 n g w) slices_S512x256_o0_0_S512x128) (k0_pay10 b2) kn from rfl, pay10_eq]

theorem pay31_eq (t : Fin cfg0.N) : k0_pay31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = tN m c t := by
  unfold k0_pay31
  frame_out

theorem pay32_eq (t : Fin cfg0.N) : k0_pay32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = tMask := rfl

theorem pay33_eq (t : Fin cfg0.N) : k0_pay33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (iblk m c 10 t : FVec Ideal S512x128 .f32) := by
  unfold k0_pay33
  frame_out
  exact pay8_eq _

theorem pay34_eq (t : Fin cfg0.N) : k0_pay34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (iblk m c 11 t : FVec Ideal S512x128 .f32) := by
  unfold k0_pay34
  frame_out
  exact pay9_eq _

theorem pay35_eq (t : Fin cfg0.N) : k0_pay35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (iblk m c 12 t : FVec Ideal S128x128 .bf16) := by
  unfold k0_pay35
  frame_out
  exact pay10_eq _

theorem pay36_eq (t : Fin cfg0.N) : k0_pay36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = tZb m c t := by
  unfold k0_pay36
  rw [pay31_eq]
  frame_out

theorem final13 : (dats m 0 c).arrAt 13 cfg0.N = outH (hid m c) := by
  refine (dats m 0 c).arrAt_eq_of_covers 13 _ (by decide +kernel) fun t _ y => ?_
  blk_simp
  rw [after0_13]
  obtain ⟨row, l, rfl⟩ : ∃ (a : Fin 512) (b : Fin 1024), y = ix2 a b := ⟨y 0, y 1, (ix2_eta y).symm⟩
  frame_out
  have e : ((View.whole main_v53_0).slice (win0_13.rect t)).emb (ix2 row l) = ix2 (pos t row) l := by blk_ext [iblk, V, idx t, pos]
  rw [e, Cert.Reference2Ideal.Post.outH_apply]
  exact tH_at m c t row l

theorem final14 : (dats m 0 c).arrAt 14 cfg0.N = outK (kv m c) (argKn m c) := by
  refine (dats m 0 c).arrAt_eq_of_covers 14 _ (by decide +kernel) fun t _ y => ?_
  blk_simp
  rw [after0_14]
  obtain ⟨row, l, rfl⟩ : ∃ (a : Fin 512) (b : Fin 128), y = ix2 a b := ⟨y 0, y 1, (ix2_eta y).symm⟩
  frame_out
  have e : ((View.whole main_v53_1).slice (win0_14.rect t)).emb (ix2 row l) = ix2 (pos t row) l := by blk_ext [iblk, V, idx t, pos]
  rw [e, pay31_eq, pay32_eq, pay33_eq, pay34_eq, pay12_eq]
  exact k_at m c t row l

theorem final15 : (dats m 0 c).arrAt 15 cfg0.N = outV (kv m c) := by
  refine (dats m 0 c).arrAt_eq_of_covers 15 _ (by decide +kernel) fun t _ y => ?_
  blk_simp
  rw [after0_15]
  obtain ⟨row, l, rfl⟩ : ∃ (a : Fin 512) (b : Fin 128), y = ix2 a b := ⟨y 0, y 1, (ix2_eta y).symm⟩
  frame_out
  have e : ((View.whole main_v53_2).slice (win0_15.rect t)).emb (ix2 row l) = ix2 (pos t row) l := by blk_ext [iblk, V, idx t, pos]
  rw [e, pay31_eq]
  exact v_at m c t row l

theorem final17 : (dats m 0 c).arrAt 17 cfg0.N = outG (zb m c) := by
  refine (dats m 0 c).arrAt_eq_of_covers 17 _ (by decide +kernel) fun t _ y => ?_
  blk_simp
  rw [after0_17]
  obtain ⟨row, l, rfl⟩ : ∃ (a : Fin 512) (b : Fin 1024), y = ix2 a b := ⟨y 0, y 1, (ix2_eta y).symm⟩
  frame_out
  have e : ((View.whole main_v53_4).slice (win0_17.rect t)).emb (ix2 row l) = ix2 (pos t row) l := by blk_ext [iblk, V, idx t, pos]
  rw [e, pay36_eq]
  exact gate_at m c t row l

/-- An instance's block of the queries. -/
def blockQ (t : Fin cfg0.N) : FVec Ideal S512x1024 .bf16 := fun z => outQ (zb m c) (argQn m c) (ix2 (pos t (z 0)) (z 1))

theorem inb_heads (k : Fin 8) : ∀ a, (![0, 128 * k.val] : Fin 2 → ℕ) a + S512x128.size a ≤ S512x1024.size a := by
  revert k; decide

theorem heads_piece (t : Fin cfg0.N) (k : Fin 8) (x : (Rect.unit (s := S512x1024) ![0, 128 * k.val] S512x128.size (inb_heads k)).shape.Idx) :
    queries k tMask (iblk m c 10 t) (iblk m c 11 t) (iblk m c 12 t) (tZb m c t) (iblk m c 9 t) x
      = blockQ m c t ((Rect.unit (s := S512x1024) ![0, 128 * k.val] S512x128.size (inb_heads k)).emb x) := by
  have hx : x = ix2 (x 0) (x 1) := by
    funext a; fin_cases a <;> rfl
  have h0 : (x 0).val < 512 := (x 0).isLt
  have h1 : (x 1).val < 128 := (x 1).isLt
  rw [hx]
  refine (q_at m c t k ⟨(x 0).val, h0⟩ ⟨(x 1).val, h1⟩).trans ?_
  have e0 : ((Rect.unit (s := S512x1024) ![0, 128 * k.val] S512x128.size (inb_heads k)).emb x 0).val = (x 0).val := by
    show 0 + 1 * (x 0).val = _; omega
  have e1 : ((Rect.unit (s := S512x1024) ![0, 128 * k.val] S512x128.size (inb_heads k)).emb x 1).val = 128 * k.val + (x 1).val := by
    show 128 * k.val + 1 * (x 1).val = _; omega
  rw [← hx]
  unfold blockQ
  exact congrArg (outQ (zb m c) (argQn m c)) (congr (congrArg ix2 (Fin.ext (by show 512 * t.val + (x 0).val = 512 * t.val + _; rw [e0]))) (Fin.ext e1.symm))

theorem final16 : (dats m 0 c).arrAt 16 cfg0.N = outQ (zb m c) (argQn m c) := by
  refine (dats m 0 c).arrAt_eq_of_covers 16 _ (by decide +kernel) fun t _ y => ?_
  blk_simp
  rw [after0_16]
  frame_out
  rw [pay31_eq, pay32_eq, pay33_eq, pay34_eq, pay35_eq, pay36_eq]
  refine (View.canon_apply_of_pieces (blockQ m c t) _ (View.PiecesOf.mem ?_) y (View.cover_of_tiledL _ ![512, 128] (by sl_kernel_rfl) y)).trans ?_
  · exact ⟨heads_piece m c t 7, heads_piece m c t 6, heads_piece m c t 5, heads_piece m c t 4, heads_piece m c t 3, heads_piece m c t 2, heads_piece m c t 1, heads_piece m c t 0, trivial⟩
  · obtain ⟨row, l, rfl⟩ : ∃ (a : Fin 512) (b : Fin 1024), y = ix2 a b := ⟨y 0, y 1, (ix2_eta y).symm⟩
    have e : ((View.whole main_v53_3).slice (win0_16.rect t)).emb (ix2 row l) = ix2 (pos t row) l := by blk_ext [iblk, V, idx t, pos]
    rw [e]
    rfl

end Cert.Kernel2Ideal.Post
-- ==== Proof.SampleTile.lean ====
/-
  The values the kernel of the sample's projections stores, at an index.
-/
module

public import proofs.«01_k».proof.Proof.PostTile
public import proofs.«01_k».proof.Proof.Gen.Kernel3Ideal.Value

@[expose] public section

set_option maxRecDepth 16384

noncomputable section

namespace Cert.Kernel3Ideal.Proj

open Cert.Kernel3Ideal Cert.Kernel3Ideal.Gen Idealize.ShloMosaic Idealize.ShloMosaic.TcCoe Cert.Words Cert.Reals
open Cert.Kernel2Ideal.Post (by64 word64 word64_eq eq_word)

/-- 128 lanes, two heads, each over its root mean square and by its gain. -/
def headNorm (z : FVec Ideal S128x128 .f32) (b2 : FVec Ideal S128x128 .bf16) (g : Vec Ideal S1x128 .f32) : FVec Ideal S128x128 .f32 :=
  mulf (mulf z (rsqrt (addf
    (mulf (matmul dot_S128x128_S128x128_S128x128_1_0_0_1_n_n none (truncf .bf16 (mulf z z) bitsLt_bf16_f32) b2 (constant S128x128 .f32 0x00000000#32))
      (broadcast S128x128 (Scalar.ofBits (F := Ideal) .f32 0x3C800000#32)))
    (broadcast S128x128 (Scalar.ofBits (F := Ideal) .f32 0x358637BD#32)))))
    (broadcastTo S128x128 (shapeCast S1x128 g shapeCasts_S1x128_S1x128 : FVec Ideal S1x128 .f32) broadcasts_S1x128_S128x128)

/-- Two heads turned, by the tables of cosines and signed sines. -/
def turned (mask : IVec S128x128 1) (cs sn n : FVec Ideal S128x128 .f32) : FVec Ideal S128x128 .f32 :=
  addf (mulf n cs) (mulf (select mask (dynamicRotate 1 96#32 none n rotates_S128x128_d1) (dynamicRotate 1 32#32 none n rotates_S128x128_d1)) sn)

theorem slices_heads (k : Fin 10) : S128x2560.Slices ![0, 128 * k.val] S128x128 := by
  revert k; decide

/-- Two heads of the projections, as stored. -/
def heads (k : Fin 10) (mask : IVec S128x128 1) (cs sn : FVec Ideal S128x128 .f32) (b2 : FVec Ideal S128x128 .bf16) (z : FVec Ideal S128x2560 .f32) (g : Vec Ideal S1x128 .f32) : FVec Ideal S128x128 .f32 :=
  turned mask cs sn (headNorm (extractStridedSlice S128x128 ![0, 128 * k.val] z (slices_heads k)) b2 g)

theorem headNorm_apply (z : FVec Ideal S128x128 .f32) (b2 : FVec Ideal S128x128 .bf16) (g : Vec Ideal S1x128 .f32) (r : Fin 128) (l : Fin 128) :
    headNorm z b2 g (ix2 r l) = z (ix2 r l) * Ideal.rsqrt ((∑ x, z (ix2 r x) * z (ix2 r x) * b2 (ix2 x l)) * Ideal.ofBits .f32 0x3C800000#32 + Ideal.ofBits .f32 0x358637BD#32) * g (ix2 0 l) := by
  pointwise [headNorm]

theorem turned_apply (mask : IVec S128x128 1) (cs sn n : FVec Ideal S128x128 .f32) (r : Fin 128) (l : Fin 128) :
    turned mask cs sn n (ix2 r l) = n (ix2 r l) * cs (ix2 r l)
      + Scalar.select (mask (ix2 r l)) (n (ix2 r ⟨(l.val + 128 - 96) % 128, by omega⟩)) (n (ix2 r ⟨(l.val + 128 - 32) % 128, by omega⟩)) * sn (ix2 r l) := by
  pointwise [turned]

theorem mask_apply (r : Fin 128) (l : Fin 128) : k0_pay5 (ix2 r l) = 1#1 ↔ l.val % 64 < 32 := by
  pointwise [k0_pay5]
  revert l
  decide +kernel

theorem proj_apply (x : Vec Ideal S128x1024 .f32) (g : Vec Ideal S1x1024 .f32) (w : Vec Ideal S1024x2560 .bf16) (r : Fin 128) (l : Fin 2560) :
    k0_pay4 x g w (ix2 r l) = ∑ k, x (ix2 r k) * Ideal.rsqrt (Ideal.div (∑ j, x (ix2 r j) * x (ix2 r j)) (Ideal.ofBits .f32 0x44800000#32) + Ideal.ofBits .f32 0x358637BD#32) * g (ix2 0 k) * w (ix2 k l) := by
  pointwise [k0_pay4]

theorem slice_apply (k : Fin 10) (z : FVec Ideal S128x2560 .f32) (r : Fin 128) (l : Fin 128) :
    (extractStridedSlice S128x128 ![0, 128 * k.val] z (slices_heads k) : FVec Ideal S128x128 .f32) (ix2 r l) = z (ix2 r ⟨128 * k.val + l.val, by omega⟩) := by
  pointwise

/-- Two heads, normed and turned at position `p`. -/
theorem turned_norm (z : FVec Ideal S128x128 .f32) (b2 : FVec Ideal S128x128 .bf16) (gain : Vec Ideal S1x128 .f32) (cs sn : FVec Ideal S128x128 .f32) (p : ℕ) (r : Fin 128) (g : Fin 64 → EReal)
    (hb : ∀ x l : Fin 128, b2 (ix2 x l) = if x.val / 64 = l.val / 64 then 1 else 0) (hg : ∀ l : Fin 128, gain (ix2 0 l) = g ⟨l.val % 64, by omega⟩)
    (hc : ∀ l : Fin 128, cs (ix2 r l) = Ideal.cos (Heads.angle p (l.val % 32)))
    (hs : ∀ l : Fin 128, sn (ix2 r l) = if l.val % 64 < 32 then -Ideal.sin (Heads.angle p (l.val % 64)) else Ideal.sin (Heads.angle p (l.val % 64 - 32))) (l : Fin 128) :
    turned k0_pay5 cs sn (headNorm z b2 gain) (ix2 r l)
      = Heads.turn p (Heads.norm (fun d => z (ix2 r ⟨64 * (l.val / 64) + d.val, by omega⟩)) g) ⟨l.val % 64, by omega⟩ := by
  rw [turned_apply]
  refine (Heads.turn_lanes p (fun l => headNorm z b2 gain (ix2 r l)) l _ (mask_apply r l) _ _ (hc l) (hs l)).trans (Heads.turn_congr rfl (fun d => ?_) rfl)
  rw [headNorm_apply]
  refine (Heads.norm_lanes (fun l => z (ix2 r l)) (fun l => gain (ix2 0 l)) (fun x l => b2 (ix2 x l)) g hb hg _).trans
    (Heads.norm_congr (fun d' => ?_) (fun _ => rfl) (Fin.ext (by dsimp only; omega)))
  exact congrArg (fun x => z (ix2 r x)) (Fin.ext (by dsimp only; omega))

theorem idx : ∀ t : Fin cfg0.N, t.val < 1 ∧ win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] :=
  (by decide +kernel : ∀ t : Fin grid0.N, _)

variable (m : (ℓ : Loc nD τ sig) → Buf (Elt Ideal) ℓ) (c : Dev nD)

/-! The arguments by name. -/
abbrev argX : Vec Ideal S128x1x1024 .f32 := m (c, Proc.tc.devRef main_arg0)
abbrev argG : Vec Ideal S1x1024 .f32 := m (c, Proc.tc.devRef main_arg1)
abbrev argW : Vec Ideal S1x1024x2560 .f32 := m (c, Proc.tc.devRef main_arg2)
abbrev argQn : Vec Ideal S1x64 .f32 := m (c, Proc.tc.devRef main_arg3)
abbrev argKn : Vec Ideal S1x64 .f32 := m (c, Proc.tc.devRef main_arg4)

/-- A row of an instance among all the rows. -/
def row (t : Fin cfg0.N) (r : Fin 128) : Fin 128 := ⟨r.val, r.isLt⟩

theorem x_at (t : Fin cfg0.N) (r : Fin 128) (l : Fin 1024) : iblk m c 0 t (ix2 r l) = argX m c (ix3 (row t r) 0 l) := by
  have e : ((View.whole main_v43).slice (win0_0.rect t)).emb (ix2 r l) = ix2 (row t r) l := by
    blk_ext [iblk, V, idx t, row]
  blk_simp [iblk]
  unfold V
  simp only [hostOps0, hostOps0_1, hostOps0_2, hostOps0_3, hostOps0_4, List.flatten_cons, List.flatten_nil, List.append_nil, List.cons_append, List.nil_append]
  entry_read
  rw [e]
  pointwise

theorem w_at (t : Fin cfg0.N) (r : Fin 1024) (l : Fin 2560) : iblk m c 1 t (ix2 r l) = argW m c (ix3 0 r l) := by
  have e : ((View.whole main_v45).slice (win0_1.rect t)).emb (ix2 r l) = ix2 r l := by
    blk_ext [iblk, V, idx t, row]
  blk_simp [iblk]
  unfold V
  simp only [hostOps0, hostOps0_1, hostOps0_2, hostOps0_3, hostOps0_4, List.flatten_cons, List.flatten_nil, List.append_nil, List.cons_append, List.nil_append]
  entry_read
  rw [e]
  pointwise

theorem g_at (t : Fin cfg0.N) (l : Fin 1024) : iblk m c 2 t (ix2 0 l) = argG m c (ix2 0 l) := by
  have e : ((View.whole main_v47).slice (win0_2.rect t)).emb (ix2 0 l) = ix2 0 l := by
    blk_ext [iblk, V, idx t, row]
  blk_simp [iblk]
  unfold V
  simp only [hostOps0, hostOps0_1, hostOps0_2, hostOps0_3, hostOps0_4, List.flatten_cons, List.flatten_nil, List.append_nil, List.cons_append, List.nil_append]
  entry_read
  rw [e]
  pointwise

theorem gain_q_at (t : Fin cfg0.N) (l : Fin 1280) (h : l.val < 1024) : iblk m c 3 t (ix2 0 l) = argQn m c (ix2 0 ⟨l.val % 64, by omega⟩) := by
  have e : ((View.whole main_v42).slice (win0_3.rect t)).emb (ix2 0 l) = ix2 0 l := by
    blk_ext [iblk, V, idx t, row]
  blk_simp [iblk]
  unfold V
  simp only [hostOps0, hostOps0_1, hostOps0_2, hostOps0_3, hostOps0_4, List.flatten_cons, List.flatten_nil, List.append_nil, List.cons_append, List.nil_append]
  entry_read
  rw [e]
  pointwise
  rw [dif_pos h]

theorem gain_k_at (t : Fin cfg0.N) (l : Fin 1280) (h : ¬ l.val < 1024) : iblk m c 3 t (ix2 0 l) = argKn m c (ix2 0 ⟨l.val % 64, by omega⟩) := by
  have e : ((View.whole main_v42).slice (win0_3.rect t)).emb (ix2 0 l) = ix2 0 l := by
    blk_ext [iblk, V, idx t, row]
  blk_simp [iblk]
  unfold V
  simp only [hostOps0, hostOps0_1, hostOps0_2, hostOps0_3, hostOps0_4, List.flatten_cons, List.flatten_nil, List.append_nil, List.cons_append, List.nil_append]
  entry_read
  rw [e]
  pointwise
  rw [dif_neg h]
  exact congrArg (fun x => argKn m c (ix2 0 x)) (Fin.ext (by dsimp only; omega))

theorem cos_at (t : Fin cfg0.N) (r : Fin 128) (l : Fin 128) : iblk m c 4 t (ix2 r l) = Ideal.cos (Heads.angle 16384 (l.val % 32)) := by
  have e : ((View.whole main_v18).slice (win0_4.rect t)).emb (ix2 r l) = ix2 (row t r) l := by
    blk_ext [iblk, V, idx t, row]
  blk_simp [iblk]
  unfold V
  simp only [hostOps0, hostOps0_1, hostOps0_2, hostOps0_3, hostOps0_4, List.flatten_cons, List.flatten_nil, List.append_nil, List.cons_append, List.nil_append]
  entry_read
  rw [e]
  pointwise [Heads.angle]

theorem sin_at (t : Fin cfg0.N) (r : Fin 128) (l : Fin 128) : iblk m c 5 t (ix2 r l) =
    if l.val % 64 < 32 then -Ideal.sin (Heads.angle 16384 (l.val % 64)) else Ideal.sin (Heads.angle 16384 (l.val % 64 - 32)) := by
  have e : ((View.whole main_v23).slice (win0_5.rect t)).emb (ix2 r l) = ix2 (row t r) l := by
    blk_ext [iblk, V, idx t, row]
  blk_simp [iblk]
  unfold V
  simp only [hostOps0, hostOps0_1, hostOps0_2, hostOps0_3, hostOps0_4, List.flatten_cons, List.flatten_nil, List.append_nil, List.cons_append, List.nil_append]
  entry_read
  rw [e]
  pointwise [Heads.angle]
  split <;> rfl

theorem b2_at (t : Fin cfg0.N) (r : Fin 128) (l : Fin 128) : iblk m c 6 t (ix2 r l) = (if r.val / 64 = l.val / 64 then 1 else 0 : EReal) := by
  have e : ((View.whole main_v32).slice (win0_6.rect t)).emb (ix2 r l) = ix2 r l := by
    blk_ext [iblk, V, idx t, row]
  blk_simp [iblk]
  unfold V
  simp only [hostOps0, hostOps0_1, hostOps0_2, hostOps0_3, hostOps0_4, List.flatten_cons, List.flatten_nil, List.append_nil, List.cons_append, List.nil_append]
  entry_read
  rw [e]
  change (uitofp (F := Ideal) .bf16 (cmpi .eq
    (broadcastInDim S128x128 ![0, 1] bcast_S128x1_S128x128_0_1 (by64 bcast_S_S128x1 (broadcastInDim S128x1 ![0] bcast_S128_S128x1_0 (iotaInDim S128 32 0))))
    (broadcastInDim S128x128 ![0, 1] bcast_S1x128_S128x128_0_1 (by64 bcast_S_S1x128 (broadcastInDim S1x128 ![1] bcast_S128_S1x128_1 (iotaInDim S128 32 0)))))) (ix2 r l) = _
  pointwise [by64]
  change FloatOps.uitofp (F := Ideal) .bf16 (IntOp.cmpi .eq (word64 (BitVec.ofNat 32 r.val)) (word64 (BitVec.ofNat 32 l.val))) = _
  rw [word64_eq, word64_eq, eq_word ⟨r.val / 64, by omega⟩ ⟨l.val / 64, by omega⟩]
  split
  · simp [FloatOps.uitofp]
  · simp [FloatOps.uitofp]

end Cert.Kernel3Ideal.Proj
-- ==== Proof.SampleRef.lean ====
/-
  The reference of the first layer's projections for the sample, in stages: the norm, the projections, and the heads
  normed and turned for the position behind the cache.
-/
module

public import proofs.«01_k».proof.Proof.PostMath
public import proofs.«01_k».proof.Proof.Gen.Reference3Ideal.Run

@[expose] public section

set_option maxRecDepth 16384

noncomputable section

namespace Cert.Reference3Ideal.Proj

open Cert.Reference3Ideal Cert.Reference3Ideal.Gen Cert.Reference3Ideal.Facts Idealize.ShloMosaic Idealize.ShloMosaic.TcCoe

/-- A row over its root mean square. -/
def normed (h : FVec Ideal S128x1x1024 .f32) : FVec Ideal S128x1x1024 .f32 :=
  mulf h (broadcastInDim S128x1x1024 ![0, 1, 2] bcast_S128x1x1_S128x1x1024_0_1_2 (Host.rsqrt (addf
    (Host.divf (broadcastInDim S128x1x1 ![0, 1] bcast_S128x1_S128x1x1_0_1
      (Host.reduceAdd (mulf h h) (constant (F := Ideal) S_ .f32 0x00000000#32) reducesTo_S128x1x1024_S128x1_d2 h_S_))
      (broadcastInDim S128x1x1 ![] bcast_S_S128x1x1 (constant (F := Ideal) S_ .f32 0x44800000#32)))
    (broadcastInDim S128x1x1 ![] bcast_S_S128x1x1 (constant (F := Ideal) S_ .f32 0x358637BD#32)))))

/-- The projections: the normed rows, by their gain, by the weights. -/
def projected (h : FVec Ideal S128x1x1024 .f32) (g : FVec Ideal S1x1024 .f32) (w : FVec Ideal S1x1024x2560 .f32) : FVec Ideal S128x1x2560 .f32 :=
  Host.dotGeneral (φ₁ := .f32) (φ₂ := .f32) (F := Ideal) dot_S128x1x1024_S1024x2560_S128x1x2560_2_0_01_1_n_n none
    (mulf (normed h) (broadcastInDim S128x1x1024 ![0, 1, 2] bcast_S1x1x1024_S128x1x1024_0_1_2 (broadcastInDim S1x1x1024 ![2] bcast_S1024_S1x1x1024_2
      (shapeCast _ g shapeCasts_S1x1024_S1024)))) (shapeCast _ w shapeCasts_S1x1024x2560_S1024x2560)

/-- The angles of the rotary embedding, at the position behind the cache. -/
def angles : FVec Ideal S1x32 .f32 :=
  mulf (broadcastInDim S1x32 ![0, 1] bcast_S1x1_S1x32_0_1 (broadcastInDim S1x1 ![0] bcast_S1_S1x1_0
      (sitofp (F := Ideal) .f32 (addi (broadcastInDim S1 ![] bcast_S_S1 (constantI S_ 32 16384#32)) (iotaInDim S1 32 0)))))
    (broadcastInDim S1x32 ![1] bcast_S32_S1x32_1
      (Host.divf (broadcastInDim S32 ![] bcast_S_S32 (constant (F := Ideal) S_ .f32 0x3F800000#32))
        (Host.powf (broadcastInDim S32 ![] bcast_S_S32 (constant (F := Ideal) S_ .f32 0x461C4000#32))
          (Host.divf (sitofp (F := Ideal) .f32 (iotaInDim S32 32 0)) (broadcastInDim S32 ![] bcast_S_S32 (constant (F := Ideal) S_ .f32 0x42000000#32))))))

/-- 16 heads, each over its root mean square and by its gain. -/
def headNorm16 (z : FVec Ideal S128x1x16x64 .f32) (g : FVec Ideal S64 .f32) : FVec Ideal S128x1x16x64 .f32 :=
  mulf (mulf z (broadcastInDim S128x1x16x64 ![0, 1, 2, 3] bcast_S128x1x16x1_S128x1x16x64_0_1_2_3 (Host.rsqrt (addf
    (Host.divf (broadcastInDim S128x1x16x1 ![0, 1, 2] bcast_S128x1x16_S128x1x16x1_0_1_2
      (Host.reduceAdd (mulf z z) (constant (F := Ideal) S_ .f32 0x00000000#32) reducesTo_S128x1x16x64_S128x1x16_d3 h_S_))
      (broadcastInDim S128x1x16x1 ![] bcast_S_S128x1x16x1 (constant (F := Ideal) S_ .f32 0x42800000#32)))
    (broadcastInDim S128x1x16x1 ![] bcast_S_S128x1x16x1 (constant (F := Ideal) S_ .f32 0x358637BD#32))))))
    (broadcastInDim S128x1x16x64 ![0, 1, 2, 3] bcast_S1x1x1x64_S128x1x16x64_0_1_2_3 (broadcastInDim S1x1x1x64 ![3] bcast_S64_S1x1x1x64_3 g))

/-- 16 heads turned. -/
def rope16 (z : FVec Ideal S128x1x16x64 .f32) : FVec Ideal S128x1x16x64 .f32 :=
  let x1 : FVec Ideal S128x1x16x32 .f32 := extractStridedSlice S128x1x16x32 ![0, 0, 0, 0] z slices_S128x1x16x64_S128x1x16x32_0_0_0_0
  let x2 : FVec Ideal S128x1x16x32 .f32 := extractStridedSlice S128x1x16x32 ![0, 0, 0, 32] z slices_S128x1x16x64_S128x1x16x32_0_0_0_32
  let cs : FVec Ideal S128x1x16x32 .f32 := broadcastInDim S128x1x16x32 ![0, 1, 2, 3] bcast_S1x1x1x32_S128x1x16x32_0_1_2_3 (broadcastInDim S1x1x1x32 ![1, 2, 3] bcast_S1x1x32_S1x1x1x32_1_2_3
    (broadcastInDim S1x1x32 ![0, 2] bcast_S1x32_S1x1x32_0_2 (Host.cos angles)))
  let sn : FVec Ideal S128x1x16x32 .f32 := broadcastInDim S128x1x16x32 ![0, 1, 2, 3] bcast_S1x1x1x32_S128x1x16x32_0_1_2_3 (broadcastInDim S1x1x1x32 ![1, 2, 3] bcast_S1x1x32_S1x1x1x32_1_2_3
    (broadcastInDim S1x1x32 ![0, 2] bcast_S1x32_S1x1x32_0_2 (Host.sin angles)))
  concatenate S128x1x16x64 3 [⟨S128x1x16x32, subf (mulf x1 cs) (mulf x2 sn)⟩, ⟨S128x1x16x32, addf (mulf x2 cs) (mulf x1 sn)⟩] concatenates_S128x1x16x32_S128x1x16x32_S128x1x16x64_d3

/-- 4 heads, each over its root mean square and by its gain. -/
def headNorm4 (z : FVec Ideal S128x1x4x64 .f32) (g : FVec Ideal S64 .f32) : FVec Ideal S128x1x4x64 .f32 :=
  mulf (mulf z (broadcastInDim S128x1x4x64 ![0, 1, 2, 3] bcast_S128x1x4x1_S128x1x4x64_0_1_2_3 (Host.rsqrt (addf
    (Host.divf (broadcastInDim S128x1x4x1 ![0, 1, 2] bcast_S128x1x4_S128x1x4x1_0_1_2
      (Host.reduceAdd (mulf z z) (constant (F := Ideal) S_ .f32 0x00000000#32) reducesTo_S128x1x4x64_S128x1x4_d3 h_S_))
      (broadcastInDim S128x1x4x1 ![] bcast_S_S128x1x4x1 (constant (F := Ideal) S_ .f32 0x42800000#32)))
    (broadcastInDim S128x1x4x1 ![] bcast_S_S128x1x4x1 (constant (F := Ideal) S_ .f32 0x358637BD#32))))))
    (broadcastInDim S128x1x4x64 ![0, 1, 2, 3] bcast_S1x1x1x64_S128x1x4x64_0_1_2_3 (broadcastInDim S1x1x1x64 ![3] bcast_S64_S1x1x1x64_3 g))

/-- 4 heads turned. -/
def rope4 (z : FVec Ideal S128x1x4x64 .f32) : FVec Ideal S128x1x4x64 .f32 :=
  let x1 : FVec Ideal S128x1x4x32 .f32 := extractStridedSlice S128x1x4x32 ![0, 0, 0, 0] z slices_S128x1x4x64_S128x1x4x32_0_0_0_0
  let x2 : FVec Ideal S128x1x4x32 .f32 := extractStridedSlice S128x1x4x32 ![0, 0, 0, 32] z slices_S128x1x4x64_S128x1x4x32_0_0_0_32
  let cs : FVec Ideal S128x1x4x32 .f32 := broadcastInDim S128x1x4x32 ![0, 1, 2, 3] bcast_S1x1x1x32_S128x1x4x32_0_1_2_3 (broadcastInDim S1x1x1x32 ![1, 2, 3] bcast_S1x1x32_S1x1x1x32_1_2_3
    (broadcastInDim S1x1x32 ![0, 2] bcast_S1x32_S1x1x32_0_2 (Host.cos angles)))
  let sn : FVec Ideal S128x1x4x32 .f32 := broadcastInDim S128x1x4x32 ![0, 1, 2, 3] bcast_S1x1x1x32_S128x1x4x32_0_1_2_3 (broadcastInDim S1x1x1x32 ![1, 2, 3] bcast_S1x1x32_S1x1x1x32_1_2_3
    (broadcastInDim S1x1x32 ![0, 2] bcast_S1x32_S1x1x32_0_2 (Host.sin angles)))
  concatenate S128x1x4x64 3 [⟨S128x1x4x32, subf (mulf x1 cs) (mulf x2 sn)⟩, ⟨S128x1x4x32, addf (mulf x2 cs) (mulf x1 sn)⟩] concatenates_S128x1x4x32_S128x1x4x32_S128x1x4x64_d3

/-- The queries. -/
def outQ (z : FVec Ideal S128x1x2560 .f32) (g : FVec Ideal S1x64 .f32) : FVec Ideal S128x1024 .f32 :=
  shapeCast _ (rope16 (headNorm16 (shapeCast _ (extractStridedSlice S128x1x1024 ![0, 0, 0] z slices_S128x1x2560_S128x1x1024_0_0_0) shapeCasts_S128x1x1024_S128x1x16x64)
    (shapeCast _ g shapeCasts_S1x64_S64))) shapeCasts_S128x1x16x64_S128x1024

/-- The keys. -/
def outK (z : FVec Ideal S128x1x2560 .f32) (g : FVec Ideal S1x64 .f32) : FVec Ideal S128x256 .f32 :=
  shapeCast _ (rope4 (headNorm4 (shapeCast _ (extractStridedSlice S128x1x256 ![0, 0, 1024] z slices_S128x1x2560_S128x1x256_0_0_1024) shapeCasts_S128x1x256_S128x1x4x64)
    (shapeCast _ g shapeCasts_S1x64_S64))) shapeCasts_S128x1x4x64_S128x256

/-- The values. -/
def outV (z : FVec Ideal S128x1x2560 .f32) : FVec Ideal S128x256 .f32 :=
  shapeCast _ (shapeCast _ (extractStridedSlice S128x1x256 ![0, 0, 1280] z slices_S128x1x2560_S128x1x256_0_0_1280) shapeCasts_S128x1x256_S128x1x4x64 : FVec Ideal S128x1x4x64 .f32) shapeCasts_S128x1x4x64_S128x256

/-- The gate. -/
def outG (z : FVec Ideal S128x1x2560 .f32) : FVec Ideal S128x1024 .f32 :=
  shapeCast _ (extractStridedSlice S128x1x1024 ![0, 0, 1536] z slices_S128x1x2560_S128x1x1024_0_0_1536) shapeCasts_S128x1x1024_S128x1024

theorem outV_apply (z : FVec Ideal S128x1x2560 .f32) (s : Fin 128) (l : Fin 256) : outV z (ix2 s l) = z (ix3 s 0 ⟨1280 + l.val, by omega⟩) := by
  pointwise [outV]

theorem outG_apply (z : FVec Ideal S128x1x2560 .f32) (s : Fin 128) (l : Fin 1024) : outG z (ix2 s l) = z (ix3 s 0 ⟨1536 + l.val, by omega⟩) := by
  pointwise [outG]

theorem normed_apply (h : FVec Ideal S128x1x1024 .f32) (s : Fin 128) (l : Fin 1024) :
    normed h (ix3 s 0 l) = h (ix3 s 0 l) * Ideal.rsqrt (Ideal.div (∑ x, h (ix3 s 0 x) * h (ix3 s 0 x)) (Ideal.ofBits .f32 0x44800000#32) + Ideal.ofBits .f32 0x358637BD#32) := by
  pointwise [normed]

theorem projected_apply (h : FVec Ideal S128x1x1024 .f32) (g : FVec Ideal S1x1024 .f32) (w : FVec Ideal S1x1024x2560 .f32) (s : Fin 128) (l : Fin 2560) :
    projected h g w (ix3 s 0 l) = ∑ x, normed h (ix3 s 0 x) * g (ix2 0 x) * w (ix3 0 x l) := by
  pointwise [projected]

theorem angles_apply (d : Fin 32) : angles (ix2 0 d) = Heads.angle 16384 d.val := by
  pointwise [angles, Heads.angle]
  rw [show IntOp.addi 16384#32 0#32 = 16384#32 by decide]

theorem rope16_apply (z : FVec Ideal S128x1x16x64 .f32) (s : Fin 128) (a : Fin 16) (d : Fin 64) :
    rope16 z (ix4 s 0 a d) = Heads.turn 16384 (fun d => z (ix4 s 0 a d)) d := by
  pointwise [rope16]
  simp only [angles_apply, Heads.turn]
  by_cases h : d.val < 32
  · rw [dif_pos h, dif_pos h]
  · rw [dif_neg h, dif_neg h]
    have e : (⟨32 + (d.val - 32), by omega⟩ : Fin 64) = d := Fin.ext (by dsimp only; omega)
    simp only [e]

theorem headNorm16_apply (z : FVec Ideal S128x1x16x64 .f32) (g : FVec Ideal S64 .f32) (s : Fin 128) (a : Fin 16) (d : Fin 64) :
    headNorm16 z g (ix4 s 0 a d) = Heads.norm (fun d => z (ix4 s 0 a d)) (fun d => g (ix1 d)) d := by
  pointwise [headNorm16, Heads.norm]

theorem outQ_apply (z : FVec Ideal S128x1x2560 .f32) (g : FVec Ideal S1x64 .f32) (s : Fin 128) (l : Fin 1024) :
    outQ z g (ix2 s l) = Heads.turn 16384 (Heads.norm (fun d => z (ix3 s 0 ⟨64 * (l.val / 64) + d.val, by omega⟩)) (fun d => g (ix2 0 d))) ⟨l.val % 64, by omega⟩ := by
  pointwise [outQ]
  rw [rope16_apply]
  simp only [headNorm16_apply]
  refine Heads.turn_congr rfl (fun d => Heads.norm_congr (fun d => ?_) (fun d => ?_) rfl) rfl
  · pointwise
    exact congrArg (fun x => z (ix3 s 0 x)) (Fin.ext (by dsimp only; omega))
  · pointwise

theorem rope4_apply (z : FVec Ideal S128x1x4x64 .f32) (s : Fin 128) (a : Fin 4) (d : Fin 64) :
    rope4 z (ix4 s 0 a d) = Heads.turn 16384 (fun d => z (ix4 s 0 a d)) d := by
  pointwise [rope4]
  simp only [angles_apply, Heads.turn]
  by_cases h : d.val < 32
  · rw [dif_pos h, dif_pos h]
  · rw [dif_neg h, dif_neg h]
    have e : (⟨32 + (d.val - 32), by omega⟩ : Fin 64) = d := Fin.ext (by dsimp only; omega)
    simp only [e]

theorem headNorm4_apply (z : FVec Ideal S128x1x4x64 .f32) (g : FVec Ideal S64 .f32) (s : Fin 128) (a : Fin 4) (d : Fin 64) :
    headNorm4 z g (ix4 s 0 a d) = Heads.norm (fun d => z (ix4 s 0 a d)) (fun d => g (ix1 d)) d := by
  pointwise [headNorm4, Heads.norm]

theorem outK_apply (z : FVec Ideal S128x1x2560 .f32) (g : FVec Ideal S1x64 .f32) (s : Fin 128) (l : Fin 256) :
    outK z g (ix2 s l) = Heads.turn 16384 (Heads.norm (fun d => z (ix3 s 0 ⟨1024 + (64 * (l.val / 64) + d.val), by omega⟩)) (fun d => g (ix2 0 d))) ⟨l.val % 64, by omega⟩ := by
  pointwise [outK]
  rw [rope4_apply]
  simp only [headNorm4_apply]
  refine Heads.turn_congr rfl (fun d => Heads.norm_congr (fun d => ?_) (fun d => ?_) rfl) rfl
  · pointwise
    exact congrArg (fun x => z (ix3 s 0 x)) (Fin.ext (by dsimp only; omega))
  · pointwise

section
variable (m : (ℓ : Loc nD τ sig) → Buf (Elt Ideal) ℓ) (c : Dev nD)

/-- The projections, of the reference's arguments. -/
abbrev proj : FVec Ideal S128x1x2560 .f32 := projected (m ((c.tc : Thread nD τ).loc main_arg0)) (m ((c.tc : Thread nD τ).loc main_arg1)) (m ((c.tc : Thread nD τ).loc main_arg2))

theorem res_q_eq : Value.res_out0 (F := Ideal) m c = outQ (proj m c) (m ((c.tc : Thread nD τ).loc main_arg3)) := rfl

theorem res_k_eq : Value.res_out1 (F := Ideal) m c = outK (proj m c) (m ((c.tc : Thread nD τ).loc main_arg4)) := rfl

end

end Cert.Reference3Ideal.Proj
-- ==== Proof.SampleFinal.lean ====
/-
  The arrays the kernel of the sample's projections leaves are the reference's.
-/
module

public import proofs.«01_k».proof.Proof.SampleTile
public import proofs.«01_k».proof.Proof.SampleRef

@[expose] public section

set_option maxRecDepth 16384

noncomputable section

namespace Cert.Kernel3Ideal.Proj

open Cert.Kernel3Ideal Cert.Kernel3Ideal.Gen Idealize.ShloMosaic Idealize.ShloMosaic.TcCoe
open Cert.Reference3Ideal.Proj (normed projected outQ outK outV outG)

variable (m : (ℓ : Loc nD τ sig) → Buf (Elt Ideal) ℓ) (c : Dev nD)

/-- The projections, of the kernel's arguments. -/
def proj : FVec Ideal Cert.Reference3Ideal.S128x1x2560 .f32 := projected (argX m c) (argG m c) (argW m c)

abbrev tZ (t : Fin cfg0.N) : FVec Ideal S128x2560 .f32 := k0_pay4 (iblk m c 0 t) (iblk m c 2 t) (iblk m c 1 t)

/-- The gain of the two heads from lane `128 * k` on. -/
abbrev tGain (t : Fin cfg0.N) (k : Fin 10) (h : ∀ a, (![0, 128 * k.val] : Fin 2 → ℕ) a + S1x128.size a ≤ S1x1280.size a) : Vec Ideal S1x128 .f32 :=
  View.ld (iblk m c 3 t) (Rect.unit (s := S1x1280) ![0, 128 * k.val] S1x128.size h)

theorem tZ_at (t : Fin cfg0.N) (r : Fin 128) (l : Fin 2560) : tZ m c t (ix2 r l) = proj m c (ix3 (row t r) 0 l) := by
  rw [tZ, proj_apply, proj, Cert.Reference3Ideal.Proj.projected_apply]
  refine Finset.sum_congr rfl fun k _ => ?_
  rw [Cert.Reference3Ideal.Proj.normed_apply, g_at, w_at]
  simp only [x_at]

theorem inb_gain (k : Fin 10) : ∀ a, (![0, 128 * k.val] : Fin 2 → ℕ) a + S1x128.size a ≤ S1x1280.size a := by
  revert k; decide

theorem tGain_at (t : Fin cfg0.N) (k : Fin 10) (l : Fin 128) :
    tGain m c t k (inb_gain k) (ix2 0 l) = (iblk m c 3 t : Vec Ideal S1x1280 .f32) (ix2 0 ⟨128 * k.val + l.val, by omega⟩) := by
  refine congrArg (iblk m c 3 t : Vec Ideal S1x1280 .f32) (funext fun a => ?_)
  fin_cases a
  · rfl
  · exact Fin.ext (by show 128 * k.val + 1 * l.val = 128 * k.val + l.val; omega)

theorem gain_q (t : Fin cfg0.N) (k : Fin 10) (hk : k.val < 8) (l : Fin 128) :
    tGain m c t k (inb_gain k) (ix2 0 l) = argQn m c (ix2 0 ⟨l.val % 64, by omega⟩) := by
  rw [tGain_at, gain_q_at m c t _ (by dsimp only; omega)]
  exact congrArg (fun x => argQn m c (ix2 0 x)) (Fin.ext (by dsimp only; omega))

theorem gain_k (t : Fin cfg0.N) (k : Fin 10) (hk : ¬ k.val < 8) (l : Fin 128) :
    tGain m c t k (inb_gain k) (ix2 0 l) = argKn m c (ix2 0 ⟨l.val % 64, by omega⟩) := by
  rw [tGain_at, gain_k_at m c t _ (by dsimp only; omega)]
  exact congrArg (fun x => argKn m c (ix2 0 x)) (Fin.ext (by dsimp only; omega))

/-- Two heads of an instance, normed and turned. -/
theorem heads_at (t : Fin cfg0.N) (k : Fin 10) (g : Fin 64 → EReal) (hg : ∀ l : Fin 128, tGain m c t k (inb_gain k) (ix2 0 l) = g ⟨l.val % 64, by omega⟩) (r l : Fin 128) :
    heads k k0_pay5 (iblk m c 4 t) (iblk m c 5 t) (iblk m c 6 t) (tZ m c t) (tGain m c t k (inb_gain k)) (ix2 r l)
      = Heads.turn 16384 (Heads.norm (fun d => proj m c (ix3 (row t r) 0 ⟨128 * k.val + (64 * (l.val / 64) + d.val), by omega⟩)) g) ⟨l.val % 64, by omega⟩ := by
  refine (turned_norm _ _ _ _ _ 16384 r g (b2_at m c t) hg (cos_at m c t r) (sin_at m c t r) l).trans (Heads.turn_congr rfl (fun d => Heads.norm_congr (fun d' => ?_) (fun _ => rfl) rfl) rfl)
  rw [slice_apply, tZ_at]

theorem q_at (t : Fin cfg0.N) (k : Fin 10) (hk : k.val < 8) (r l : Fin 128) :
    heads k k0_pay5 (iblk m c 4 t) (iblk m c 5 t) (iblk m c 6 t) (tZ m c t) (tGain m c t k (inb_gain k)) (ix2 r l)
      = outQ (proj m c) (argQn m c) (ix2 (row t r) ⟨128 * k.val + l.val, by omega⟩) := by
  rw [heads_at m c t k (fun d => argQn m c (ix2 0 d)) (gain_q m c t k hk), Cert.Reference3Ideal.Proj.outQ_apply]
  refine Heads.turn_congr rfl (fun d => Heads.norm_congr (fun d => ?_) (fun _ => rfl) rfl) (Fin.ext (by dsimp only; omega))
  exact congrArg (fun x => proj m c (ix3 (row t r) 0 x)) (Fin.ext (by dsimp only; omega))

theorem k_at (t : Fin cfg0.N) (k : Fin 10) (hk : ¬ k.val < 8) (r l : Fin 128) :
    heads k k0_pay5 (iblk m c 4 t) (iblk m c 5 t) (iblk m c 6 t) (tZ m c t) (tGain m c t k (inb_gain k)) (ix2 r l)
      = outK (proj m c) (argKn m c) (ix2 (row t r) ⟨128 * (k.val - 8) + l.val, by omega⟩) := by
  rw [heads_at m c t k (fun d => argKn m c (ix2 0 d)) (gain_k m c t k hk), Cert.Reference3Ideal.Proj.outK_apply]
  refine Heads.turn_congr rfl (fun d => Heads.norm_congr (fun d => ?_) (fun _ => rfl) rfl) (Fin.ext (by dsimp only; omega))
  exact congrArg (fun x => proj m c (ix3 (row t r) 0 x)) (Fin.ext (by dsimp only; omega))

theorem pay6_eq (x : Vec Ideal S128x128 .f32) : k0_pay6 x = x := by
  funext i
  obtain ⟨r, l, rfl⟩ : ∃ (a : Fin 128) (b : Fin 128), i = ix2 a b := ⟨i 0, i 1, (ix2_eta i).symm⟩
  pointwise [k0_pay6]

theorem pay7_eq (x : Vec Ideal S128x128 .f32) : k0_pay7 x = x := by
  funext i
  obtain ⟨r, l, rfl⟩ : ∃ (a : Fin 128) (b : Fin 128), i = ix2 a b := ⟨i 0, i 1, (ix2_eta i).symm⟩
  pointwise [k0_pay7]

theorem pay8_eq (x : Vec Ideal S128x128 .bf16) : k0_pay8 x = x := by
  funext i
  obtain ⟨r, l, rfl⟩ : ∃ (a : Fin 128) (b : Fin 128), i = ix2 a b := ⟨i 0, i 1, (ix2_eta i).symm⟩
  pointwise [k0_pay8]

theorem pay9_eq (z : FVec Ideal S128x2560 .f32) (mask : IVec S128x128 1) (cs sn : Vec Ideal S128x128 .f32) (b2 : Vec Ideal S128x128 .bf16) (g : Vec Ideal S1x128 .f32) :
    k0_pay9 z mask cs sn b2 g = heads 0 mask cs sn b2 z g := by
  rw [show k0_pay9 z mask cs sn b2 g = heads 0 mask (k0_pay6 cs) (k0_pay7 sn) (k0_pay8 b2) z g from rfl, pay6_eq, pay7_eq, pay8_eq]

theorem pay10_eq (z : FVec Ideal S128x2560 .f32) (b2 : Vec Ideal S128x128 .bf16) (g : Vec Ideal S1x128 .f32) :
    k0_pay10 z b2 g = headNorm (extractStridedSlice S128x128 ![0, 128 * (1 : Fin 10).val] z (slices_heads 1)) b2 g := by
  rw [show k0_pay10 z b2 g = headNorm (extractStridedSlice S128x128 ![0, 128 * (1 : Fin 10).val] z (slices_heads 1)) (k0_pay8 b2) g from rfl, pay8_eq]

theorem pay31_eq (t : Fin cfg0.N) : k0_pay31 (iblk m c 0 t) (iblk m c 1 t) (iblk m c 2 t) (iblk m c 3 t) (iblk m c 4 t) (iblk m c 5 t) (iblk m c 6 t) = tZ m c t := by
  unfold k0_pay31
  frame_out

theorem pay32_eq (t : Fin cfg0.N) : k0_pay32 (iblk m c 0 t) (iblk m c 1 t) (iblk m c 2 t) (iblk m c 3 t) (iblk m c 4 t) (iblk m c 5 t) (iblk m c 6 t) = k0_pay5 := rfl

theorem pay33_eq (t : Fin cfg0.N) : k0_pay33 (iblk m c 0 t) (iblk m c 1 t) (iblk m c 2 t) (iblk m c 3 t) (iblk m c 4 t) (iblk m c 5 t) (iblk m c 6 t) = (iblk m c 4 t : FVec Ideal S128x128 .f32) := by
  unfold k0_pay33
  frame_out
  exact pay6_eq _

theorem pay34_eq (t : Fin cfg0.N) : k0_pay34 (iblk m c 0 t) (iblk m c 1 t) (iblk m c 2 t) (iblk m c 3 t) (iblk m c 4 t) (iblk m c 5 t) (iblk m c 6 t) = (iblk m c 5 t : FVec Ideal S128x128 .f32) := by
  unfold k0_pay34
  frame_out
  exact pay7_eq _

theorem pay35_eq (t : Fin cfg0.N) : k0_pay35 (iblk m c 0 t) (iblk m c 1 t) (iblk m c 2 t) (iblk m c 3 t) (iblk m c 4 t) (iblk m c 5 t) (iblk m c 6 t) = (iblk m c 6 t : FVec Ideal S128x128 .bf16) := by
  unfold k0_pay35
  frame_out
  exact pay8_eq _

theorem final9 : (dats m 0 c).arrAt 9 cfg0.N = outV (proj m c) := by
  refine (dats m 0 c).arrAt_eq_of_covers 9 _ (by decide +kernel) fun t _ y => ?_
  blk_simp
  rw [after0_9]
  obtain ⟨r, l, rfl⟩ : ∃ (a : Fin 128) (b : Fin 256), y = ix2 a b := ⟨y 0, y 1, (ix2_eta y).symm⟩
  frame_out
  have e : ((View.whole main_v48_2).slice (win0_9.rect t)).emb (ix2 r l) = ix2 (row t r) l := by blk_ext [iblk, V, idx t, row]
  rw [e, pay31_eq, Cert.Reference3Ideal.Proj.outV_apply, ← tZ_at]
  pointwise [k0_pay2]

theorem final10 : (dats m 0 c).arrAt 10 cfg0.N = outG (proj m c) := by
  refine (dats m 0 c).arrAt_eq_of_covers 10 _ (by decide +kernel) fun t _ y => ?_
  blk_simp
  rw [after0_10]
  obtain ⟨r, l, rfl⟩ : ∃ (a : Fin 128) (b : Fin 1024), y = ix2 a b := ⟨y 0, y 1, (ix2_eta y).symm⟩
  frame_out
  have e : ((View.whole main_v48_3).slice (win0_10.rect t)).emb (ix2 r l) = ix2 (row t r) l := by blk_ext [iblk, V, idx t, row]
  rw [e, pay31_eq, Cert.Reference3Ideal.Proj.outG_apply, ← tZ_at]
  pointwise [k0_pay3]

/-- An instance's block of the queries. -/
def blockQ (t : Fin cfg0.N) : FVec Ideal S128x1024 .f32 := fun z => outQ (proj m c) (argQn m c) (ix2 (row t (z 0)) (z 1))

/-- An instance's block of the keys. -/
def blockK (t : Fin cfg0.N) : FVec Ideal S128x256 .f32 := fun z => outK (proj m c) (argKn m c) (ix2 (row t (z 0)) (z 1))

theorem inb_q (k : Fin 10) (hk : k.val < 8) : ∀ a, (![0, 128 * k.val] : Fin 2 → ℕ) a + S128x128.size a ≤ S128x1024.size a := by
  revert k; decide

theorem inb_k (k : Fin 10) (hk : ¬ k.val < 8) : ∀ a, (![0, 128 * (k.val - 8)] : Fin 2 → ℕ) a + S128x128.size a ≤ S128x256.size a := by
  revert k; decide

theorem q_piece (t : Fin cfg0.N) (k : Fin 10) (hk : k.val < 8) (x : (Rect.unit (s := S128x1024) ![0, 128 * k.val] S128x128.size (inb_q k hk)).shape.Idx) :
    heads k k0_pay5 (iblk m c 4 t) (iblk m c 5 t) (iblk m c 6 t) (tZ m c t) (tGain m c t k (inb_gain k)) x
      = blockQ m c t ((Rect.unit (s := S128x1024) ![0, 128 * k.val] S128x128.size (inb_q k hk)).emb x) := by
  have hx : x = ix2 (x 0) (x 1) := by
    funext a; fin_cases a <;> rfl
  have h0 : (x 0).val < 128 := (x 0).isLt
  have h1 : (x 1).val < 128 := (x 1).isLt
  rw [hx]
  refine (q_at m c t k hk ⟨(x 0).val, h0⟩ ⟨(x 1).val, h1⟩).trans ?_
  have e0 : ((Rect.unit (s := S128x1024) ![0, 128 * k.val] S128x128.size (inb_q k hk)).emb x 0).val = (x 0).val := by
    show 0 + 1 * (x 0).val = _; omega
  have e1 : ((Rect.unit (s := S128x1024) ![0, 128 * k.val] S128x128.size (inb_q k hk)).emb x 1).val = 128 * k.val + (x 1).val := by
    show 128 * k.val + 1 * (x 1).val = _; omega
  rw [← hx]
  unfold blockQ
  exact congrArg (outQ (proj m c) (argQn m c)) (congr (congrArg ix2 (Fin.ext e0.symm)) (Fin.ext e1.symm))

theorem k_piece (t : Fin cfg0.N) (k : Fin 10) (hk : ¬ k.val < 8) (x : (Rect.unit (s := S128x256) ![0, 128 * (k.val - 8)] S128x128.size (inb_k k hk)).shape.Idx) :
    heads k k0_pay5 (iblk m c 4 t) (iblk m c 5 t) (iblk m c 6 t) (tZ m c t) (tGain m c t k (inb_gain k)) x
      = blockK m c t ((Rect.unit (s := S128x256) ![0, 128 * (k.val - 8)] S128x128.size (inb_k k hk)).emb x) := by
  have hx : x = ix2 (x 0) (x 1) := by
    funext a; fin_cases a <;> rfl
  have h0 : (x 0).val < 128 := (x 0).isLt
  have h1 : (x 1).val < 128 := (x 1).isLt
  rw [hx]
  refine (k_at m c t k hk ⟨(x 0).val, h0⟩ ⟨(x 1).val, h1⟩).trans ?_
  have e0 : ((Rect.unit (s := S128x256) ![0, 128 * (k.val - 8)] S128x128.size (inb_k k hk)).emb x 0).val = (x 0).val := by
    show 0 + 1 * (x 0).val = _; omega
  have e1 : ((Rect.unit (s := S128x256) ![0, 128 * (k.val - 8)] S128x128.size (inb_k k hk)).emb x 1).val = 128 * (k.val - 8) + (x 1).val := by
    show 128 * (k.val - 8) + 1 * (x 1).val = _; omega
  rw [← hx]
  unfold blockK
  exact congrArg (outK (proj m c) (argKn m c)) (congr (congrArg ix2 (Fin.ext e0.symm)) (Fin.ext e1.symm))

theorem final7 : (dats m 0 c).arrAt 7 cfg0.N = outQ (proj m c) (argQn m c) := by
  refine (dats m 0 c).arrAt_eq_of_covers 7 _ (by decide +kernel) fun t _ y => ?_
  blk_simp
  rw [after0_7]
  frame_out
  rw [pay31_eq, pay32_eq, pay33_eq, pay34_eq, pay35_eq, pay9_eq, pay10_eq]
  refine (View.canon_apply_of_pieces (blockQ m c t) _ (View.PiecesOf.mem ?_) y (View.cover_of_tiledL _ ![128, 128] (by sl_kernel_rfl) y)).trans ?_
  · exact ⟨q_piece m c t 7 (by decide), q_piece m c t 6 (by decide), q_piece m c t 5 (by decide), q_piece m c t 4 (by decide), q_piece m c t 3 (by decide),
      q_piece m c t 2 (by decide), q_piece m c t 1 (by decide), q_piece m c t 0 (by decide), trivial⟩
  · obtain ⟨r, l, rfl⟩ : ∃ (a : Fin 128) (b : Fin 1024), y = ix2 a b := ⟨y 0, y 1, (ix2_eta y).symm⟩
    have e : ((View.whole main_v48_0).slice (win0_7.rect t)).emb (ix2 r l) = ix2 (row t r) l := by blk_ext [iblk, V, idx t, row]
    rw [e]
    rfl

theorem final8 : (dats m 0 c).arrAt 8 cfg0.N = outK (proj m c) (argKn m c) := by
  refine (dats m 0 c).arrAt_eq_of_covers 8 _ (by decide +kernel) fun t _ y => ?_
  blk_simp
  rw [after0_8]
  frame_out
  rw [pay31_eq, pay32_eq, pay33_eq, pay34_eq, pay35_eq]
  refine (View.canon_apply_of_pieces (blockK m c t) _ (View.PiecesOf.mem ?_) y (View.cover_of_tiledL _ ![128, 128] (by sl_kernel_rfl) y)).trans ?_
  · exact ⟨k_piece m c t 9 (by decide), k_piece m c t 8 (by decide), trivial⟩
  · obtain ⟨r, l, rfl⟩ : ∃ (a : Fin 128) (b : Fin 256), y = ix2 a b := ⟨y 0, y 1, (ix2_eta y).symm⟩
    have e : ((View.whole main_v48_1).slice (win0_8.rect t)).emb (ix2 r l) = ix2 (row t r) l := by blk_ext [iblk, V, idx t, row]
    rw [e]
    rfl

end Cert.Kernel3Ideal.Proj
-- ==== Proof.PromptTile.lean ====
/-
  The values an instance of the kernel of the prompt's projections stores, at an index.
-/
module

public import proofs.«01_k».proof.Proof.PostTile
public import proofs.«01_k».proof.Proof.Gen.Kernel4Ideal.Value

@[expose] public section

set_option maxRecDepth 16384

noncomputable section

namespace Cert.Kernel4Ideal.Proj

open Cert.Kernel4Ideal Cert.Kernel4Ideal.Gen Idealize.ShloMosaic Idealize.ShloMosaic.TcCoe Cert.Words Cert.Reals
open Cert.Kernel2Ideal.Post (by64 word64 word64_eq eq_word)

/-- 128 lanes, two heads, each over its root mean square and by its gain. -/
def headNorm (z : FVec Ideal S256x128 .f32) (b2 : FVec Ideal S128x128 .bf16) (g : Vec Ideal S1x128 .f32) : FVec Ideal S256x128 .f32 :=
  mulf (mulf z (rsqrt (addf
    (mulf (matmul dot_S256x128_S128x128_S256x128_1_0_0_1_n_n none (truncf .bf16 (mulf z z) bitsLt_bf16_f32) b2 (constant S256x128 .f32 0x00000000#32))
      (broadcast S256x128 (Scalar.ofBits (F := Ideal) .f32 0x3C800000#32)))
    (broadcast S256x128 (Scalar.ofBits (F := Ideal) .f32 0x358637BD#32)))))
    (broadcastTo S256x128 (shapeCast S1x128 g shapeCasts_S1x128_S1x128 : FVec Ideal S1x128 .f32) broadcasts_S1x128_S256x128)

/-- Two heads turned, by the tables of cosines and signed sines. -/
def turned (mask : IVec S256x128 1) (cs sn n : FVec Ideal S256x128 .f32) : FVec Ideal S256x128 .f32 :=
  addf (mulf n cs) (mulf (select mask (dynamicRotate 1 96#32 none n rotates_S256x128_d1) (dynamicRotate 1 32#32 none n rotates_S256x128_d1)) sn)

theorem slices_heads (k : Fin 10) : S256x2560.Slices ![0, 128 * k.val] S256x128 := by
  revert k; decide

/-- Two heads of the projections, as stored. -/
def heads (k : Fin 10) (mask : IVec S256x128 1) (cs sn : FVec Ideal S256x128 .f32) (b2 : FVec Ideal S128x128 .bf16) (z : FVec Ideal S256x2560 .f32) (g : Vec Ideal S1x128 .f32) : FVec Ideal S256x128 .f32 :=
  turned mask cs sn (headNorm (extractStridedSlice S256x128 ![0, 128 * k.val] z (slices_heads k)) b2 g)

theorem headNorm_apply (z : FVec Ideal S256x128 .f32) (b2 : FVec Ideal S128x128 .bf16) (g : Vec Ideal S1x128 .f32) (r : Fin 256) (l : Fin 128) :
    headNorm z b2 g (ix2 r l) = z (ix2 r l) * Ideal.rsqrt ((∑ x, z (ix2 r x) * z (ix2 r x) * b2 (ix2 x l)) * Ideal.ofBits .f32 0x3C800000#32 + Ideal.ofBits .f32 0x358637BD#32) * g (ix2 0 l) := by
  pointwise [headNorm]

theorem turned_apply (mask : IVec S256x128 1) (cs sn n : FVec Ideal S256x128 .f32) (r : Fin 256) (l : Fin 128) :
    turned mask cs sn n (ix2 r l) = n (ix2 r l) * cs (ix2 r l)
      + Scalar.select (mask (ix2 r l)) (n (ix2 r ⟨(l.val + 128 - 96) % 128, by omega⟩)) (n (ix2 r ⟨(l.val + 128 - 32) % 128, by omega⟩)) * sn (ix2 r l) := by
  pointwise [turned]

theorem mask_apply (r : Fin 256) (l : Fin 128) : (k0_pay6 k0_pay5) (ix2 r l) = 1#1 ↔ l.val % 64 < 32 := by
  pointwise [k0_pay6, k0_pay5]
  revert l
  decide +kernel

theorem proj_apply (x : Vec Ideal S256x1024 .f32) (g : Vec Ideal S1x1024 .f32) (w : Vec Ideal S1024x2560 .bf16) (r : Fin 256) (l : Fin 2560) :
    k0_pay4 x g w (ix2 r l) = ∑ k, x (ix2 r k) * Ideal.rsqrt (Ideal.div (∑ j, x (ix2 r j) * x (ix2 r j)) (Ideal.ofBits .f32 0x44800000#32) + Ideal.ofBits .f32 0x358637BD#32) * g (ix2 0 k) * w (ix2 k l) := by
  pointwise [k0_pay4]

theorem slice_apply (k : Fin 10) (z : FVec Ideal S256x2560 .f32) (r : Fin 256) (l : Fin 128) :
    (extractStridedSlice S256x128 ![0, 128 * k.val] z (slices_heads k) : FVec Ideal S256x128 .f32) (ix2 r l) = z (ix2 r ⟨128 * k.val + l.val, by omega⟩) := by
  pointwise

/-- Two heads, normed and turned at position `p`. -/
theorem turned_norm (z : FVec Ideal S256x128 .f32) (b2 : FVec Ideal S128x128 .bf16) (gain : Vec Ideal S1x128 .f32) (cs sn : FVec Ideal S256x128 .f32) (p : ℕ) (r : Fin 256) (g : Fin 64 → EReal)
    (hb : ∀ x l : Fin 128, b2 (ix2 x l) = if x.val / 64 = l.val / 64 then 1 else 0) (hg : ∀ l : Fin 128, gain (ix2 0 l) = g ⟨l.val % 64, by omega⟩)
    (hc : ∀ l : Fin 128, cs (ix2 r l) = Ideal.cos (Heads.angle p (l.val % 32)))
    (hs : ∀ l : Fin 128, sn (ix2 r l) = if l.val % 64 < 32 then -Ideal.sin (Heads.angle p (l.val % 64)) else Ideal.sin (Heads.angle p (l.val % 64 - 32))) (l : Fin 128) :
    turned (k0_pay6 k0_pay5) cs sn (headNorm z b2 gain) (ix2 r l)
      = Heads.turn p (Heads.norm (fun d => z (ix2 r ⟨64 * (l.val / 64) + d.val, by omega⟩)) g) ⟨l.val % 64, by omega⟩ := by
  rw [turned_apply]
  refine (Heads.turn_lanes p (fun l => headNorm z b2 gain (ix2 r l)) l _ (mask_apply r l) _ _ (hc l) (hs l)).trans (Heads.turn_congr rfl (fun d => ?_) rfl)
  rw [headNorm_apply]
  refine (Heads.norm_lanes (fun l => z (ix2 r l)) (fun l => gain (ix2 0 l)) (fun x l => b2 (ix2 x l)) g hb hg _).trans
    (Heads.norm_congr (fun d' => ?_) (fun _ => rfl) (Fin.ext (by dsimp only; omega)))
  exact congrArg (fun x => z (ix2 r x)) (Fin.ext (by dsimp only; omega))

theorem idx : ∀ t : Fin cfg0.N, t.val < 64 ∧ win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![0, 0] ∧ win0_10.index t = ![t.val, 0] ∧ win0_11.index t = ![t.val, 0] ∧ win0_12.index t = ![t.val, 0] :=
  (by decide +kernel : ∀ t : Fin grid0.N, _)

variable (m : (ℓ : Loc nD τ sig) → Buf (Elt Ideal) ℓ) (c : Dev nD)

/-! The arguments by name. -/
abbrev argX : Vec Ideal S1x16384x1024 .f32 := m (c, Proc.tc.devRef main_arg0)
abbrev argG : Vec Ideal S1x1024 .f32 := m (c, Proc.tc.devRef main_arg1)
abbrev argW : Vec Ideal S1x1024x2560 .f32 := m (c, Proc.tc.devRef main_arg2)
abbrev argQn : Vec Ideal S1x64 .f32 := m (c, Proc.tc.devRef main_arg3)
abbrev argKn : Vec Ideal S1x64 .f32 := m (c, Proc.tc.devRef main_arg4)

/-- A row of an instance among all the rows. -/
def row (t : Fin cfg0.N) (r : Fin 256) : Fin 16384 := ⟨256 * t.val + r.val, by have := (idx t).1; omega⟩

theorem x_at (t : Fin cfg0.N) (r : Fin 256) (l : Fin 1024) : iblk m c 0 t (ix2 r l) = argX m c (ix3 0 (row t r) l) := by
  have e : ((View.whole main_v43).slice (win0_0.rect t)).emb (ix2 r l) = ix2 (row t r) l := by
    blk_ext [iblk, V, idx t, row]
  blk_simp [iblk]
  unfold V
  simp only [hostOps0, hostOps0_1, hostOps0_2, hostOps0_3, hostOps0_4, List.flatten_cons, List.flatten_nil, List.append_nil, List.cons_append, List.nil_append]
  entry_read
  rw [e]
  pointwise

theorem w_at (t : Fin cfg0.N) (r : Fin 1024) (l : Fin 2560) : iblk m c 1 t (ix2 r l) = argW m c (ix3 0 r l) := by
  have e : ((View.whole main_v45).slice (win0_1.rect t)).emb (ix2 r l) = ix2 r l := by
    blk_ext [iblk, V, idx t, row]
  blk_simp [iblk]
  unfold V
  simp only [hostOps0, hostOps0_1, hostOps0_2, hostOps0_3, hostOps0_4, List.flatten_cons, List.flatten_nil, List.append_nil, List.cons_append, List.nil_append]
  entry_read
  rw [e]
  pointwise

theorem g_at (t : Fin cfg0.N) (l : Fin 1024) : iblk m c 2 t (ix2 0 l) = argG m c (ix2 0 l) := by
  have e : ((View.whole main_v47).slice (win0_2.rect t)).emb (ix2 0 l) = ix2 0 l := by
    blk_ext [iblk, V, idx t, row]
  blk_simp [iblk]
  unfold V
  simp only [hostOps0, hostOps0_1, hostOps0_2, hostOps0_3, hostOps0_4, List.flatten_cons, List.flatten_nil, List.append_nil, List.cons_append, List.nil_append]
  entry_read
  rw [e]
  pointwise

theorem gain_q_at (t : Fin cfg0.N) (l : Fin 1280) (h : l.val < 1024) : iblk m c 3 t (ix2 0 l) = argQn m c (ix2 0 ⟨l.val % 64, by omega⟩) := by
  have e : ((View.whole main_v42).slice (win0_3.rect t)).emb (ix2 0 l) = ix2 0 l := by
    blk_ext [iblk, V, idx t, row]
  blk_simp [iblk]
  unfold V
  simp only [hostOps0, hostOps0_1, hostOps0_2, hostOps0_3, hostOps0_4, List.flatten_cons, List.flatten_nil, List.append_nil, List.cons_append, List.nil_append]
  entry_read
  rw [e]
  pointwise
  rw [dif_pos h]

theorem gain_k_at (t : Fin cfg0.N) (l : Fin 1280) (h : ¬ l.val < 1024) : iblk m c 3 t (ix2 0 l) = argKn m c (ix2 0 ⟨l.val % 64, by omega⟩) := by
  have e : ((View.whole main_v42).slice (win0_3.rect t)).emb (ix2 0 l) = ix2 0 l := by
    blk_ext [iblk, V, idx t, row]
  blk_simp [iblk]
  unfold V
  simp only [hostOps0, hostOps0_1, hostOps0_2, hostOps0_3, hostOps0_4, List.flatten_cons, List.flatten_nil, List.append_nil, List.cons_append, List.nil_append]
  entry_read
  rw [e]
  pointwise
  rw [dif_neg h]
  exact congrArg (fun x => argKn m c (ix2 0 x)) (Fin.ext (by dsimp only; omega))

theorem cos_at (t : Fin cfg0.N) (r : Fin 256) (l : Fin 128) : iblk m c 4 t (ix2 r l) = Ideal.cos (Heads.angle (256 * t.val + r.val) (l.val % 32)) := by
  have e : ((View.whole main_v18).slice (win0_4.rect t)).emb (ix2 r l) = ix2 (row t r) l := by
    blk_ext [iblk, V, idx t, row]
  blk_simp [iblk]
  unfold V
  simp only [hostOps0, hostOps0_1, hostOps0_2, hostOps0_3, hostOps0_4, List.flatten_cons, List.flatten_nil, List.append_nil, List.cons_append, List.nil_append]
  entry_read
  rw [e]
  pointwise [Heads.angle]
  rfl

theorem sin_at (t : Fin cfg0.N) (r : Fin 256) (l : Fin 128) : iblk m c 5 t (ix2 r l) =
    if l.val % 64 < 32 then -Ideal.sin (Heads.angle (256 * t.val + r.val) (l.val % 64)) else Ideal.sin (Heads.angle (256 * t.val + r.val) (l.val % 64 - 32)) := by
  have e : ((View.whole main_v23).slice (win0_5.rect t)).emb (ix2 r l) = ix2 (row t r) l := by
    blk_ext [iblk, V, idx t, row]
  blk_simp [iblk]
  unfold V
  simp only [hostOps0, hostOps0_1, hostOps0_2, hostOps0_3, hostOps0_4, List.flatten_cons, List.flatten_nil, List.append_nil, List.cons_append, List.nil_append]
  entry_read
  rw [e]
  pointwise [Heads.angle]
  split <;> rfl

theorem b2_at (t : Fin cfg0.N) (r : Fin 128) (l : Fin 128) : iblk m c 6 t (ix2 r l) = (if r.val / 64 = l.val / 64 then 1 else 0 : EReal) := by
  have e : ((View.whole main_v32).slice (win0_6.rect t)).emb (ix2 r l) = ix2 r l := by
    blk_ext [iblk, V, idx t, row]
  blk_simp [iblk]
  unfold V
  simp only [hostOps0, hostOps0_1, hostOps0_2, hostOps0_3, hostOps0_4, List.flatten_cons, List.flatten_nil, List.append_nil, List.cons_append, List.nil_append]
  entry_read
  rw [e]
  change (uitofp (F := Ideal) .bf16 (cmpi .eq
    (broadcastInDim S128x128 ![0, 1] bcast_S128x1_S128x128_0_1 (by64 bcast_S_S128x1 (broadcastInDim S128x1 ![0] bcast_S128_S128x1_0 (iotaInDim S128 32 0))))
    (broadcastInDim S128x128 ![0, 1] bcast_S1x128_S128x128_0_1 (by64 bcast_S_S1x128 (broadcastInDim S1x128 ![1] bcast_S128_S1x128_1 (iotaInDim S128 32 0)))))) (ix2 r l) = _
  pointwise [by64]
  change FloatOps.uitofp (F := Ideal) .bf16 (IntOp.cmpi .eq (word64 (BitVec.ofNat 32 r.val)) (word64 (BitVec.ofNat 32 l.val))) = _
  rw [word64_eq, word64_eq, eq_word ⟨r.val / 64, by omega⟩ ⟨l.val / 64, by omega⟩]
  split
  · simp [FloatOps.uitofp]
  · simp [FloatOps.uitofp]

end Cert.Kernel4Ideal.Proj
-- ==== Proof.PromptRef.lean ====
/-
  The reference of the first layer's projections for the prompt, in stages: the norm, the projections, and the heads
  of the keys normed and turned for their positions.
-/
module

public import proofs.«01_k».proof.Proof.PostMath
public import proofs.«01_k».proof.Proof.Gen.Reference4Ideal.Run

@[expose] public section

set_option maxRecDepth 16384

noncomputable section

namespace Cert.Reference4Ideal.Proj

open Cert.Reference4Ideal Cert.Reference4Ideal.Gen Cert.Reference4Ideal.Facts Idealize.ShloMosaic Idealize.ShloMosaic.TcCoe

/-- A row over its root mean square. -/
def normed (h : FVec Ideal S1x16384x1024 .f32) : FVec Ideal S1x16384x1024 .f32 :=
  mulf h (broadcastInDim S1x16384x1024 ![0, 1, 2] bcast_S1x16384x1_S1x16384x1024_0_1_2 (Host.rsqrt (addf
    (Host.divf (broadcastInDim S1x16384x1 ![0, 1] bcast_S1x16384_S1x16384x1_0_1
      (Host.reduceAdd (mulf h h) (constant (F := Ideal) S_ .f32 0x00000000#32) reducesTo_S1x16384x1024_S1x16384_d2 h_S_))
      (broadcastInDim S1x16384x1 ![] bcast_S_S1x16384x1 (constant (F := Ideal) S_ .f32 0x44800000#32)))
    (broadcastInDim S1x16384x1 ![] bcast_S_S1x16384x1 (constant (F := Ideal) S_ .f32 0x358637BD#32)))))

/-- The projections: the normed rows, by their gain, by the weights. -/
def projected (h : FVec Ideal S1x16384x1024 .f32) (g : FVec Ideal S1x1024 .f32) (w : FVec Ideal S1x1024x2560 .f32) : FVec Ideal S1x16384x2560 .f32 :=
  Host.dotGeneral (φ₁ := .f32) (φ₂ := .f32) (F := Ideal) dot_S1x16384x1024_S1024x2560_S1x16384x2560_2_0_01_1_n_n none
    (mulf (normed h) (broadcastInDim S1x16384x1024 ![0, 1, 2] bcast_S1x1x1024_S1x16384x1024_0_1_2 (broadcastInDim S1x1x1024 ![2] bcast_S1024_S1x1x1024_2
      (shapeCast _ g shapeCasts_S1x1024_S1024)))) (shapeCast _ w shapeCasts_S1x1024x2560_S1024x2560)

/-- The angles of the rotary embedding. -/
def angles : FVec Ideal S16384x32 .f32 :=
  mulf (broadcastInDim S16384x32 ![0, 1] bcast_S16384x1_S16384x32_0_1 (broadcastInDim S16384x1 ![0] bcast_S16384_S16384x1_0 (sitofp (F := Ideal) .f32 (iotaInDim S16384 32 0))))
    (broadcastInDim S16384x32 ![0, 1] bcast_S1x32_S16384x32_0_1 (broadcastInDim S1x32 ![1] bcast_S32_S1x32_1
      (Host.divf (broadcastInDim S32 ![] bcast_S_S32 (constant (F := Ideal) S_ .f32 0x3F800000#32))
        (Host.powf (broadcastInDim S32 ![] bcast_S_S32 (constant (F := Ideal) S_ .f32 0x461C4000#32))
          (Host.divf (sitofp (F := Ideal) .f32 (iotaInDim S32 32 0)) (broadcastInDim S32 ![] bcast_S_S32 (constant (F := Ideal) S_ .f32 0x42000000#32)))))))

/-- 4 heads, each over its root mean square and by its gain. -/
def headNorm4 (z : FVec Ideal S1x16384x4x64 .f32) (g : FVec Ideal S64 .f32) : FVec Ideal S1x16384x4x64 .f32 :=
  mulf (mulf z (broadcastInDim S1x16384x4x64 ![0, 1, 2, 3] bcast_S1x16384x4x1_S1x16384x4x64_0_1_2_3 (Host.rsqrt (addf
    (Host.divf (broadcastInDim S1x16384x4x1 ![0, 1, 2] bcast_S1x16384x4_S1x16384x4x1_0_1_2
      (Host.reduceAdd (mulf z z) (constant (F := Ideal) S_ .f32 0x00000000#32) reducesTo_S1x16384x4x64_S1x16384x4_d3 h_S_))
      (broadcastInDim S1x16384x4x1 ![] bcast_S_S1x16384x4x1 (constant (F := Ideal) S_ .f32 0x42800000#32)))
    (broadcastInDim S1x16384x4x1 ![] bcast_S_S1x16384x4x1 (constant (F := Ideal) S_ .f32 0x358637BD#32))))))
    (broadcastInDim S1x16384x4x64 ![0, 1, 2, 3] bcast_S1x1x1x64_S1x16384x4x64_0_1_2_3 (broadcastInDim S1x1x1x64 ![3] bcast_S64_S1x1x1x64_3 g))

/-- 4 heads turned. -/
def rope4 (z : FVec Ideal S1x16384x4x64 .f32) : FVec Ideal S1x16384x4x64 .f32 :=
  let x1 : FVec Ideal S1x16384x4x32 .f32 := extractStridedSlice S1x16384x4x32 ![0, 0, 0, 0] z slices_S1x16384x4x64_S1x16384x4x32_0_0_0_0
  let x2 : FVec Ideal S1x16384x4x32 .f32 := extractStridedSlice S1x16384x4x32 ![0, 0, 0, 32] z slices_S1x16384x4x64_S1x16384x4x32_0_0_0_32
  let cs : FVec Ideal S1x16384x4x32 .f32 := broadcastInDim S1x16384x4x32 ![0, 1, 2, 3] bcast_S1x16384x1x32_S1x16384x4x32_0_1_2_3 (broadcastInDim S1x16384x1x32 ![1, 2, 3] bcast_S16384x1x32_S1x16384x1x32_1_2_3
    (broadcastInDim S16384x1x32 ![0, 2] bcast_S16384x32_S16384x1x32_0_2 (Host.cos angles)))
  let sn : FVec Ideal S1x16384x4x32 .f32 := broadcastInDim S1x16384x4x32 ![0, 1, 2, 3] bcast_S1x16384x1x32_S1x16384x4x32_0_1_2_3 (broadcastInDim S1x16384x1x32 ![1, 2, 3] bcast_S16384x1x32_S1x16384x1x32_1_2_3
    (broadcastInDim S16384x1x32 ![0, 2] bcast_S16384x32_S16384x1x32_0_2 (Host.sin angles)))
  concatenate S1x16384x4x64 3 [⟨S1x16384x4x32, subf (mulf x1 cs) (mulf x2 sn)⟩, ⟨S1x16384x4x32, addf (mulf x2 cs) (mulf x1 sn)⟩] concatenates_S1x16384x4x32_S1x16384x4x32_S1x16384x4x64_d3

/-- The keys. -/
def outK (z : FVec Ideal S1x16384x2560 .f32) (g : FVec Ideal S1x64 .f32) : FVec Ideal S16384x256 .f32 :=
  shapeCast _ (rope4 (headNorm4 (shapeCast _ (extractStridedSlice S1x16384x256 ![0, 0, 1024] z slices_S1x16384x2560_S1x16384x256_0_0_1024) shapeCasts_S1x16384x256_S1x16384x4x64)
    (shapeCast _ g shapeCasts_S1x64_S64))) shapeCasts_S1x16384x4x64_S16384x256

/-- The values. -/
def outV (z : FVec Ideal S1x16384x2560 .f32) : FVec Ideal S16384x256 .f32 :=
  shapeCast _ (shapeCast _ (extractStridedSlice S1x16384x256 ![0, 0, 1280] z slices_S1x16384x2560_S1x16384x256_0_0_1280) shapeCasts_S1x16384x256_S1x16384x4x64 : FVec Ideal S1x16384x4x64 .f32) shapeCasts_S1x16384x4x64_S16384x256

/-- The gate. -/
def outG (z : FVec Ideal S1x16384x2560 .f32) : FVec Ideal S16384x1024 .f32 :=
  shapeCast _ (extractStridedSlice S1x16384x1024 ![0, 0, 1536] z slices_S1x16384x2560_S1x16384x1024_0_0_1536) shapeCasts_S1x16384x1024_S16384x1024

theorem outV_apply (z : FVec Ideal S1x16384x2560 .f32) (s : Fin 16384) (l : Fin 256) : outV z (ix2 s l) = z (ix3 0 s ⟨1280 + l.val, by omega⟩) := by
  pointwise [outV]

theorem outG_apply (z : FVec Ideal S1x16384x2560 .f32) (s : Fin 16384) (l : Fin 1024) : outG z (ix2 s l) = z (ix3 0 s ⟨1536 + l.val, by omega⟩) := by
  pointwise [outG]

theorem normed_apply (h : FVec Ideal S1x16384x1024 .f32) (s : Fin 16384) (l : Fin 1024) :
    normed h (ix3 0 s l) = h (ix3 0 s l) * Ideal.rsqrt (Ideal.div (∑ x, h (ix3 0 s x) * h (ix3 0 s x)) (Ideal.ofBits .f32 0x44800000#32) + Ideal.ofBits .f32 0x358637BD#32) := by
  pointwise [normed]

theorem projected_apply (h : FVec Ideal S1x16384x1024 .f32) (g : FVec Ideal S1x1024 .f32) (w : FVec Ideal S1x1024x2560 .f32) (s : Fin 16384) (l : Fin 2560) :
    projected h g w (ix3 0 s l) = ∑ x, normed h (ix3 0 s x) * g (ix2 0 x) * w (ix3 0 x l) := by
  pointwise [projected]

theorem angles_apply (s : Fin 16384) (d : Fin 32) : angles (ix2 s d) = Heads.angle s.val d.val := by
  pointwise [angles, Heads.angle]

theorem rope4_apply (z : FVec Ideal S1x16384x4x64 .f32) (s : Fin 16384) (a : Fin 4) (d : Fin 64) :
    rope4 z (ix4 0 s a d) = Heads.turn s.val (fun d => z (ix4 0 s a d)) d := by
  pointwise [rope4]
  simp only [angles_apply, Heads.turn]
  by_cases h : d.val < 32
  · rw [dif_pos h, dif_pos h]
  · rw [dif_neg h, dif_neg h]
    have e : (⟨32 + (d.val - 32), by omega⟩ : Fin 64) = d := Fin.ext (by dsimp only; omega)
    simp only [e]

theorem headNorm4_apply (z : FVec Ideal S1x16384x4x64 .f32) (g : FVec Ideal S64 .f32) (s : Fin 16384) (a : Fin 4) (d : Fin 64) :
    headNorm4 z g (ix4 0 s a d) = Heads.norm (fun d => z (ix4 0 s a d)) (fun d => g (ix1 d)) d := by
  pointwise [headNorm4, Heads.norm]

theorem outK_apply (z : FVec Ideal S1x16384x2560 .f32) (g : FVec Ideal S1x64 .f32) (s : Fin 16384) (l : Fin 256) :
    outK z g (ix2 s l) = Heads.turn s.val (Heads.norm (fun d => z (ix3 0 s ⟨1024 + (64 * (l.val / 64) + d.val), by omega⟩)) (fun d => g (ix2 0 d))) ⟨l.val % 64, by omega⟩ := by
  pointwise [outK]
  rw [rope4_apply]
  simp only [headNorm4_apply]
  refine Heads.turn_congr rfl (fun d => Heads.norm_congr (fun d => ?_) (fun d => ?_) rfl) rfl
  · pointwise
    exact congrArg (fun x => z (ix3 0 s x)) (Fin.ext (by dsimp only; omega))
  · pointwise

section
variable (m : (ℓ : Loc nD τ sig) → Buf (Elt Ideal) ℓ) (c : Dev nD)

/-- The projections, of the reference's arguments. -/
abbrev proj : FVec Ideal S1x16384x2560 .f32 := projected (m ((c.tc : Thread nD τ).loc main_arg0)) (m ((c.tc : Thread nD τ).loc main_arg1)) (m ((c.tc : Thread nD τ).loc main_arg2))

theorem res_k_eq : Value.res_out0 (F := Ideal) m c = outK (proj m c) (m ((c.tc : Thread nD τ).loc main_arg4)) := rfl

end

end Cert.Reference4Ideal.Proj
-- ==== Proof.PromptFinal.lean ====
/-
  The arrays the kernel of the prompt's projections leaves are the reference's.
-/
module

public import proofs.«01_k».proof.Proof.PromptTile
public import proofs.«01_k».proof.Proof.PromptRef

@[expose] public section

set_option maxRecDepth 16384

noncomputable section

namespace Cert.Kernel4Ideal.Proj

open Cert.Kernel4Ideal Cert.Kernel4Ideal.Gen Idealize.ShloMosaic Idealize.ShloMosaic.TcCoe
open Cert.Reference4Ideal.Proj (normed projected outK outV outG)

variable (m : (ℓ : Loc nD τ sig) → Buf (Elt Ideal) ℓ) (c : Dev nD)

/-- The projections, of the kernel's arguments. -/
def proj : FVec Ideal Cert.Reference4Ideal.S1x16384x2560 .f32 := projected (argX m c) (argG m c) (argW m c)

abbrev tZ (t : Fin cfg0.N) : FVec Ideal S256x2560 .f32 := k0_pay4 (iblk m c 0 t) (iblk m c 2 t) (iblk m c 1 t)

/-- The gain of the two heads from lane `128 * k` on. -/
abbrev tGain (t : Fin cfg0.N) (k : Fin 10) (h : ∀ a, (![0, 128 * k.val] : Fin 2 → ℕ) a + S1x128.size a ≤ S1x1280.size a) : Vec Ideal S1x128 .f32 :=
  View.ld (iblk m c 3 t) (Rect.unit (s := S1x1280) ![0, 128 * k.val] S1x128.size h)

theorem tZ_at (t : Fin cfg0.N) (r : Fin 256) (l : Fin 2560) : tZ m c t (ix2 r l) = proj m c (ix3 0 (row t r) l) := by
  rw [tZ, proj_apply, proj, Cert.Reference4Ideal.Proj.projected_apply]
  refine Finset.sum_congr rfl fun k _ => ?_
  rw [Cert.Reference4Ideal.Proj.normed_apply, g_at, w_at]
  simp only [x_at]

theorem inb_gain (k : Fin 10) : ∀ a, (![0, 128 * k.val] : Fin 2 → ℕ) a + S1x128.size a ≤ S1x1280.size a := by
  revert k; decide

theorem tGain_at (t : Fin cfg0.N) (k : Fin 10) (l : Fin 128) :
    tGain m c t k (inb_gain k) (ix2 0 l) = (iblk m c 3 t : Vec Ideal S1x1280 .f32) (ix2 0 ⟨128 * k.val + l.val, by omega⟩) := by
  refine congrArg (iblk m c 3 t : Vec Ideal S1x1280 .f32) (funext fun a => ?_)
  fin_cases a
  · rfl
  · exact Fin.ext (by show 128 * k.val + 1 * l.val = 128 * k.val + l.val; omega)

theorem gain_q (t : Fin cfg0.N) (k : Fin 10) (hk : k.val < 8) (l : Fin 128) :
    tGain m c t k (inb_gain k) (ix2 0 l) = argQn m c (ix2 0 ⟨l.val % 64, by omega⟩) := by
  rw [tGain_at, gain_q_at m c t _ (by dsimp only; omega)]
  exact congrArg (fun x => argQn m c (ix2 0 x)) (Fin.ext (by dsimp only; omega))

theorem gain_k (t : Fin cfg0.N) (k : Fin 10) (hk : ¬ k.val < 8) (l : Fin 128) :
    tGain m c t k (inb_gain k) (ix2 0 l) = argKn m c (ix2 0 ⟨l.val % 64, by omega⟩) := by
  rw [tGain_at, gain_k_at m c t _ (by dsimp only; omega)]
  exact congrArg (fun x => argKn m c (ix2 0 x)) (Fin.ext (by dsimp only; omega))

/-- Two heads of an instance, normed and turned. -/
theorem heads_at (t : Fin cfg0.N) (k : Fin 10) (g : Fin 64 → EReal) (hg : ∀ l : Fin 128, tGain m c t k (inb_gain k) (ix2 0 l) = g ⟨l.val % 64, by omega⟩) (r : Fin 256) (l : Fin 128) :
    heads k (k0_pay6 k0_pay5) (iblk m c 4 t) (iblk m c 5 t) (iblk m c 6 t) (tZ m c t) (tGain m c t k (inb_gain k)) (ix2 r l)
      = Heads.turn (256 * t.val + r.val) (Heads.norm (fun d => proj m c (ix3 0 (row t r) ⟨128 * k.val + (64 * (l.val / 64) + d.val), by omega⟩)) g) ⟨l.val % 64, by omega⟩ := by
  refine (turned_norm _ _ _ _ _ (256 * t.val + r.val) r g (b2_at m c t) hg (cos_at m c t r) (sin_at m c t r) l).trans (Heads.turn_congr rfl (fun d => Heads.norm_congr (fun d' => ?_) (fun _ => rfl) rfl) rfl)
  rw [slice_apply, tZ_at]

theorem k_at (t : Fin cfg0.N) (k : Fin 10) (hk : ¬ k.val < 8) (r : Fin 256) (l : Fin 128) :
    heads k (k0_pay6 k0_pay5) (iblk m c 4 t) (iblk m c 5 t) (iblk m c 6 t) (tZ m c t) (tGain m c t k (inb_gain k)) (ix2 r l)
      = outK (proj m c) (argKn m c) (ix2 (row t r) ⟨128 * (k.val - 8) + l.val, by omega⟩) := by
  rw [heads_at m c t k (fun d => argKn m c (ix2 0 d)) (gain_k m c t k hk), Cert.Reference4Ideal.Proj.outK_apply]
  refine Heads.turn_congr rfl (fun d => Heads.norm_congr (fun d => ?_) (fun _ => rfl) rfl) (Fin.ext (by dsimp only; omega))
  exact congrArg (fun x => proj m c (ix3 0 (row t r) x)) (Fin.ext (by dsimp only; omega))

theorem pay8_eq (x : Vec Ideal S256x128 .f32) : k0_pay8 x = x := by
  funext i
  obtain ⟨r, l, rfl⟩ : ∃ (a : Fin 256) (b : Fin 128), i = ix2 a b := ⟨i 0, i 1, (ix2_eta i).symm⟩
  pointwise [k0_pay8]

theorem pay9_eq (x : Vec Ideal S256x128 .f32) : k0_pay9 x = x := by
  funext i
  obtain ⟨r, l, rfl⟩ : ∃ (a : Fin 256) (b : Fin 128), i = ix2 a b := ⟨i 0, i 1, (ix2_eta i).symm⟩
  pointwise [k0_pay9]

theorem pay10_eq (x : Vec Ideal S128x128 .bf16) : k0_pay10 x = x := by
  funext i
  obtain ⟨r, l, rfl⟩ : ∃ (a : Fin 128) (b : Fin 128), i = ix2 a b := ⟨i 0, i 1, (ix2_eta i).symm⟩
  pointwise [k0_pay10]

theorem final12 : (dats m 0 c).arrAt 12 cfg0.N = outG (proj m c) := by
  refine (dats m 0 c).arrAt_eq_of_covers 12 _ (by decide +kernel) fun t _ y => ?_
  blk_simp
  rw [after0_12]
  obtain ⟨r, l, rfl⟩ : ∃ (a : Fin 256) (b : Fin 1024), y = ix2 a b := ⟨y 0, y 1, (ix2_eta y).symm⟩
  have e : ((View.whole main_v48_5).slice (win0_12.rect t)).emb (ix2 r l) = ix2 (row t r) l := by blk_ext [iblk, V, idx t, row]
  rw [e, Cert.Reference4Ideal.Proj.outG_apply, ← tZ_at]
  by_cases h : t.val % 64 = 0
  · rw [outsAt0_A m c t h]
    frame_out
    pointwise [k0_pay2]
  · rw [outsAt0_B m c t h]
    frame_out
    pointwise [k0_pay2]

theorem final11 : (dats m 0 c).arrAt 11 cfg0.N = outV (proj m c) := by
  refine (dats m 0 c).arrAt_eq_of_covers 11 _ (by decide +kernel) fun t _ y => ?_
  blk_simp
  rw [after0_11]
  obtain ⟨r, l, rfl⟩ : ∃ (a : Fin 256) (b : Fin 256), y = ix2 a b := ⟨y 0, y 1, (ix2_eta y).symm⟩
  have e : ((View.whole main_v48_4).slice (win0_11.rect t)).emb (ix2 r l) = ix2 (row t r) l := by blk_ext [iblk, V, idx t, row]
  rw [e, Cert.Reference4Ideal.Proj.outV_apply, ← tZ_at]
  by_cases h : t.val % 64 = 0
  · rw [outsAt0_A m c t h]
    frame_out
    pointwise [k0_pay237]
  · rw [outsAt0_B m c t h]
    frame_out
    pointwise [k0_pay237]

/-- An instance's block of the keys. -/
def blockK (t : Fin cfg0.N) : FVec Ideal S256x256 .f32 := fun z => outK (proj m c) (argKn m c) (ix2 (row t (z 0)) (z 1))

theorem inb_k (k : Fin 10) (hk : ¬ k.val < 8) : ∀ a, (![0, 128 * (k.val - 8)] : Fin 2 → ℕ) a + S256x128.size a ≤ S256x256.size a := by
  revert k; decide

theorem k_piece (t : Fin cfg0.N) (k : Fin 10) (hk : ¬ k.val < 8) (x : (Rect.unit (s := S256x256) ![0, 128 * (k.val - 8)] S256x128.size (inb_k k hk)).shape.Idx) :
    heads k (k0_pay6 k0_pay5) (iblk m c 4 t) (iblk m c 5 t) (iblk m c 6 t) (tZ m c t) (tGain m c t k (inb_gain k)) x
      = blockK m c t ((Rect.unit (s := S256x256) ![0, 128 * (k.val - 8)] S256x128.size (inb_k k hk)).emb x) := by
  have hx : x = ix2 (x 0) (x 1) := by
    funext a; fin_cases a <;> rfl
  have h0 : (x 0).val < 256 := (x 0).isLt
  have h1 : (x 1).val < 128 := (x 1).isLt
  rw [hx]
  refine (k_at m c t k hk ⟨(x 0).val, h0⟩ ⟨(x 1).val, h1⟩).trans ?_
  have e0 : ((Rect.unit (s := S256x256) ![0, 128 * (k.val - 8)] S256x128.size (inb_k k hk)).emb x 0).val = (x 0).val := by
    show 0 + 1 * (x 0).val = _; omega
  have e1 : ((Rect.unit (s := S256x256) ![0, 128 * (k.val - 8)] S256x128.size (inb_k k hk)).emb x 1).val = 128 * (k.val - 8) + (x 1).val := by
    show 128 * (k.val - 8) + 1 * (x 1).val = _; omega
  rw [← hx]
  unfold blockK
  exact congrArg (outK (proj m c) (argKn m c)) (congr (congrArg ix2 (congrArg (row t) (Fin.ext e0.symm))) (Fin.ext e1.symm))

theorem final10 : (dats m 0 c).arrAt 10 cfg0.N = outK (proj m c) (argKn m c) := by
  refine (dats m 0 c).arrAt_eq_of_covers 10 _ (by decide +kernel) fun t _ y => ?_
  blk_simp
  rw [after0_10]
  have ey : outK (proj m c) (argKn m c) (((View.whole main_v48_3).slice (win0_10.rect t)).emb y) = blockK m c t y := by
    obtain ⟨r, l, rfl⟩ : ∃ (a : Fin 256) (b : Fin 256), y = ix2 a b := ⟨y 0, y 1, (ix2_eta y).symm⟩
    have e : ((View.whole main_v48_3).slice (win0_10.rect t)).emb (ix2 r l) = ix2 (row t r) l := by blk_ext [iblk, V, idx t, row]
    rw [e]
    rfl
  rw [ey]
  by_cases h : t.val % 64 = 0
  · rw [outsAt0_A m c t h]
    frame_out
    rw [pay8_eq, pay9_eq, pay10_eq]
    refine (View.canon_apply_of_pieces (blockK m c t) _ (View.PiecesOf.mem ?_) y (View.cover_of_tiledL _ ![256, 128] (by sl_kernel_rfl) y)).trans rfl
    exact ⟨k_piece m c t 9 (by decide), k_piece m c t 8 (by decide), trivial⟩
  · rw [outsAt0_B m c t h]
    frame_out
    rw [pay8_eq, pay9_eq, pay10_eq]
    refine (View.canon_apply_of_pieces (blockK m c t) _ (View.PiecesOf.mem ?_) y (View.cover_of_tiledL _ ![256, 128] (by sl_kernel_rfl) y)).trans rfl
    exact ⟨k_piece m c t 9 (by decide), k_piece m c t 8 (by decide), trivial⟩

end Cert.Kernel4Ideal.Proj
-- ==== Proof.GatedOut.lean ====
/-
  The sample's last step: the gated output of the second layer, added to its input.
-/
module

public import proofs.«01_k».proof.Proof.Gen.Kernel5Ideal.Value
public import proofs.«01_k».proof.Proof.Gen.Reference5Ideal.Run
public import Idealize.ShloMosaic.Lib.Pipeline.ReadBack
public import Idealize.ShloMosaic.Lib.VecWindow
public import Idealize.ShloMosaic.Lib.Pipeline.ValueKit
public import Idealize.ShloMosaic.Lib.Pointwise

@[expose] public section

set_option maxRecDepth 16384

noncomputable section

namespace Cert.Reference5Ideal.Out

open Cert.Reference5Ideal Cert.Reference5Ideal.Gen Cert.Reference5Ideal.Facts Idealize.ShloMosaic Idealize.ShloMosaic.TcCoe

/-- The gated output, added to the layer's input. -/
def out (o : FVec Ideal S128x1x16x64 .f32) (gate h : FVec Ideal S128x1x1024 .f32) (w : FVec Ideal S1x1024x1024 .f32) : FVec Ideal S128x1024 .f32 :=
  shapeCast _ (addf h (Host.dotGeneral (φ₁ := .f32) (φ₂ := .f32) (F := Ideal) dot_S128x1x1024_S1024x1024_S128x1x1024_2_0_01_1_n_n none
    (mulf (shapeCast _ o shapeCasts_S128x1x16x64_S128x1x1024)
      (mulf gate (Host.divf (broadcastInDim S128x1x1024 ![] bcast_S_S128x1x1024 (constant (F := Ideal) S_ .f32 0x3F800000#32))
        (addf (broadcastInDim S128x1x1024 ![] bcast_S_S128x1x1024 (constant (F := Ideal) S_ .f32 0x3F800000#32)) (Host.exp (Host.negf gate))))))
    (shapeCast _ w shapeCasts_S1x1024x1024_S1024x1024))) shapeCasts_S128x1x1024_S128x1024

theorem out_apply (o : FVec Ideal S128x1x16x64 .f32) (gate h : FVec Ideal S128x1x1024 .f32) (w : FVec Ideal S1x1024x1024 .f32) (s : Fin 128) (l : Fin 1024) :
    out o gate h w (ix2 s l) = h (ix3 s 0 l) + ∑ k : Fin 1024,
      o (ix4 s 0 ⟨k.val / 64, by omega⟩ ⟨k.val % 64, by omega⟩) * (gate (ix3 s 0 k) * Ideal.div 1 (1 + Ideal.exp (-gate (ix3 s 0 k)))) * w (ix3 0 k l) := by
  pointwise [out]

end Cert.Reference5Ideal.Out

namespace Cert.Kernel5Ideal.Out

open Cert.Kernel5Ideal Cert.Kernel5Ideal.Gen Idealize.ShloMosaic Idealize.ShloMosaic.TcCoe

theorem pay1_apply (x o gt : Vec Ideal S128x1024 .f32) (w : Vec Ideal S1024x1024 .bf16) (r : Fin 128) (l : Fin 1024) :
    k0_pay1 x o gt w (ix2 r l) = x (ix2 r l) + ∑ k, o (ix2 r k) * (gt (ix2 r k) * Ideal.div 1 (1 + Ideal.exp (-gt (ix2 r k)))) * w (ix2 k l) := by
  pointwise [k0_pay1]
  simp only [zero_sub]

theorem idx : ∀ t : Fin cfg0.N, t.val < 1 ∧ win0_0.index t = ![0, 0] ∧ win0_1.index t = ![0, 0] ∧ win0_2.index t = ![0, 0]
    ∧ win0_3.index t = ![0, 0] ∧ win0_4.index t = ![0, 0] :=
  (by decide +kernel : ∀ t : Fin grid0.N, _)

variable (m : (ℓ : Loc nD τ sig) → Buf (Elt Ideal) ℓ) (c : Dev nD)

/-! The arguments by name. -/
abbrev argO : Vec Ideal S128x1x16x64 .f32 := m (c, Proc.tc.devRef main_arg0)
abbrev argGate : Vec Ideal S128x1x1024 .f32 := m (c, Proc.tc.devRef main_arg1)
abbrev argH : Vec Ideal S128x1x1024 .f32 := m (c, Proc.tc.devRef main_arg2)
abbrev argW : Vec Ideal S1x1024x1024 .f32 := m (c, Proc.tc.devRef main_arg3)

/-- The result, of the kernel's arguments. -/
def res : FVec Ideal S128x1024 .f32 := Cert.Reference5Ideal.Out.out (argO m c) (argGate m c) (argH m c) (argW m c)

theorem o_at (t : Fin cfg0.N) (r : Fin 128) (l : Fin 1024) : iblk m c 0 t (ix2 r l) = argO m c (ix4 r 0 ⟨l.val / 64, by omega⟩ ⟨l.val % 64, by omega⟩) := by
  have e : ((View.whole main_v0).slice (win0_0.rect t)).emb (ix2 r l) = ix2 r l := by
    blk_ext [iblk, V, idx t]
  blk_simp [iblk]
  unfold V
  simp only [hostOps0]
  entry_read
  rw [e]
  pointwise

theorem gate_at (t : Fin cfg0.N) (r : Fin 128) (l : Fin 1024) : iblk m c 1 t (ix2 r l) = argGate m c (ix3 r 0 l) := by
  have e : ((View.whole main_v1).slice (win0_1.rect t)).emb (ix2 r l) = ix2 r l := by
    blk_ext [iblk, V, idx t]
  blk_simp [iblk]
  unfold V
  simp only [hostOps0]
  entry_read
  rw [e]
  pointwise

theorem h_at (t : Fin cfg0.N) (r : Fin 128) (l : Fin 1024) : iblk m c 2 t (ix2 r l) = argH m c (ix3 r 0 l) := by
  have e : ((View.whole main_v2).slice (win0_2.rect t)).emb (ix2 r l) = ix2 r l := by
    blk_ext [iblk, V, idx t]
  blk_simp [iblk]
  unfold V
  simp only [hostOps0]
  entry_read
  rw [e]
  pointwise

theorem w_at (t : Fin cfg0.N) (r l : Fin 1024) : iblk m c 3 t (ix2 r l) = argW m c (ix3 0 r l) := by
  have e : ((View.whole main_v4).slice (win0_3.rect t)).emb (ix2 r l) = ix2 r l := by
    blk_ext [iblk, V, idx t]
  blk_simp [iblk]
  unfold V
  simp only [hostOps0]
  entry_read
  rw [e]
  pointwise

theorem final4 : (dats m 0 c).arrAt 4 cfg0.N = res m c := by
  refine (dats m 0 c).arrAt_eq_of_covers 4 _ (by decide +kernel) fun t _ y => ?_
  blk_simp
  rw [after0_4]
  obtain ⟨r, l, rfl⟩ : ∃ (a : Fin 128) (b : Fin 1024), y = ix2 a b := ⟨y 0, y 1, (ix2_eta y).symm⟩
  frame_out
  have e : ((View.whole main_v5).slice (win0_4.rect t)).emb (ix2 r l) = ix2 r l := by blk_ext [iblk, V, idx t]
  rw [e, pay1_apply, res, Cert.Reference5Ideal.Out.out_apply, h_at]
  refine congrArg (_ + ·) (Finset.sum_congr rfl fun k _ => ?_)
  rw [o_at, gate_at, w_at]

end Cert.Kernel5Ideal.Out
-- ==== Proof.StepTile.lean ====
/-
  The body of the sampling step's sliding-window kernel. One program instance handles eight samples; for each it computes
  the attention of sixteen heads over the 128 buffered positions and the new one, and stores the buffers moved on by one
  position. The functions here are that computation for one sample, and each is read at an index.
-/
module

public import proofs.«01_k».proof.Proof.Gen.Kernel6Ideal.Value
public import Idealize.ShloMosaic.Lib.Pipeline.ValueKit
public import Idealize.ShloMosaic.Lib.Pointwise
public import proofs.«01_k».proof.Proof.Words
public import proofs.«01_k».proof.Proof.Reals

@[expose] public section

set_option maxRecDepth 16384

noncomputable section

namespace Cert.Kernel6Ideal.Step

open Cert.Kernel6Ideal Cert.Kernel6Ideal.Gen Idealize.ShloMosaic Idealize.ShloMosaic.TcCoe Cert.Words Cert.Reals

/-- The lane of each entry. -/
abbrev lane : IVec S128x128 32 := iota .tc S128x128 32 [1] iota_S128x128_d1_w32

/-- The head of each entry. -/
abbrev head : IVec S16x64 32 := iota .tc S16x64 32 [0] iota_S16x64_d0_w32

/-- Column `w` of the new keys or values. -/
def newest (w : BitVec 32) (y : Vec Ideal S128x128 .f32) : FVec Ideal S128x1 .f32 :=
  shapeCast S128x1 (multiReduction .add [1] S128 (select (cmpi .eq lane (broadcast S128x128 w))
      (shapeCast S128x128 y shapeCasts_S128x128_S128x128 : FVec Ideal S128x128 .f32) (broadcast S128x128 (Scalar.ofBits (F := Ideal) .f32 0x00000000#32)))
    0x00000000#32 reduces_S128x128_S128 (.inl rfl) rfl : FVec Ideal S128 .f32) shapeCasts_S128_S128x1

/-- One sample's buffer with its oldest position gone and the new one in. -/
def moved (w : BitVec 32) (x : Vec Ideal S1x128x128 .f32) (y : Vec Ideal S128x128 .f32) : FVec Ideal S1x128x128 .f32 :=
  k0_pay23 (k0_pay4 x) (newest w y) (k0_pay22 lane)

/-- One sample's attention, each head over the 128 lanes of both key heads. -/
def outcome (x7 : Vec Ideal S16x1 .f32) (x0 : Vec Ideal S1x16x128 .bf16) (x1 x2 : Vec Ideal S1x128x128 .f32) (x3 x4 : Vec Ideal S1x1x128 .f32) : FVec Ideal S16x128 .f32 :=
  k0_pay14 (k0_pay5 x2) (k0_pay6 x4) (k0_pay10 x7 x0 x1 x3) (k0_pay11 x7 x0 x1 x3) (k0_pay12 x7 x0 x1 x3) (k0_pay13 x7 x0 x1 x3)

/-- One sample's attention, each head in the lanes of its own key head. -/
def stored (x7 : Vec Ideal S16x1 .f32) (x0 : Vec Ideal S1x16x128 .bf16) (x1 x2 : Vec Ideal S1x128x128 .f32) (x3 x4 : Vec Ideal S1x1x128 .f32) : FVec Ideal S1x16x64 .f32 :=
  k0_pay18 head (outcome x7 x0 x1 x2 x3 x4)
    (k0_pay15 head (k0_pay5 x2) (k0_pay6 x4) (k0_pay10 x7 x0 x1 x3) (k0_pay11 x7 x0 x1 x3) (k0_pay12 x7 x0 x1 x3) (k0_pay13 x7 x0 x1 x3))
    8#32 (k0_pay16 head) (k0_pay17 head)

theorem eq_lane : ∀ a b : Fin 128, IntOp.cmpi .eq (BitVec.ofNat 32 a.val) (BitVec.ofNat 32 b.val) = if a = b then 1#1 else 0#1 := by decide +kernel

theorem newest_apply (n : Fin 128) (y : Vec Ideal S128x128 .f32) (f : Fin 128) :
    newest (BitVec.ofNat 32 n.val) y (ix2 f 0) = y (ix2 f n) := by
  pointwise [newest]
  simp only [select_eq_ite, eq_lane]
  rw [Finset.sum_eq_single n]
  · simp
  · intro b _ hb
    simp [hb]
  · intro h; exact absurd (Finset.mem_univ _) h

theorem moved_apply (n : Fin 128) (x : Vec Ideal S1x128x128 .f32) (y : Vec Ideal S128x128 .f32) (f p : Fin 128) :
    moved (BitVec.ofNat 32 n.val) x y (ix3 0 f p) = if p = 127 then y (ix2 f n) else x (ix3 0 f ⟨(p.val + 1) % 128, by omega⟩) := by
  rw [← newest_apply n y f]
  pointwise [moved, k0_pay23, k0_pay4, k0_pay22]
  have e : IntOp.cmpi .eq (BitVec.ofNat 32 p.val) 127#32 = if p = 127 then 1#1 else 0#1 := eq_lane p 127
  refine (select_eq_ite _ _ _).trans ?_
  by_cases h : p = 127
  · exact (if_pos (e.trans (if_pos h))).trans (if_pos h).symm
  · refine (if_neg (by rw [e, if_neg h]; decide)).trans (Eq.trans ?_ (if_neg h).symm)
    exact congrArg (fun z => x (ix3 0 f z)) (Fin.ext (by dsimp only; omega))

/-- The greatest of 129 numbers is the greater of the first 128 and the last. -/
theorem fold_last (s : Fin 129 → EReal) :
    max (Finset.univ.fold max ⊥ (fun j : Fin 128 => s j.castSucc)) (s (Fin.last 128)) = Finset.univ.fold max ⊥ s := by
  rw [Fin.univ_castSuccEmb (n := 128), Finset.fold_cons, Finset.fold_map, max_comm]
  rfl

section
variable (x7 : Vec Ideal S16x1 .f32) (x0 : Vec Ideal S1x16x128 .bf16) (x1 x2 : Vec Ideal S1x128x128 .f32) (x3 x4 : Vec Ideal S1x1x128 .f32)

/-- The score of head `h` against position `j`, the new one last. -/
def score (h : Fin 16) (j : Fin 129) : EReal :=
  if hj : j.val < 128 then ∑ l : Fin 128, x0 (ix3 0 h l) * x1 (ix3 0 l ⟨j.val, hj⟩) else ∑ l : Fin 128, x0 (ix3 0 h l) * x3 (ix3 0 0 l)

/-- Lane `l` of the value at position `j`, the new one last. -/
def value (l : Fin 128) (j : Fin 129) : EReal :=
  if hj : j.val < 128 then x2 (ix3 0 l ⟨j.val, hj⟩) else x4 (ix3 0 0 l)

theorem score_old (h : Fin 16) (j : Fin 128) : score x0 x1 x3 h j.castSucc = ∑ l : Fin 128, x0 (ix3 0 h l) * x1 (ix3 0 l j) := by
  unfold score
  rw [dif_pos (show j.castSucc.val < 128 from j.isLt)]
  rfl

theorem score_new (h : Fin 16) : score x0 x1 x3 h (Fin.last 128) = ∑ l : Fin 128, x0 (ix3 0 h l) * x3 (ix3 0 0 l) := by
  unfold score
  rw [dif_neg (by simp)]

theorem value_old (l j : Fin 128) : value x2 x4 l j.castSucc = x2 (ix3 0 l j) := by
  unfold value
  rw [dif_pos (show j.castSucc.val < 128 from j.isLt)]
  rfl

theorem value_new (l : Fin 128) : value x2 x4 l (Fin.last 128) = x4 (ix3 0 0 l) := by
  unfold value
  rw [dif_neg (by simp)]

theorem pay7_apply (h : Fin 16) (j : Fin 128) : k0_pay7 x0 x1 (ix2 h j) = score x0 x1 x3 h j.castSucc := by
  rw [score_old]
  pointwise [k0_pay7, k0_pay3, k0_pay4]

theorem pay8_apply (h : Fin 16) : k0_pay8 x0 x3 (ix2 h 0) = score x0 x1 x3 h (Fin.last 128) := by
  rw [score_new]
  pointwise [k0_pay8, k0_pay3]

theorem pay9_apply (h : Fin 16) : k0_pay9 x7 x0 x1 x3 (ix2 h 0) = top (score x0 x1 x3 h) (x7 (ix2 h 0)) := by
  pointwise [k0_pay9, k0_pay2]
  rw [pay8_apply x0 x1 x3, ofBits_bot, top, ← fold_last]
  simp only [pay7_apply x0 x1 x3]

theorem pay10_apply (h : Fin 16) (j : Fin 128) :
    k0_pay10 x7 x0 x1 x3 (ix2 h j) = Ideal.exp (score x0 x1 x3 h j.castSucc - top (score x0 x1 x3 h) (x7 (ix2 h 0))) := by
  rw [← pay9_apply, ← pay7_apply]
  pointwise [k0_pay10]

theorem pay11_apply (h : Fin 16) :
    k0_pay11 x7 x0 x1 x3 (ix2 h 0) = Ideal.exp (score x0 x1 x3 h (Fin.last 128) - top (score x0 x1 x3 h) (x7 (ix2 h 0))) := by
  rw [← pay9_apply, ← pay8_apply]
  pointwise [k0_pay11]

theorem pay12_apply (h : Fin 16) : k0_pay12 x7 x0 x1 x3 (ix2 h 0) = den (score x0 x1 x3 h) (x7 (ix2 h 0)) := by
  rw [den, Fin.sum_univ_castSucc, ← pay11_apply, ← pay9_apply]
  simp only [← pay9_apply, ← pay7_apply x0 x1 x3]
  pointwise [k0_pay12, k0_pay10, k0_pay2]

theorem pay13_apply (h : Fin 16) (l : Fin 128) : k0_pay13 x7 x0 x1 x3 (ix2 h l) = den (score x0 x1 x3 h) (x7 (ix2 h 0)) := by
  rw [← pay12_apply]
  pointwise [k0_pay13]

theorem outcome_apply (h : Fin 16) (l : Fin 128) :
    outcome x7 x0 x1 x2 x3 x4 (ix2 h l) = attn (score x0 x1 x3 h) (value x2 x4 l) (x7 (ix2 h 0)) := by
  pointwise [outcome, k0_pay14, k0_pay5, k0_pay6]
  simp only [pay10_apply, pay11_apply, pay12_apply, pay13_apply]
  rw [attn, Fin.sum_univ_castSucc (n := 128), value_new]
  simp only [value_old]
  rw [mul_comm (x4 _)]
  exact congrArg (· + _) (Finset.sum_congr rfl fun j _ => mul_comm _ _)

/-- Whether a head belongs to a key head, as the kernel spells a floor division. -/
theorem low_word : ∀ h : Fin 16, (Scalar.select
    (IntOp.andi (IntOp.cmpi .ne (IntOp.subi (BitVec.setWidth 32 (IntOp.cmpi .sgt (BitVec.ofNat 32 h.val) 0#32)) (BitVec.setWidth 32 (IntOp.cmpi .slt (BitVec.ofNat 32 h.val) 0#32)))
      (Scalar.subi (Scalar.extui (Scalar.cmpi .sgt 8#32 0#32)) (Scalar.extui (Scalar.cmpi .slt 8#32 0#32))))
      (IntOp.cmpi .ne (IntOp.remsi .vector (BitVec.ofNat 32 h.val) 8#32) 0#32))
    (IntOp.subi (IntOp.divsi .vector (BitVec.ofNat 32 h.val) 8#32) 1#32) (IntOp.divsi .vector (BitVec.ofNat 32 h.val) 8#32)) = BitVec.ofNat 32 (h.val / 8) := by
  decide +kernel

theorem stored_apply (h : Fin 16) (d : Fin 64) :
    stored x7 x0 x1 x2 x3 x4 (ix3 0 h d) = attn (score x0 x1 x3 h) (value x2 x4 ⟨64 * (h.val / 8) + d.val, by omega⟩) (x7 (ix2 h 0)) := by
  rw [← outcome_apply]
  pointwise [stored, k0_pay18, k0_pay15, k0_pay16, k0_pay17]
  rw [low_word, select_eq_ite, select_eq_ite]
  rcases (by omega : h.val / 8 = 0 ∨ h.val / 8 = 1) with e | e
  · refine (if_neg (by rw [e]; decide)).trans ((if_pos (by rw [e]; decide)).trans ?_)
    exact congrArg (fun z => outcome x7 x0 x1 x2 x3 x4 (ix2 h z)) (Fin.ext (by dsimp only; omega))
  · refine (if_pos (by rw [e]; decide)).trans ?_
    exact congrArg (fun z => outcome x7 x0 x1 x2 x3 x4 (ix2 h z)) (Fin.ext (by dsimp only; omega))

end

end Cert.Kernel6Ideal.Step
-- ==== Proof.StepBlocks.lean ====
/-
  The blocks an instance of the sampling step's kernel is handed, read in the arguments.
-/
module

public import proofs.«01_k».proof.Proof.StepTile

@[expose] public section

set_option maxRecDepth 16384

noncomputable section

namespace Cert.Kernel6Ideal.Step

open Cert.Kernel6Ideal Cert.Kernel6Ideal.Gen Idealize.ShloMosaic Idealize.ShloMosaic.TcCoe Cert.Words Cert.Reals

theorem idx : ∀ t : Fin cfg0.N, t.val < 16 ∧ (grid0.coords t 0).val = t.val ∧ win0_0.index t = ![t.val, 0, 0] ∧ win0_1.index t = ![t.val, 0, 0]
    ∧ win0_2.index t = ![t.val, 0, 0] ∧ win0_3.index t = ![t.val, 0, 0] ∧ win0_4.index t = ![t.val, 0, 0] ∧ win0_5.index t = ![0, 0]
    ∧ win0_6.index t = ![0, 0] ∧ win0_7.index t = ![0, 0] ∧ win0_8.index t = ![t.val, 0, 0] ∧ win0_9.index t = ![t.val, 0, 0] ∧ win0_10.index t = ![t.val, 0, 0] :=
  (by decide +kernel : ∀ t : Fin grid0.N, _)

/-- The sample an instance handles `r`-th. -/
def row (t : Fin cfg0.N) (r : Fin 8) : Fin 128 := ⟨8 * t.val + r.val, by have := (idx t).1; omega⟩

variable (m : (ℓ : Loc nD τ sig) → Buf (Elt Ideal) ℓ) (c : Dev nD)

/-! The arguments by name. -/
abbrev argQ : FVec Ideal S128x1x16x64 .f32 := m (c, Proc.tc.devRef main_arg0)
abbrev argKn : FVec Ideal S128x1x2x64 .f32 := m (c, Proc.tc.devRef main_arg1)
abbrev argVn : FVec Ideal S128x1x2x64 .f32 := m (c, Proc.tc.devRef main_arg2)
abbrev argK : FVec Ideal S128x128x2x64 .f32 := m (c, Proc.tc.devRef main_arg3)
abbrev argV : FVec Ideal S128x128x2x64 .f32 := m (c, Proc.tc.devRef main_arg4)
abbrev argS : FVec Ideal S1x16 .f32 := m (c, Proc.tc.devRef main_arg5)

theorem k_at (t : Fin cfg0.N) (r : Fin 8) (f p : Fin 128) :
    iblk m c 1 t (ix3 r f p) = argK m c (ix4 (row t r) p ⟨f.val / 64, by omega⟩ ⟨f.val % 64, by omega⟩) := by
  have e : ((View.whole main_v20).slice (win0_1.rect t)).emb (ix3 r f p) = ix3 (row t r) f p := by blk_ext [iblk, V, idx t, row]
  blk_simp [iblk]
  unfold V
  simp only [hostOps0, hostOps0_1, hostOps0_2, List.flatten_cons, List.flatten_nil, List.append_nil, List.cons_append, List.nil_append]
  entry_read
  rw [e]
  pointwise

theorem v_at (t : Fin cfg0.N) (r : Fin 8) (f p : Fin 128) :
    iblk m c 2 t (ix3 r f p) = argV m c (ix4 (row t r) p ⟨f.val / 64, by omega⟩ ⟨f.val % 64, by omega⟩) := by
  have e : ((View.whole main_v22).slice (win0_2.rect t)).emb (ix3 r f p) = ix3 (row t r) f p := by blk_ext [iblk, V, idx t, row]
  blk_simp [iblk]
  unfold V
  simp only [hostOps0, hostOps0_1, hostOps0_2, List.flatten_cons, List.flatten_nil, List.append_nil, List.cons_append, List.nil_append]
  entry_read
  rw [e]
  pointwise

theorem kn_at (t : Fin cfg0.N) (r : Fin 8) (f : Fin 128) :
    iblk m c 3 t (ix3 r 0 f) = argKn m c (ix4 (row t r) 0 ⟨f.val / 64, by omega⟩ ⟨f.val % 64, by omega⟩) := by
  have e : ((View.whole main_v29).slice (win0_3.rect t)).emb (ix3 r 0 f) = ix3 (row t r) 0 f := by blk_ext [iblk, V, idx t, row]
  blk_simp [iblk]
  unfold V
  simp only [hostOps0, hostOps0_1, hostOps0_2, List.flatten_cons, List.flatten_nil, List.append_nil, List.cons_append, List.nil_append]
  entry_read
  rw [e]
  pointwise

theorem vn_at (t : Fin cfg0.N) (r : Fin 8) (f : Fin 128) :
    iblk m c 4 t (ix3 r 0 f) = argVn m c (ix4 (row t r) 0 ⟨f.val / 64, by omega⟩ ⟨f.val % 64, by omega⟩) := by
  have e : ((View.whole main_v30).slice (win0_4.rect t)).emb (ix3 r 0 f) = ix3 (row t r) 0 f := by blk_ext [iblk, V, idx t, row]
  blk_simp [iblk]
  unfold V
  simp only [hostOps0, hostOps0_1, hostOps0_2, List.flatten_cons, List.flatten_nil, List.append_nil, List.cons_append, List.nil_append]
  entry_read
  rw [e]
  pointwise

theorem knt_at (t : Fin cfg0.N) (f n : Fin 128) :
    iblk m c 5 t (ix2 f n) = argKn m c (ix4 n 0 ⟨f.val / 64, by omega⟩ ⟨f.val % 64, by omega⟩) := by
  have e : ((View.whole main_v27).slice (win0_5.rect t)).emb (ix2 f n) = ix2 f n := by blk_ext [iblk, V, idx t]
  blk_simp [iblk]
  unfold V
  simp only [hostOps0, hostOps0_1, hostOps0_2, List.flatten_cons, List.flatten_nil, List.append_nil, List.cons_append, List.nil_append]
  entry_read
  rw [e]
  pointwise

theorem vnt_at (t : Fin cfg0.N) (f n : Fin 128) :
    iblk m c 6 t (ix2 f n) = argVn m c (ix4 n 0 ⟨f.val / 64, by omega⟩ ⟨f.val % 64, by omega⟩) := by
  have e : ((View.whole main_v28).slice (win0_6.rect t)).emb (ix2 f n) = ix2 f n := by blk_ext [iblk, V, idx t]
  blk_simp [iblk]
  unfold V
  simp only [hostOps0, hostOps0_1, hostOps0_2, List.flatten_cons, List.flatten_nil, List.append_nil, List.cons_append, List.nil_append]
  entry_read
  rw [e]
  pointwise

theorem s_at (t : Fin cfg0.N) (h : Fin 16) : iblk m c 7 t (ix2 h 0) = argS m c (ix2 0 h) := by
  have e : ((View.whole main_v26).slice (win0_7.rect t)).emb (ix2 h 0) = ix2 h 0 := by blk_ext [iblk, V, idx t]
  blk_simp [iblk]
  unfold V
  simp only [hostOps0, hostOps0_1, hostOps0_2, List.flatten_cons, List.flatten_nil, List.append_nil, List.cons_append, List.nil_append]
  entry_read
  rw [e]
  pointwise

end Cert.Kernel6Ideal.Step
-- ==== Proof.StepQuery.lean ====
/-
  The queries an instance of the sampling step's kernel is handed: each head in the lanes of its own key head, the rest zero.
-/
module

public import proofs.«01_k».proof.Proof.StepBlocks

@[expose] public section

set_option maxRecDepth 16384

noncomputable section

namespace Cert.Kernel6Ideal.Step

open Cert.Kernel6Ideal Cert.Kernel6Ideal.Gen Idealize.ShloMosaic Idealize.ShloMosaic.TcCoe Cert.Words Cert.Reals

/-- A whole number by 8, rounded down, as the host computes it. -/
def by8 (x : IVec S16x1 32) : IVec S16x1 32 :=
  select (andi (cmpi .ne (signi x) (broadcastInDim S16x1 ![] bcast_S_S16x1 (signi (constantI S_ 32 8#32))))
      (cmpi .ne (Host.remsi x (broadcastInDim S16x1 ![] bcast_S_S16x1 (constantI S_ 32 8#32))) (broadcastInDim S16x1 ![] bcast_S_S16x1 (constantI S_ 32 0#32))))
    (subi (Host.divsi x (broadcastInDim S16x1 ![] bcast_S_S16x1 (constantI S_ 32 8#32))) (broadcastInDim S16x1 ![] bcast_S_S16x1 (constantI S_ 32 1#32)))
    (Host.divsi x (broadcastInDim S16x1 ![] bcast_S_S16x1 (constantI S_ 32 8#32)))

/-- The same of one word. -/
def word8 (x : BitVec 32) : BitVec 32 :=
  Scalar.select (IntOp.andi (IntOp.cmpi .ne (if x = 0 then 0 else if x.msb = true then -1 else 1 : BitVec 32) (if 8#32 = 0 then 0 else if (8#32).msb = true then -1 else 1 : BitVec 32))
      (IntOp.cmpi .ne (IntOp.remsi ArithUnit.host x 8#32) 0#32))
    (IntOp.subi (IntOp.divsi ArithUnit.host x 8#32) 1#32) (IntOp.divsi ArithUnit.host x 8#32)

theorem word8_eq : ∀ r : Fin 16, word8 (BitVec.ofNat 32 r.val) = BitVec.ofNat 32 (r.val / 8) := by decide +kernel

theorem eq_word : ∀ a b : Fin 2, IntOp.cmpi .eq (BitVec.ofNat 32 a.val) (BitVec.ofNat 32 b.val) = if a.val = b.val then 1#1 else 0#1 := by decide

/-- The queries as the host hands them on. -/
def rows (q : FVec Ideal S128x1x16x64 .f32) : FVec Ideal S128x16x128 .bf16 :=
  shapeCast S128x16x128 (mulf
    (broadcastInDim S128x16x2x64 ![0, 1, 2, 3] bcast_S128x16x1x64_S128x16x2x64_0_1_2_3
      (shapeCast S128x16x1x64 (truncf .bf16 (mulf (shapeCast S128x1024 q shapeCasts_S128x1x16x64_S128x1024 : FVec Ideal S128x1024 .f32)
        (broadcastInDim S128x1024 ![] bcast_S_S128x1024 (constant (F := Ideal) S_ .f32 0x3E000000#32))) bitsLt_bf16_f32 : FVec Ideal S128x1024 .bf16) shapeCasts_S128x1024_S128x16x1x64 : FVec Ideal S128x16x1x64 .bf16))
    (broadcastInDim S128x16x2x64 ![0, 1, 2, 3] bcast_S1x16x2x1_S128x16x2x64_0_1_2_3
      (broadcastInDim S1x16x2x1 ![1, 2] bcast_S16x2_S1x16x2x1_1_2 (uitofp (F := Ideal) .bf16 (cmpi .eq
        (broadcastInDim S16x2 ![0, 1] bcast_S16x1_S16x2_0_1 (by8 (broadcastInDim S16x1 ![0] bcast_S16_S16x1_0 (iotaInDim S16 32 0))))
        (broadcastInDim S16x2 ![0, 1] bcast_S1x2_S16x2_0_1 (broadcastInDim S1x2 ![1] bcast_S2_S1x2_1 (iotaInDim S2 32 0)))))))
    : FVec Ideal S128x16x2x64 .bf16) shapeCasts_S128x16x2x64_S128x16x128

theorem rows_apply (q : FVec Ideal S128x1x16x64 .f32) (b : Fin 128) (h : Fin 16) (l : Fin 128) :
    rows q (ix3 b h l) = q (ix4 b 0 h ⟨l.val % 64, by omega⟩) * Ideal.ofBits .f32 0x3E000000#32 * (if h.val / 8 = l.val / 64 then 1 else 0) := by
  pointwise [rows, by8]
  change _ * FloatOps.uitofp (F := Ideal) .bf16 (IntOp.cmpi .eq (word8 (BitVec.ofNat 32 h.val)) (BitVec.ofNat 32 (l.val / 64))) = _
  rw [word8_eq, eq_word ⟨h.val / 8, by omega⟩ ⟨l.val / 64, by omega⟩]
  split
  · simp [FloatOps.uitofp]
  · simp [FloatOps.uitofp]

variable (m : (ℓ : Loc nD τ sig) → Buf (Elt Ideal) ℓ) (c : Dev nD)

theorem q_at (t : Fin cfg0.N) (r : Fin 8) (h : Fin 16) (l : Fin 128) :
    iblk m c 0 t (ix3 r h l) = argQ m c (ix4 (row t r) 0 h ⟨l.val % 64, by omega⟩) * Ideal.ofBits .f32 0x3E000000#32
      * (if h.val / 8 = l.val / 64 then 1 else 0) := by
  have e : ((View.whole main_v18).slice (win0_0.rect t)).emb (ix3 r h l) = ix3 (row t r) h l := by blk_ext [iblk, V, idx t, row]
  blk_simp [iblk]
  unfold V
  simp only [hostOps0, hostOps0_1, hostOps0_2, List.flatten_cons, List.flatten_nil, List.append_nil, List.cons_append, List.nil_append]
  entry_read
  rw [e]
  change rows (argQ m c) (ix3 (row t r) h l) = _
  exact rows_apply _ _ _ _

end Cert.Kernel6Ideal.Step
-- ==== Proof.StepRef.lean ====
/-
  The reference of one sampling step of the sliding-window layer in stages, and each stage at an index: the buffered keys
  with the new one behind them, the scores, their softmax with the sink, the mixture of values, and the buffers moved on.
-/
module

public import proofs.«01_k».proof.Proof.Gen.Reference6Ideal.Run
public import Idealize.ShloMosaic.Lib.Pipeline.ValueKit
public import Idealize.ShloMosaic.Lib.Pointwise
public import proofs.«01_k».proof.Proof.Words
public import proofs.«01_k».proof.Proof.Reals

@[expose] public section

set_option maxRecDepth 16384

noncomputable section

namespace Cert.Reference6Ideal.Step

open Cert.Reference6Ideal Cert.Reference6Ideal.Gen Idealize.ShloMosaic Idealize.ShloMosaic.TcCoe Idealize.ShloMosaic.StableHlo Cert.Words Cert.Reals

/-- The buffered positions with the new one behind them. -/
def grown (buf : FVec Ideal S128x128x2x64 .f32) (new : FVec Ideal S128x1x2x64 .f32) : FVec Ideal S128x129x2x64 .f32 :=
  concatenate S128x129x2x64 1 [⟨S128x128x2x64, buf⟩, ⟨S128x1x2x64, new⟩] concatenates_S128x128x2x64_S128x1x2x64_S128x129x2x64_d1

/-- The last 128 positions as columns. -/
def columns (kk : FVec Ideal S128x129x2x64 .f32) : FVec Ideal S128x128x128 .f32 :=
  transpose S128x128x128 [0, 2, 1] (shapeCast _ (extractStridedSlice S128x128x2x64 ![0, 1, 0, 0] kk slices_S128x129x2x64_S128x128x2x64_0_1_0_0) shapeCasts_S128x128x2x64_S128x128x128 : FVec Ideal S128x128x128 .f32) transposes_S128x128x128_S128x128x128_0_2_1

/-- How far behind the query each position lies. -/
def behind : IVec S1x129 32 :=
  subi (broadcastInDim S1x129 ![0, 1] bcast_S1x1_S1x129_0_1 (broadcastInDim S1x1 ![0] bcast_S1_S1x1_0 (addi (broadcastInDim S1 ![] bcast_S_S1 (constantI S_ 32 16384#32)) (iotaInDim S1 32 0))))
    (broadcastInDim S1x129 ![1] bcast_S129_S1x129_1 (addi (broadcastInDim S129 ![] bcast_S_S129 (constantI S_ 32 16256#32)) (iotaInDim S129 32 0)))

/-- Which positions the query sees. -/
def seen : IVec S1x129 1 :=
  andi (cmpi .sge behind (broadcastInDim S1x129 ![] bcast_S_S1x129 (constantI S_ 32 0#32))) (cmpi .sle behind (broadcastInDim S1x129 ![] bcast_S_S1x129 (constantI S_ 32 128#32)))

/-- The scores. -/
def scores (q : FVec Ideal S128x1x16x64 .f32) (kk : FVec Ideal S128x129x2x64 .f32) : FVec Ideal S128x2x8x1x129 .f32 :=
  select (broadcastInDim S128x2x8x1x129 ![3, 4] bcast_S1x129_S128x2x8x1x129_3_4 seen)
    (mulf (transpose S128x2x8x1x129 [0, 1, 4, 3, 2]
        (Host.dotGeneral (φ₁ := .f32) (φ₂ := .f32) (F := Ideal) dot_S128x129x2x64_S128x1x2x8x64_S128x2x129x1x8_3_4_1_13_02_02 none kk
          (shapeCast _ q shapeCasts_S128x1x16x64_S128x1x2x8x64 : FVec Ideal S128x1x2x8x64 .f32))
        transposes_S128x2x129x1x8_S128x2x8x1x129_0_1_4_3_2)
      (broadcastInDim S128x2x8x1x129 ![] bcast_S_S128x2x8x1x129 (constant (F := Ideal) S_ .f32 0x3E000000#32)))
    (broadcastInDim S128x2x8x1x129 ![] bcast_S_S128x2x8x1x129 (id (constant (F := Ideal) S_ .f32 0xF149F2CA#32)))

/-- The sink scores, one per head. -/
def sinks (s : FVec Ideal S1x16 .f32) : FVec Ideal S2x8x1x1 .f32 :=
  shapeCast _ (shapeCast _ s shapeCasts_S1x16_S16 : FVec Ideal S16 .f32) shapeCasts_S16_S2x8x1x1

/-- The greatest of a query's scores. -/
def rowMax (sc : FVec Ideal S128x2x8x1x129 .f32) : FVec Ideal S128x2x8x1 .f32 :=
  Host.reduce (FloatOps.maximumf (F := Ideal)) sc (constant (F := Ideal) S_ .f32 0xFF800000#32) reducesTo_S128x2x8x1x129_S128x2x8x1_d4 h_S_

/-- The sum over a query's scores. -/
def rowSum (x : FVec Ideal S128x2x8x1x129 .f32) : FVec Ideal S128x2x8x1 .f32 :=
  Host.reduceAdd x (constant (F := Ideal) S_ .f32 0x00000000#32) reducesTo_S128x2x8x1x129_S128x2x8x1_d4 h_S_

/-- The greatest of a query's scores and its head's sink. -/
def peak (sc : FVec Ideal S128x2x8x1x129 .f32) (sk : FVec Ideal S2x8x1x1 .f32) : FVec Ideal S128x2x8x1x1 .f32 :=
  maximumf (broadcastInDim S128x2x8x1x1 ![0, 1, 2, 3] bcast_S128x2x8x1_S128x2x8x1x1_0_1_2_3 (rowMax sc))
    (broadcastInDim S128x2x8x1x1 ![0, 1, 2, 3, 4] bcast_S1x2x8x1x1_S128x2x8x1x1_0_1_2_3_4
      (broadcastInDim S1x2x8x1x1 ![1, 2, 3, 4] bcast_S2x8x1x1_S1x2x8x1x1_1_2_3_4 sk))

/-- The numerators of the softmax. -/
def lifted (sc : FVec Ideal S128x2x8x1x129 .f32) (mx : FVec Ideal S128x2x8x1x1 .f32) : FVec Ideal S128x2x8x1x129 .f32 :=
  Host.exp (subf sc (broadcastInDim S128x2x8x1x129 ![0, 1, 2, 3, 4] bcast_S128x2x8x1x1_S128x2x8x1x129_0_1_2_3_4 mx))

/-- The softmax with the sink in its denominator. -/
def probs (sc : FVec Ideal S128x2x8x1x129 .f32) (sk : FVec Ideal S2x8x1x1 .f32) : FVec Ideal S128x2x8x1x129 .f32 :=
  Host.divf (lifted sc (peak sc sk)) (broadcastInDim S128x2x8x1x129 ![0, 1, 2, 3, 4] bcast_S128x2x8x1x1_S128x2x8x1x129_0_1_2_3_4
    (addf (broadcastInDim S128x2x8x1x1 ![0, 1, 2, 3] bcast_S128x2x8x1_S128x2x8x1x1_0_1_2_3 (rowSum (lifted sc (peak sc sk))))
      (Host.exp (subf (broadcastInDim S128x2x8x1x1 ![0, 1, 2, 3, 4] bcast_S1x2x8x1x1_S128x2x8x1x1_0_1_2_3_4
        (broadcastInDim S1x2x8x1x1 ![1, 2, 3, 4] bcast_S2x8x1x1_S1x2x8x1x1_1_2_3_4 sk)) (peak sc sk)))))

/-- The values mixed by the probabilities. -/
def mixed (vv : FVec Ideal S128x129x2x64 .f32) (p : FVec Ideal S128x2x8x1x129 .f32) : FVec Ideal S128x16x64 .f32 :=
  shapeCast _ (transpose S128x1x2x8x64 [0, 4, 1, 3, 2]
    (Host.dotGeneral (φ₁ := .f32) (φ₂ := .f32) (F := Ideal) dot_S128x129x2x64_S128x2x8x1x129_S128x2x64x8x1_1_4_3_23_02_01 none vv p)
    transposes_S128x2x64x8x1_S128x1x2x8x64_0_4_1_3_2) shapeCasts_S128x1x2x8x64_S128x16x64

/-- The result is the stages in order. -/
theorem res_eq (m : (ℓ : Loc nD τ sig) → Buf (Elt Ideal) ℓ) (c : Dev nD) :
    Value.res_out0 (F := Ideal) m c = mixed (grown (m ((c.tc : Thread nD τ).loc main_arg4)) (m ((c.tc : Thread nD τ).loc main_arg2)))
      (probs (scores (m ((c.tc : Thread nD τ).loc main_arg0)) (grown (m ((c.tc : Thread nD τ).loc main_arg3)) (m ((c.tc : Thread nD τ).loc main_arg1))))
        (sinks (m ((c.tc : Thread nD τ).loc main_arg5)))) := by
  unfold mixed probs lifted peak rowMax rowSum sinks scores seen behind grown
  rfl

theorem grown_apply (buf : FVec Ideal S128x128x2x64 .f32) (new : FVec Ideal S128x1x2x64 .f32) (b : Fin 128) (j : Fin 129) (c : Fin 2) (d : Fin 64) :
    grown buf new (ix4 b j c d) = if h : j.val < 128 then buf (ix4 b ⟨j.val, h⟩ c d) else new (ix4 b 0 c d) := by
  pointwise [grown]
  by_cases h : j.val < 128
  · rw [dif_pos h, dif_pos h]
  · rw [dif_neg h, dif_neg h]
    exact congrArg (fun x => new (ix4 b x c d)) (Fin.ext (by dsimp only; omega))

theorem columns_apply (kk : FVec Ideal S128x129x2x64 .f32) (b f p : Fin 128) :
    columns kk (ix3 b f p) = kk (ix4 b ⟨p.val + 1, by omega⟩ ⟨f.val / 64, by omega⟩ ⟨f.val % 64, by omega⟩) := by
  pointwise [columns]
  exact congrArg (fun x => kk (ix4 b x _ _)) (Fin.ext (by dsimp only; omega))

theorem seen_apply (j : Fin 129) : seen (ix2 0 j) = 1#1 := by
  pointwise [seen, behind]
  revert j
  decide +kernel

theorem scores_apply (q : FVec Ideal S128x1x16x64 .f32) (kk : FVec Ideal S128x129x2x64 .f32) (b : Fin 128) (c : Fin 2) (g : Fin 8) (j : Fin 129) :
    scores q kk (ix5 b c g 0 j) = (∑ x : Fin 64, kk (ix4 b j c x) * q (ix4 b 0 ⟨c.val * 8 + g.val, by omega⟩ x)) * Ideal.ofBits .f32 0x3E000000#32 := by
  pointwise [scores]
  rw [select_eq_ite]
  exact if_pos (seen_apply j)

theorem reduces_last : S128x2x8x1x129.Reduces [4] S128x2x8x1 := by decide

theorem lift_last (b : Fin 128) (c : Fin 2) (g : Fin 8) (j : Fin 129) :
    reduces_last.lift (ix4 b c g 0) j = ix5 b c g 0 j := by
  funext a; apply Fin.ext
  fin_cases a <;> rfl

theorem rowMax_apply (sc : FVec Ideal S128x2x8x1x129 .f32) (b : Fin 128) (c : Fin 2) (g : Fin 8) :
    rowMax sc (ix4 b c g 0) = Finset.univ.fold max ⊥ (fun j : Fin 129 => sc (ix5 b c g 0 j)) := by
  unfold rowMax
  refine (Host.reduce_eq_fold_single (max : EReal → EReal → EReal) sc _ reducesTo_S128x2x8x1x129_S128x2x8x1_d4 reduces_last h_S_ (ix4 b c g 0)).trans ?_
  rw [show (constant (F := Ideal) S_ .f32 0xFF800000#32) (Shape.Idx.first h_S_) = ⊥ from ofBits_bot]
  exact congrArg (Finset.univ.fold max ⊥) (funext fun j => congrArg sc (lift_last b c g j))

theorem rowSum_apply (x : FVec Ideal S128x2x8x1x129 .f32) (b : Fin 128) (c : Fin 2) (g : Fin 8) :
    rowSum x (ix4 b c g 0) = ∑ j : Fin 129, x (ix5 b c g 0 j) := by
  unfold rowSum
  refine (Ideal.hostReduceAdd_single reducesTo_S128x2x8x1x129_S128x2x8x1_d4 reduces_last x _ (ix4 b c g 0)).trans ?_
  rw [show (constant (F := Ideal) S_ .f32 0x00000000#32) (Shape.Idx.first h_S_) = 0 by simp [constant, FloatOps.ofBits, Ideal.ofBits, Ideal.ieee], zero_add]
  exact Finset.sum_congr rfl fun j _ => congrArg x (lift_last b c g j)

/-- One number per query, as a column. -/
theorem column_apply (x : FVec Ideal S128x2x8x1 .f32) (b : Fin 128) (c : Fin 2) (g : Fin 8) :
    broadcastInDim S128x2x8x1x1 ![0, 1, 2, 3] bcast_S128x2x8x1_S128x2x8x1x1_0_1_2_3 x (ix5 b c g 0 0) = x (ix4 b c g 0) := by
  unfold broadcastInDim
  refine congrArg x ?_
  funext a; apply Fin.ext
  fin_cases a <;> rfl

/-- A column, at every key. -/
theorem spread_apply (x : FVec Ideal S128x2x8x1x1 .f32) (b : Fin 128) (c : Fin 2) (g : Fin 8) (j : Fin 129) :
    broadcastInDim S128x2x8x1x129 ![0, 1, 2, 3, 4] bcast_S128x2x8x1x1_S128x2x8x1x129_0_1_2_3_4 x (ix5 b c g 0 j) = x (ix5 b c g 0 0) := by
  unfold broadcastInDim
  refine congrArg x ?_
  funext a; apply Fin.ext
  fin_cases a <;> rfl

/-- One number per head, at every query. -/
theorem heads_apply (x : FVec Ideal S2x8x1x1 .f32) (b : Fin 128) (c : Fin 2) (g : Fin 8) :
    broadcastInDim S128x2x8x1x1 ![0, 1, 2, 3, 4] bcast_S1x2x8x1x1_S128x2x8x1x1_0_1_2_3_4
        (broadcastInDim S1x2x8x1x1 ![1, 2, 3, 4] bcast_S2x8x1x1_S1x2x8x1x1_1_2_3_4 x) (ix5 b c g 0 0) = x (ix4 c g 0 0) := by
  unfold broadcastInDim
  refine congrArg x ?_
  funext a; apply Fin.ext
  fin_cases a <;> rfl

theorem maximumf_apply {s : Shape} (x y : FVec Ideal s .f32) (i : s.Idx) : maximumf x y i = max (x i) (y i) := rfl

theorem peak_apply (sc : FVec Ideal S128x2x8x1x129 .f32) (sk : FVec Ideal S2x8x1x1 .f32) (b : Fin 128) (c : Fin 2) (g : Fin 8) :
    peak sc sk (ix5 b c g 0 0) = top (fun j : Fin 129 => sc (ix5 b c g 0 j)) (sk (ix4 c g 0 0)) := by
  rw [peak, maximumf_apply, column_apply, rowMax_apply, heads_apply, top]

theorem hostExp_apply {s : Shape} (x : FVec Ideal s .f32) (i : s.Idx) : Host.exp x i = Ideal.exp (x i) := rfl

theorem subf_apply {s : Shape} (x y : FVec Ideal s .f32) (i : s.Idx) : subf x y i = x i - y i := rfl

theorem addf_apply {s : Shape} (x y : FVec Ideal s .f32) (i : s.Idx) : addf x y i = x i + y i := rfl

theorem hostDivf_apply {s : Shape} (x y : FVec Ideal s .f32) (i : s.Idx) : Host.divf x y i = Ideal.div (x i) (y i) := rfl

theorem lifted_apply (sc : FVec Ideal S128x2x8x1x129 .f32) (mx : FVec Ideal S128x2x8x1x1 .f32) (b : Fin 128) (c : Fin 2) (g : Fin 8) (j : Fin 129) :
    lifted sc mx (ix5 b c g 0 j) = Ideal.exp (sc (ix5 b c g 0 j) - mx (ix5 b c g 0 0)) := by
  rw [lifted, hostExp_apply, subf_apply, spread_apply]

theorem probs_apply (sc : FVec Ideal S128x2x8x1x129 .f32) (sk : FVec Ideal S2x8x1x1 .f32) (b : Fin 128) (c : Fin 2) (g : Fin 8) (j : Fin 129) :
    probs sc sk (ix5 b c g 0 j) = Ideal.div (Ideal.exp (sc (ix5 b c g 0 j) - top (fun j : Fin 129 => sc (ix5 b c g 0 j)) (sk (ix4 c g 0 0))))
      (den (fun j : Fin 129 => sc (ix5 b c g 0 j)) (sk (ix4 c g 0 0))) := by
  rw [probs, hostDivf_apply, spread_apply, addf_apply, column_apply, rowSum_apply, hostExp_apply, subf_apply, heads_apply, den]
  simp only [lifted_apply, peak_apply]

theorem sinks_apply (x : FVec Ideal S1x16 .f32) (c : Fin 2) (g : Fin 8) :
    sinks x (ix4 c g 0 0) = x (ix2 0 ⟨c.val * 8 + g.val, by omega⟩) := by
  pointwise [sinks]

theorem mixed_apply (vv : FVec Ideal S128x129x2x64 .f32) (sc : FVec Ideal S128x2x8x1x129 .f32) (sk : FVec Ideal S2x8x1x1 .f32) (b : Fin 128) (h : Fin 16) (d : Fin 64) :
    mixed vv (probs sc sk) (ix3 b h d) = attn
      (fun j : Fin 129 => sc (ix5 b ⟨h.val / 8, by omega⟩ ⟨h.val % 8, by omega⟩ 0 j))
      (fun j : Fin 129 => vv (ix4 b j ⟨h.val / 8, by omega⟩ d))
      (sk (ix4 ⟨h.val / 8, by omega⟩ ⟨h.val % 8, by omega⟩ 0 0)) := by
  pointwise [mixed]
  simp only [probs_apply]
  rfl

end Cert.Reference6Ideal.Step
-- ==== Proof.StepColumns.lean ====
/-
  The buffers of keys and values the sampling step's kernel leaves are the reference's.
-/
module

public import proofs.«01_k».proof.Proof.StepBlocks
public import Idealize.ShloMosaic.Lib.Pipeline.ReadBack
public import proofs.«01_k».proof.Proof.StepRef

@[expose] public section

set_option maxRecDepth 16384

noncomputable section

namespace Cert.Kernel6Ideal.Step

open Cert.Kernel6Ideal Cert.Kernel6Ideal.Gen Idealize.ShloMosaic Idealize.ShloMosaic.TcCoe Cert.Words Cert.Reals
open Cert.Reference6Ideal.Step (grown columns columns_apply grown_apply)

variable (m : (ℓ : Loc nD τ sig) → Buf (Elt Ideal) ℓ) (c : Dev nD)

theorem inb_col (k : Fin 8) : ∀ a, (![k.val, 0, 0] : Fin 3 → ℕ) a + S1x128x128.size a ≤ S8x128x128.size a := by
  revert k; decide

/-- Sample `k` of the eight of a block of buffers. -/
abbrev rectCol (k : Fin 8) : Rect S8x128x128 := Rect.unit (s := S8x128x128) ![k.val, 0, 0] S1x128x128.size (inb_col k)

theorem ld_col (x : Vec Ideal S8x128x128 .f32) (k : Fin 8) (f p : Fin 128) :
    (View.ld x (rectCol k) : Vec Ideal S1x128x128 .f32) (ix3 0 f p) = x (ix3 k f p) := by
  refine congrArg x (funext fun a => ?_)
  fin_cases a
  · exact Fin.ext (by show k.val + 1 * 0 = k.val; omega)
  · exact Fin.ext (by show 0 + 1 * f.val = f.val; omega)
  · exact Fin.ext (by show 0 + 1 * p.val = p.val; omega)

/-- The number of sample `k` of an instance, as the kernel computes it. -/
abbrev word (t : Fin cfg0.N) (k : Fin 8) : BitVec 32 :=
  Scalar.addi (Scalar.muli (BitVec.ofNat 32 (grid0.coords t 0).val) 8#32) (BitVec.ofNat 32 k.val)

theorem word_nat : ∀ (n : Fin 16) (k : Fin 8), Scalar.addi (Scalar.muli (BitVec.ofNat 32 n.val) 8#32) (BitVec.ofNat 32 k.val) = BitVec.ofNat 32 (8 * n.val + k.val) := by
  decide +kernel

theorem word_eq (t : Fin cfg0.N) (k : Fin 8) : word t k = BitVec.ofNat 32 (row t k).val := by
  unfold word
  rw [(idx t).2.1]
  exact word_nat ⟨t.val, (idx t).1⟩ k

theorem moved_columns (t : Fin cfg0.N) (k : Fin 8) (x : Vec Ideal S8x128x128 .f32) (y : Vec Ideal S128x128 .f32)
    (buf : FVec Ideal S128x128x2x64 .f32) (new : FVec Ideal S128x1x2x64 .f32)
    (hx : ∀ f p : Fin 128, x (ix3 k f p) = buf (ix4 (row t k) p ⟨f.val / 64, by omega⟩ ⟨f.val % 64, by omega⟩))
    (hy : ∀ f n : Fin 128, y (ix2 f n) = new (ix4 n 0 ⟨f.val / 64, by omega⟩ ⟨f.val % 64, by omega⟩)) (f p : Fin 128) :
    moved (word t k) (View.ld x (rectCol k)) y (ix3 0 f p) = columns (grown buf new) (ix3 (row t k) f p) := by
  rw [word_eq, moved_apply, columns_apply, grown_apply]
  by_cases h : p = 127
  · rw [if_pos h, dif_neg (by rw [h]; decide), hy]
  · have hp : p.val + 1 < 128 := by
      have : p.val ≠ 127 := fun hh => h (Fin.ext hh)
      omega
    rw [if_neg h, dif_pos hp, ld_col, hx]
    exact congrArg (fun z => buf (ix4 (row t k) z ⟨f.val / 64, by omega⟩ ⟨f.val % 64, by omega⟩)) (Fin.ext (by dsimp only; omega))

/-- An instance's block of the columns. -/
def blockCol (kk : FVec Ideal Cert.Reference6Ideal.S128x129x2x64 .f32) (t : Fin cfg0.N) : FVec Ideal S8x128x128 .f32 :=
  fun z => columns kk (ix3 (row t (z 0)) (z 1) (z 2))

theorem col_piece (t : Fin cfg0.N) (k : Fin 8) (x : Vec Ideal S8x128x128 .f32) (y : Vec Ideal S128x128 .f32)
    (buf : FVec Ideal S128x128x2x64 .f32) (new : FVec Ideal S128x1x2x64 .f32)
    (hx : ∀ f p : Fin 128, x (ix3 k f p) = buf (ix4 (row t k) p ⟨f.val / 64, by omega⟩ ⟨f.val % 64, by omega⟩))
    (hy : ∀ f n : Fin 128, y (ix2 f n) = new (ix4 n 0 ⟨f.val / 64, by omega⟩ ⟨f.val % 64, by omega⟩)) (z : (rectCol k).shape.Idx) :
    moved (word t k) (View.ld x (rectCol k)) y z = blockCol (grown buf new) t ((rectCol k).emb z) := by
  have h0 : (z 0).val < 1 := (z 0).isLt
  have h1 : (z 1).val < 128 := (z 1).isLt
  have h2 : (z 2).val < 128 := (z 2).isLt
  have hz : z = ix3 (0 : Fin 1) (⟨(z 1).val, h1⟩ : Fin 128) (⟨(z 2).val, h2⟩ : Fin 128) := by
    funext a; fin_cases a
    · exact Fin.ext (by show (z 0).val = 0; omega)
    · rfl
    · rfl
  have e0 : ((rectCol k).emb z 0).val = k.val := by show k.val + 1 * (z 0).val = _; omega
  have e1 : ((rectCol k).emb z 1).val = (z 1).val := by show 0 + 1 * (z 1).val = _; omega
  have e2 : ((rectCol k).emb z 2).val = (z 2).val := by show 0 + 1 * (z 2).val = _; omega
  refine (congrArg (moved (word t k) (View.ld x (rectCol k)) y) hz).trans ((moved_columns t k x y buf new hx hy _ _).trans ?_)
  unfold blockCol
  exact congrArg (columns (grown buf new)) (congr (congr (congrArg ix3 (congrArg (row t) (Fin.ext e0.symm))) (Fin.ext e1.symm)) (Fin.ext e2.symm))

theorem final9 : (dats m 0 c).arrAt 9 cfg0.N = columns (grown (argK m c) (argKn m c)) := by
  refine (dats m 0 c).arrAt_eq_of_covers 9 _ (by decide +kernel) fun t _ y => ?_
  blk_simp
  rw [after0_9]
  unfold_out out0_9
  frame_out
  have p := fun k => col_piece t k (iblk m c 1 t) (iblk m c 5 t) (argK m c) (argKn m c) (k_at m c t k) (knt_at m c t)
  refine (View.canon_apply_of_pieces (blockCol (grown (argK m c) (argKn m c)) t) _ (View.PiecesOf.mem ?_) y (View.cover_of_tiledL _ ![1, 128, 128] (by sl_kernel_rfl) y)).trans ?_
  · exact ⟨p 7, p 6, p 5, p 4, p 3, p 2, p 1, p 0, trivial⟩
  · obtain ⟨a, f, p, rfl⟩ : ∃ (a : Fin 8) (b : Fin 128) (d : Fin 128), y = ix3 a b d := ⟨y 0, y 1, y 2, (ix3_eta y).symm⟩
    have e : ((View.whole main_v31_1).slice (win0_9.rect t)).emb (ix3 a f p) = ix3 (row t a) f p := by blk_ext [iblk, V, idx t, row]
    rw [e]
    rfl

theorem final10 : (dats m 0 c).arrAt 10 cfg0.N = columns (grown (argV m c) (argVn m c)) := by
  refine (dats m 0 c).arrAt_eq_of_covers 10 _ (by decide +kernel) fun t _ y => ?_
  blk_simp
  rw [after0_10]
  unfold_out out0_10
  frame_out
  have p := fun k => col_piece t k (iblk m c 2 t) (iblk m c 6 t) (argV m c) (argVn m c) (v_at m c t k) (vnt_at m c t)
  refine (View.canon_apply_of_pieces (blockCol (grown (argV m c) (argVn m c)) t) _ (View.PiecesOf.mem ?_) y (View.cover_of_tiledL _ ![1, 128, 128] (by sl_kernel_rfl) y)).trans ?_
  · exact ⟨p 7, p 6, p 5, p 4, p 3, p 2, p 1, p 0, trivial⟩
  · obtain ⟨a, f, p, rfl⟩ : ∃ (a : Fin 8) (b : Fin 128) (d : Fin 128), y = ix3 a b d := ⟨y 0, y 1, y 2, (ix3_eta y).symm⟩
    have e : ((View.whole main_v31_2).slice (win0_10.rect t)).emb (ix3 a f p) = ix3 (row t a) f p := by blk_ext [iblk, V, idx t, row]
    rw [e]
    rfl

end Cert.Kernel6Ideal.Step
-- ==== Proof.StepFinal.lean ====
/-
  The attention the sampling step's kernel leaves is the reference's.
-/
module

public import proofs.«01_k».proof.Proof.StepQuery
public import proofs.«01_k».proof.Proof.StepColumns

@[expose] public section

set_option maxRecDepth 16384

noncomputable section

namespace Cert.Kernel6Ideal.Step

open Cert.Kernel6Ideal Cert.Kernel6Ideal.Gen Idealize.ShloMosaic Idealize.ShloMosaic.TcCoe Cert.Words Cert.Reals
open Cert.Reference6Ideal.Step (grown mixed probs scores sinks grown_apply mixed_apply scores_apply sinks_apply)

theorem eighth : Ideal.ofBits .f32 0x3E000000#32 = ((1 / 8 : ℝ) : EReal) := by
  simp [Ideal.ofBits, Ideal.ieee, -EReal.coe_mul]; norm_num

/-- Of a sum over both key heads' lanes only one key head's count. -/
theorem sum_slot (c : Fin 2) (a b : Fin 128 → EReal) :
    (∑ l : Fin 128, a l * (if c.val = l.val / 64 then 1 else 0) * b l) = ∑ d : Fin 64, a ⟨64 * c.val + d.val, by omega⟩ * b ⟨64 * c.val + d.val, by omega⟩ := by
  simp only [mul_ite, mul_zero, mul_one, ite_mul, zero_mul]
  rw [← Finset.sum_filter]
  refine (Finset.sum_bij (fun (d : Fin 64) _ => (⟨64 * c.val + d.val, by omega⟩ : Fin 128)) ?_ ?_ ?_ ?_).symm
  · intro d _; simp only [Finset.mem_filter, Finset.mem_univ, true_and]; omega
  · intro d _ d' _ h
    have := congrArg Fin.val h
    exact Fin.ext (by dsimp only at this; omega)
  · intro l hl
    have hl := (Finset.mem_filter.1 hl).2
    exact ⟨⟨l.val % 64, by omega⟩, Finset.mem_univ _, Fin.ext (by dsimp only; omega)⟩
  · intro d _; rfl

/-- A row of scaled and spread queries against a row of keys. -/
theorem sum_eighth (c : Fin 2) (q : Fin 64 → EReal) (k : Fin 128 → EReal) :
    (∑ l : Fin 128, q ⟨l.val % 64, by omega⟩ * Ideal.ofBits .f32 0x3E000000#32 * (if c.val = l.val / 64 then 1 else 0) * k l)
      = (∑ d : Fin 64, k ⟨64 * c.val + d.val, by omega⟩ * q d) * Ideal.ofBits .f32 0x3E000000#32 := by
  rw [sum_slot c (fun l => q ⟨l.val % 64, by omega⟩ * Ideal.ofBits .f32 0x3E000000#32) k,
    sum_mul_of_nonneg _ _ (by rw [eighth]; exact EReal.coe_nonneg.mpr (by norm_num)) (by rw [eighth]; exact EReal.coe_ne_top _)]
  refine Finset.sum_congr rfl fun d _ => ?_
  have e : (⟨(64 * c.val + d.val) % 64, by omega⟩ : Fin 64) = d := Fin.ext (by dsimp only; omega)
  simp only [e]
  rw [mul_comm (k _), mul_right_comm]

variable (m : (ℓ : Loc nD τ sig) → Buf (Elt Ideal) ℓ) (c : Dev nD)

theorem inb_q (k : Fin 8) : ∀ a, (![k.val, 0, 0] : Fin 3 → ℕ) a + S1x16x128.size a ≤ S8x16x128.size a := by
  revert k; decide

theorem inb_new (k : Fin 8) : ∀ a, (![k.val, 0, 0] : Fin 3 → ℕ) a + S1x1x128.size a ≤ S8x1x128.size a := by
  revert k; decide

theorem inb_o (k : Fin 8) : ∀ a, (![k.val, 0, 0] : Fin 3 → ℕ) a + S1x16x64.size a ≤ S8x16x64.size a := by
  revert k; decide

/-- Sample `k` of the eight of a block of queries. -/
abbrev rectQ (k : Fin 8) : Rect S8x16x128 := Rect.unit (s := S8x16x128) ![k.val, 0, 0] S1x16x128.size (inb_q k)

/-- Sample `k` of the eight of a block of new keys or values. -/
abbrev rectNew (k : Fin 8) : Rect S8x1x128 := Rect.unit (s := S8x1x128) ![k.val, 0, 0] S1x1x128.size (inb_new k)

/-- Sample `k` of the eight of a block of attention. -/
abbrev rectO (k : Fin 8) : Rect S8x16x64 := Rect.unit (s := S8x16x64) ![k.val, 0, 0] S1x16x64.size (inb_o k)

theorem ld_q (x : Vec Ideal S8x16x128 .bf16) (k : Fin 8) (h : Fin 16) (l : Fin 128) :
    (View.ld x (rectQ k) : Vec Ideal S1x16x128 .bf16) (ix3 0 h l) = x (ix3 k h l) := by
  refine congrArg x (funext fun a => ?_)
  fin_cases a
  · exact Fin.ext (by show k.val + 1 * 0 = k.val; omega)
  · exact Fin.ext (by show 0 + 1 * h.val = h.val; omega)
  · exact Fin.ext (by show 0 + 1 * l.val = l.val; omega)

theorem ld_new (x : Vec Ideal S8x1x128 .f32) (k : Fin 8) (l : Fin 128) :
    (View.ld x (rectNew k) : Vec Ideal S1x1x128 .f32) (ix3 0 0 l) = x (ix3 k 0 l) := by
  refine congrArg x (funext fun a => ?_)
  fin_cases a
  · exact Fin.ext (by show k.val + 1 * 0 = k.val; omega)
  · rfl
  · exact Fin.ext (by show 0 + 1 * l.val = l.val; omega)

/-- Sample `k` of an instance's block of attention, as the kernel computes it. -/
abbrev sample (t : Fin cfg0.N) (k : Fin 8) : FVec Ideal S1x16x64 .f32 :=
  stored (iblk m c 7 t) (View.ld (iblk m c 0 t) (rectQ k)) (View.ld (iblk m c 1 t) (rectCol k)) (View.ld (iblk m c 2 t) (rectCol k))
    (View.ld (iblk m c 3 t) (rectNew k)) (View.ld (iblk m c 4 t) (rectNew k))

/-- The reference's attention, of the kernel's arguments. -/
def whole : FVec Ideal Cert.Reference6Ideal.S128x16x64 .f32 :=
  mixed (grown (argV m c) (argVn m c)) (probs (scores (argQ m c) (grown (argK m c) (argKn m c))) (sinks (argS m c)))

theorem score_at (t : Fin cfg0.N) (k : Fin 8) (h : Fin 16) (j : Fin 129) :
    score (View.ld (iblk m c 0 t) (rectQ k)) (View.ld (iblk m c 1 t) (rectCol k)) (View.ld (iblk m c 3 t) (rectNew k)) h j
      = scores (argQ m c) (grown (argK m c) (argKn m c)) (ix5 (row t k) ⟨h.val / 8, by omega⟩ ⟨h.val % 8, by omega⟩ 0 j) := by
  refine Eq.trans ?_ (scores_apply _ _ _ _ _ _).symm
  have eh : (⟨h.val / 8 * 8 + h.val % 8, by omega⟩ : Fin 16) = h := Fin.ext (by dsimp only; omega)
  rw [eh]
  have ek : ∀ d : Fin 64, (⟨(64 * (h.val / 8) + d.val) / 64, by omega⟩ : Fin 2) = ⟨h.val / 8, by omega⟩ := fun d => Fin.ext (by dsimp only; omega)
  have el : ∀ d : Fin 64, (⟨(64 * (h.val / 8) + d.val) % 64, by omega⟩ : Fin 64) = d := fun d => Fin.ext (by dsimp only; omega)
  unfold score
  by_cases hj : j.val < 128
  · refine (dif_pos hj).trans ?_
    refine (Finset.sum_congr rfl fun l _ => congr (congrArg HMul.hMul ((ld_q _ k h l).trans (q_at m c t k h l)))
      ((ld_col _ k l ⟨j.val, hj⟩).trans (k_at m c t k l ⟨j.val, hj⟩))).trans ?_
    refine (sum_eighth ⟨h.val / 8, by omega⟩ (fun d => argQ m c (ix4 (row t k) 0 h d))
      (fun l => argK m c (ix4 (row t k) ⟨j.val, hj⟩ ⟨l.val / 64, by omega⟩ ⟨l.val % 64, by omega⟩))).trans ?_
    refine congrArg (· * _) (Finset.sum_congr rfl fun d _ => congrArg (· * _) ?_)
    refine Eq.trans ?_ ((grown_apply _ _ _ _ _ _).trans (dif_pos hj)).symm
    exact congrArg₂ (fun z w => argK m c (ix4 (row t k) ⟨j.val, hj⟩ z w)) (ek d) (el d)
  · refine (dif_neg hj).trans ?_
    refine (Finset.sum_congr rfl fun l _ => congr (congrArg HMul.hMul ((ld_q _ k h l).trans (q_at m c t k h l)))
      ((ld_new _ k l).trans (kn_at m c t k l))).trans ?_
    refine (sum_eighth ⟨h.val / 8, by omega⟩ (fun d => argQ m c (ix4 (row t k) 0 h d))
      (fun l => argKn m c (ix4 (row t k) 0 ⟨l.val / 64, by omega⟩ ⟨l.val % 64, by omega⟩))).trans ?_
    refine congrArg (· * _) (Finset.sum_congr rfl fun d _ => congrArg (· * _) ?_)
    refine Eq.trans ?_ ((grown_apply _ _ _ _ _ _).trans (dif_neg hj)).symm
    exact congrArg₂ (fun z w => argKn m c (ix4 (row t k) 0 z w)) (ek d) (el d)

theorem value_at (t : Fin cfg0.N) (k : Fin 8) (h : Fin 16) (d : Fin 64) (j : Fin 129) :
    value (View.ld (iblk m c 2 t) (rectCol k)) (View.ld (iblk m c 4 t) (rectNew k)) ⟨64 * (h.val / 8) + d.val, by omega⟩ j
      = grown (argV m c) (argVn m c) (ix4 (row t k) j ⟨h.val / 8, by omega⟩ d) := by
  refine Eq.trans ?_ (grown_apply _ _ _ _ _ _).symm
  have ek : (⟨(64 * (h.val / 8) + d.val) / 64, by omega⟩ : Fin 2) = ⟨h.val / 8, by omega⟩ := Fin.ext (by dsimp only; omega)
  have el : (⟨(64 * (h.val / 8) + d.val) % 64, by omega⟩ : Fin 64) = d := Fin.ext (by dsimp only; omega)
  unfold value
  by_cases hj : j.val < 128
  · refine (dif_pos hj).trans (Eq.trans ?_ (dif_pos hj).symm)
    refine ((ld_col _ k _ _).trans (v_at m c t k _ _)).trans ?_
    exact congrArg₂ (fun z w => argV m c (ix4 (row t k) ⟨j.val, hj⟩ z w)) ek el
  · refine (dif_neg hj).trans (Eq.trans ?_ (dif_neg hj).symm)
    refine ((ld_new _ k _).trans (vn_at m c t k _)).trans ?_
    exact congrArg₂ (fun z w => argVn m c (ix4 (row t k) 0 z w)) ek el

theorem sample_at (t : Fin cfg0.N) (k : Fin 8) (h : Fin 16) (d : Fin 64) : sample m c t k (ix3 0 h d) = whole m c (ix3 (row t k) h d) := by
  unfold sample whole
  rw [stored_apply, mixed_apply, s_at, sinks_apply]
  have es : argS m c (ix2 0 ⟨h.val / 8 * 8 + h.val % 8, by omega⟩) = argS m c (ix2 0 h) :=
    congrArg (fun z => argS m c (ix2 0 z)) (Fin.ext (by dsimp only; omega))
  refine (congr (congr (congrArg attn (funext fun j => score_at m c t k h j)) (funext fun j => value_at m c t k h d j)) es.symm)

/-- An instance's block of the attention. -/
def blockO (t : Fin cfg0.N) : FVec Ideal S8x16x64 .f32 := fun z => whole m c (ix3 (row t (z 0)) (z 1) (z 2))

theorem o_piece (t : Fin cfg0.N) (k : Fin 8) (z : (rectO k).shape.Idx) : sample m c t k z = blockO m c t ((rectO k).emb z) := by
  have h0 : (z 0).val < 1 := (z 0).isLt
  have h1 : (z 1).val < 16 := (z 1).isLt
  have h2 : (z 2).val < 64 := (z 2).isLt
  have hz : z = ix3 (0 : Fin 1) (⟨(z 1).val, h1⟩ : Fin 16) (⟨(z 2).val, h2⟩ : Fin 64) := by
    funext a; fin_cases a
    · exact Fin.ext (by show (z 0).val = 0; omega)
    · rfl
    · rfl
  have e0 : ((rectO k).emb z 0).val = k.val := by show k.val + 1 * (z 0).val = _; omega
  have e1 : ((rectO k).emb z 1).val = (z 1).val := by show 0 + 1 * (z 1).val = _; omega
  have e2 : ((rectO k).emb z 2).val = (z 2).val := by show 0 + 1 * (z 2).val = _; omega
  refine (congrArg (sample m c t k) hz).trans ((sample_at m c t k _ _).trans ?_)
  unfold blockO
  exact congrArg (whole m c) (congr (congr (congrArg ix3 (congrArg (row t) (Fin.ext e0.symm))) (Fin.ext e1.symm)) (Fin.ext e2.symm))

theorem final8 : (dats m 0 c).arrAt 8 cfg0.N = whole m c := by
  refine (dats m 0 c).arrAt_eq_of_covers 8 _ (by decide +kernel) fun t _ y => ?_
  blk_simp
  rw [after0_8]
  unfold_out out0_8
  frame_out
  refine (View.canon_apply_of_pieces (blockO m c t) _ (View.PiecesOf.mem ?_) y (View.cover_of_tiledL _ ![1, 16, 64] (by sl_kernel_rfl) y)).trans ?_
  · exact ⟨o_piece m c t 7, o_piece m c t 6, o_piece m c t 5, o_piece m c t 4, o_piece m c t 3, o_piece m c t 2, o_piece m c t 1, o_piece m c t 0, trivial⟩
  · obtain ⟨a, h, d, rfl⟩ : ∃ (a : Fin 8) (b : Fin 16) (d : Fin 64), y = ix3 a b d := ⟨y 0, y 1, y 2, (ix3_eta y).symm⟩
    have e : ((View.whole main_v31_0).slice (win0_8.rect t)).emb (ix3 a h d) = ix3 (row t a) h d := by blk_ext [iblk, V, idx t, row]
    rw [e]
    rfl

end Cert.Kernel6Ideal.Step
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.SwaPre
public import proofs.«01_k».proof.Proof.PostFinal
public import proofs.«01_k».proof.Proof.SampleFinal
public import proofs.«01_k».proof.Proof.PromptFinal
public import proofs.«01_k».proof.Proof.GatedOut
public import proofs.«01_k».proof.Proof.StepFinal
public import Idealize.ShloMosaic.Adequacy
public import Idealize.ShloMosaic.Init

@[expose] public section

noncomputable section

namespace Cert.Proof

open Idealize.ShloMosaic Idealize.SL.Sem Cert.Kernel

/-- The two sliding-window programs agree. -/
theorem swa [Cert.Pre_finite_scores.Facts] : Cert.algebraic_KernelIdeal_ReferenceIdeal_pre_finite_scores := fun m g m' g' hp ha => by
  refine ⟨fun c => Cert.KernelIdeal.Swa.result m c, ?_, ?_⟩
  · refine (θ_run _ _ _).mono (fun r h c => ⟨?_, (h c).2⟩) (Cert.KernelIdeal.Value.run_blocks (F := Ideal) m g)
    exact (h c).1.trans (Cert.KernelIdeal.Swa.final m c (Cert.KernelIdeal.Swa.finite m hp c))
  · refine (θ_run _ _ _).mono (fun r h c => ⟨?_, (h c).2⟩) (Cert.ReferenceIdeal.Value.run (F := Ideal) m' g')
    refine ((h c).1.trans (Cert.ReferenceIdeal.Swa.res_eq m' c)).trans ?_
    obtain ⟨h0, h1, h2, h3, h4, h5, h6⟩ := ha c
    rw [h0, h1, h2, h3, h4, h5, h6]
    rfl

/-- The reference's frame. -/
theorem reference_frame : Cert.quiescent_ReferenceIdeal := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

/-- The two programs of the step between the attentions agree. -/
theorem post : Cert.algebraic_Kernel2Ideal_Reference2Ideal := fun m g m' g' _ ha => by
  refine ⟨fun c => Cert.Reference2Ideal.Post.outH (Cert.Kernel2Ideal.Post.hid m c),
    fun c => Cert.Reference2Ideal.Post.outK (Cert.Kernel2Ideal.Post.kv m c) (Cert.Kernel2Ideal.Post.argKn m c),
    fun c => Cert.Reference2Ideal.Post.outV (Cert.Kernel2Ideal.Post.kv m c),
    fun c => Cert.Reference2Ideal.Post.outQ (Cert.Kernel2Ideal.Post.zb m c) (Cert.Kernel2Ideal.Post.argQn m c),
    fun c => Cert.Reference2Ideal.Post.outG (Cert.Kernel2Ideal.Post.zb m c), ?_, ?_⟩
  · refine (θ_run _ _ _).mono (fun r h c => ⟨?_, ?_, ?_, ?_, ?_, (h c).2.2.2.2.2⟩) (Cert.Kernel2Ideal.Value.run_blocks (F := Ideal) m g)
    · exact (h c).1.trans (Cert.Kernel2Ideal.Post.final13 m c)
    · exact (h c).2.1.trans (Cert.Kernel2Ideal.Post.final14 m c)
    · exact (h c).2.2.1.trans (Cert.Kernel2Ideal.Post.final15 m c)
    · exact (h c).2.2.2.1.trans (Cert.Kernel2Ideal.Post.final16 m c)
    · exact (h c).2.2.2.2.1.trans (Cert.Kernel2Ideal.Post.final17 m c)
  · refine (θ_run _ _ _).mono (fun r h c => ?_) (Cert.Reference2Ideal.Value.run (F := Ideal) m' g')
    have eh : Cert.Reference2Ideal.Post.hid m' c = Cert.Kernel2Ideal.Post.hid m c := by
      obtain ⟨h0, h1, h2, h3, _⟩ := ha c
      unfold Cert.Reference2Ideal.Post.hid
      rw [h0, h1, h2, h3]
      rfl
    have ek : Cert.Reference2Ideal.Post.kv m' c = Cert.Kernel2Ideal.Post.kv m c := by
      obtain ⟨_, _, _, _, h4, h5, _⟩ := ha c
      unfold Cert.Reference2Ideal.Post.kv
      rw [eh, h4, h5]
      rfl
    have ez : Cert.Reference2Ideal.Post.zb m' c = Cert.Kernel2Ideal.Post.zb m c := by
      obtain ⟨_, _, _, _, _, _, _, h7, h8, _⟩ := ha c
      unfold Cert.Reference2Ideal.Post.zb
      rw [eh, h7, h8]
      rfl
    obtain ⟨_, _, _, _, _, _, h6, _, _, h9⟩ := ha c
    refine ⟨?_, ?_, ?_, ?_, ?_, (h c).2.2.2.2.2⟩
    · exact (h c).1.trans (congrArg Cert.Reference2Ideal.Post.outH eh)
    · refine ((h c).2.1.trans (Cert.Reference2Ideal.Post.res_k_eq m' c)).trans ?_
      rw [ek, h6]
    · exact (h c).2.2.1.trans (congrArg Cert.Reference2Ideal.Post.outV ek)
    · refine ((h c).2.2.2.1.trans (Cert.Reference2Ideal.Post.res_q_eq m' c)).trans ?_
      rw [ez, h9]
    · exact (h c).2.2.2.2.1.trans (congrArg Cert.Reference2Ideal.Post.outG ez)

/-- The second reference's frame. -/
theorem reference2_frame : Cert.quiescent_Reference2Ideal := fun m g _ =>
  (θ_run (Cert.Reference2Ideal.defs (F := Ideal)) _ _).mono (fun r h => ⟨fun c => (h c).2.2.2.2.2, sem_eq_zero_of_no_sems (by decide) r.2⟩)
    (Cert.Reference2Ideal.Value.run (F := Ideal) m g)

/-- The two programs of the first layer's projections, for the sample, agree. -/
theorem proj_sample : Cert.algebraic_Kernel3Ideal_Reference3Ideal := fun m g m' g' _ ha => by
  refine ⟨fun c => Cert.Reference3Ideal.Proj.outQ (Cert.Kernel3Ideal.Proj.proj m c) (Cert.Kernel3Ideal.Proj.argQn m c),
    fun c => Cert.Reference3Ideal.Proj.outK (Cert.Kernel3Ideal.Proj.proj m c) (Cert.Kernel3Ideal.Proj.argKn m c),
    fun c => Cert.Reference3Ideal.Proj.outV (Cert.Kernel3Ideal.Proj.proj m c),
    fun c => Cert.Reference3Ideal.Proj.outG (Cert.Kernel3Ideal.Proj.proj m c), ?_, ?_⟩
  · refine (θ_run _ _ _).mono (fun r h c => ⟨?_, ?_, ?_, ?_, (h c).2.2.2.2⟩) (Cert.Kernel3Ideal.Value.run_blocks (F := Ideal) m g)
    · exact (h c).1.trans (Cert.Kernel3Ideal.Proj.final7 m c)
    · exact (h c).2.1.trans (Cert.Kernel3Ideal.Proj.final8 m c)
    · exact (h c).2.2.1.trans (Cert.Kernel3Ideal.Proj.final9 m c)
    · exact (h c).2.2.2.1.trans (Cert.Kernel3Ideal.Proj.final10 m c)
  · refine (θ_run _ _ _).mono (fun r h c => ?_) (Cert.Reference3Ideal.Value.run (F := Ideal) m' g')
    have ez : Cert.Reference3Ideal.Proj.proj m' c = Cert.Kernel3Ideal.Proj.proj m c := by
      obtain ⟨h0, h1, h2, _⟩ := ha c
      unfold Cert.Reference3Ideal.Proj.proj
      rw [h0, h1, h2]
      rfl
    obtain ⟨_, _, _, h3, h4⟩ := ha c
    refine ⟨?_, ?_, ?_, ?_, (h c).2.2.2.2⟩
    · refine ((h c).1.trans (Cert.Reference3Ideal.Proj.res_q_eq m' c)).trans ?_
      rw [ez, h3]
    · refine ((h c).2.1.trans (Cert.Reference3Ideal.Proj.res_k_eq m' c)).trans ?_
      rw [ez, h4]
    · exact (h c).2.2.1.trans (congrArg Cert.Reference3Ideal.Proj.outV ez)
    · exact (h c).2.2.2.1.trans (congrArg Cert.Reference3Ideal.Proj.outG ez)

/-- The third reference's frame. -/
theorem reference3_frame : Cert.quiescent_Reference3Ideal := fun m g _ =>
  (θ_run (Cert.Reference3Ideal.defs (F := Ideal)) _ _).mono (fun r h => ⟨fun c => (h c).2.2.2.2, sem_eq_zero_of_no_sems (by decide) r.2⟩)
    (Cert.Reference3Ideal.Value.run (F := Ideal) m g)

/-- The two programs of the first layer's projections, for the prompt, agree. -/
theorem proj_prompt : Cert.algebraic_Kernel4Ideal_Reference4Ideal := fun m g m' g' _ ha => by
  refine ⟨fun c => Cert.Reference4Ideal.Proj.outK (Cert.Kernel4Ideal.Proj.proj m c) (Cert.Kernel4Ideal.Proj.argKn m c),
    fun c => Cert.Reference4Ideal.Proj.outV (Cert.Kernel4Ideal.Proj.proj m c),
    fun c => Cert.Reference4Ideal.Proj.outG (Cert.Kernel4Ideal.Proj.proj m c), ?_, ?_⟩
  · refine (θ_run _ _ _).mono (fun r h c => ⟨?_, ?_, ?_, (h c).2.2.2.2.2.2⟩) (Cert.Kernel4Ideal.Value.run_blocks (F := Ideal) m g)
    · exact (h c).2.2.2.1.trans (Cert.Kernel4Ideal.Proj.final10 m c)
    · exact (h c).2.2.2.2.1.trans (Cert.Kernel4Ideal.Proj.final11 m c)
    · exact (h c).2.2.2.2.2.1.trans (Cert.Kernel4Ideal.Proj.final12 m c)
  · refine (θ_run _ _ _).mono (fun r h c => ?_) (Cert.Reference4Ideal.Value.run (F := Ideal) m' g')
    have ez : Cert.Reference4Ideal.Proj.proj m' c = Cert.Kernel4Ideal.Proj.proj m c := by
      obtain ⟨h0, h1, h2, _⟩ := ha c
      unfold Cert.Reference4Ideal.Proj.proj
      rw [h0, h1, h2]
      rfl
    obtain ⟨_, _, _, h3, h4⟩ := ha c
    refine ⟨?_, ?_, ?_, (h c).2.2.2⟩
    · refine ((h c).1.trans (Cert.Reference4Ideal.Proj.res_k_eq m' c)).trans ?_
      rw [ez, h4]
    · exact (h c).2.1.trans (congrArg Cert.Reference4Ideal.Proj.outV ez)
    · exact (h c).2.2.1.trans (congrArg Cert.Reference4Ideal.Proj.outG ez)

/-- The fourth reference's frame. -/
theorem reference4_frame : Cert.quiescent_Reference4Ideal := fun m g _ =>
  (θ_run (Cert.Reference4Ideal.defs (F := Ideal)) _ _).mono (fun r h => ⟨fun c => (h c).2.2.2, sem_eq_zero_of_no_sems (by decide) r.2⟩)
    (Cert.Reference4Ideal.Value.run (F := Ideal) m g)

/-- The two programs of the gated output of the sample's second layer agree. -/
theorem gated_out : Cert.algebraic_Kernel5Ideal_Reference5Ideal := fun m g m' g' _ ha => by
  refine ⟨fun c => Cert.Kernel5Ideal.Out.res m c, ?_, ?_⟩
  · refine (θ_run _ _ _).mono (fun r h c => ⟨?_, (h c).2⟩) (Cert.Kernel5Ideal.Value.run_blocks (F := Ideal) m g)
    exact (h c).1.trans (Cert.Kernel5Ideal.Out.final4 m c)
  · refine (θ_run _ _ _).mono (fun r h c => ⟨?_, (h c).2⟩) (Cert.Reference5Ideal.Value.run (F := Ideal) m' g')
    refine (h c).1.trans ?_
    obtain ⟨h0, h1, h2, h3⟩ := ha c
    rw [h0, h1, h2, h3]
    rfl

/-- The fifth reference's frame. -/
theorem reference5_frame : Cert.quiescent_Reference5Ideal := fun m g _ =>
  (θ_run (Cert.Reference5Ideal.defs (F := Ideal)) _ _).mono (fun r h => ⟨fun c => (h c).2, sem_eq_zero_of_no_sems (by decide) r.2⟩)
    (Cert.Reference5Ideal.Value.run (F := Ideal) m g)

/-- The two programs of the sample's sliding-window attention agree. -/
theorem swa_sample : Cert.algebraic_Kernel6Ideal_Reference6Ideal := fun m g m' g' _ ha => by
  refine ⟨fun c => Cert.Kernel6Ideal.Step.whole m c,
    fun c => Cert.Reference6Ideal.Step.columns (Cert.Reference6Ideal.Step.grown (Cert.Kernel6Ideal.Step.argK m c) (Cert.Kernel6Ideal.Step.argKn m c)),
    fun c => Cert.Reference6Ideal.Step.columns (Cert.Reference6Ideal.Step.grown (Cert.Kernel6Ideal.Step.argV m c) (Cert.Kernel6Ideal.Step.argVn m c)), ?_, ?_⟩
  · refine (θ_run _ _ _).mono (fun r h c => ⟨?_, ?_, ?_, (h c).2.2.2⟩) (Cert.Kernel6Ideal.Value.run_blocks (F := Ideal) m g)
    · exact (h c).1.trans (Cert.Kernel6Ideal.Step.final8 m c)
    · exact (h c).2.1.trans (Cert.Kernel6Ideal.Step.final9 m c)
    · exact (h c).2.2.1.trans (Cert.Kernel6Ideal.Step.final10 m c)
  · refine (θ_run _ _ _).mono (fun r h c => ?_) (Cert.Reference6Ideal.Value.run (F := Ideal) m' g')
    obtain ⟨h0, h1, h2, h3, h4, h5⟩ := ha c
    refine ⟨?_, ?_, ?_, (h c).2.2.2⟩
    · refine ((h c).1.trans (Cert.Reference6Ideal.Step.res_eq m' c)).trans ?_
      rw [h0, h1, h2, h3, h4, h5]
      rfl
    · refine (h c).2.1.trans ?_
      rw [h1, h3]
      rfl
    · refine (h c).2.2.1.trans ?_
      rw [h2, h4]
      rfl

/-- The sixth reference's frame. -/
theorem reference6_frame : Cert.quiescent_Reference6Ideal := fun m g _ =>
  (θ_run (Cert.Reference6Ideal.defs (F := Ideal)) _ _).mono (fun r h => ⟨fun c => (h c).2.2.2, sem_eq_zero_of_no_sems (by decide) r.2⟩)
    (Cert.Reference6Ideal.Value.run (F := Ideal) m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite_scores.Gen.facts,
  fun m g _ => Cert.Kernel.Gen.frame m g,
  fun m g _ => Cert.KernelIdeal.Gen.frame m g,
  fun m g _ => Cert.KernelIdeal.Gen.frame m g,
  reference_frame,
  fun m g _ => reference_frame m g trivial,
  fun m g _ => Cert.Kernel2.Gen.frame m g,
  fun m g _ => Cert.Kernel2Ideal.Gen.frame m g,
  reference2_frame,
  fun m g _ => Cert.Kernel3.Gen.frame m g,
  fun m g _ => Cert.Kernel3Ideal.Gen.frame m g,
  reference3_frame,
  fun m g _ => Cert.Kernel4.Gen.frame m g,
  fun m g _ => Cert.Kernel4Ideal.Gen.frame m g,
  reference4_frame,
  fun m g _ => Cert.Kernel5.Gen.frame m g,
  fun m g _ => Cert.Kernel5Ideal.Gen.frame m g,
  reference5_frame,
  fun m g _ => Cert.Kernel6.Gen.frame m g,
  fun m g _ => Cert.Kernel6Ideal.Gen.frame m g,
  reference6_frame,
  IdealRules.named_const.statement _ _ _ _ _ rfl,
  swa,
  trivial,
  post,
  trivial,
  proj_sample,
  trivial,
  proj_prompt,
  trivial,
  gated_out,
  trivial,
  swa_sample⟩

end Cert.Proof

end
